-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_claimed_pre_finite [hKernelIdeal : Cert.KernelIdeal.Facts] [hReferenceIdeal : Cert.ReferenceIdeal.Facts] [hPre_finite : Cert.Pre_finite.Facts] [hOn_claimed : Cert.On_claimed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v149_0)) (v1 : (c : Dev Cert.KernelIdeal.nD) → Buf (Elt Ideal) ((c.tc : Thread Cert.KernelIdeal.nD Cert.KernelIdeal.τ).loc Cert.KernelIdeal.main_v149_1)) (v2 : (c : Dev Cert.KernelIdeal.nD) → Buf (Elt Ideal) ((c.tc : Thread Cert.KernelIdeal.nD Cert.KernelIdeal.τ).loc Cert.KernelIdeal.main_v149_2)) (v3 : (c : Dev Cert.KernelIdeal.nD) → Buf (Elt Ideal) ((c.tc : Thread Cert.KernelIdeal.nD Cert.KernelIdeal.τ).loc Cert.KernelIdeal.main_v149_3)) (v4 : (c : Dev Cert.KernelIdeal.nD) → Buf (Elt Ideal) ((c.tc : Thread Cert.KernelIdeal.nD Cert.KernelIdeal.τ).loc Cert.KernelIdeal.main_v149_4)) (v5 : (c : Dev Cert.KernelIdeal.nD) → Buf (Elt Ideal) ((c.tc : Thread Cert.KernelIdeal.nD Cert.KernelIdeal.τ).loc Cert.KernelIdeal.main_v149_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 1536]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v149_0) i = v0 c i)
          ∧ (∀ i : (⟨2, ![8192, 1536]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v149_1) i = v1 c i)
          ∧ (∀ i : (⟨2, ![8192, 1536]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v149_2) i = v2 c i)
          ∧ (∀ i : (⟨3, ![8, 128, 256]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v149_3) i = v3 c i)
          ∧ (∀ i : (⟨2, ![1, 64]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.KernelIdeal.nD Cert.KernelIdeal.τ).loc Cert.KernelIdeal.main_v149_4) i = v4 c i)
          ∧ (∀ i : (⟨2, ![1, 64]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 i = 1#1 → r.2.mem ((c.tc : Thread Cert.KernelIdeal.nD Cert.KernelIdeal.τ).loc Cert.KernelIdeal.main_v149_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 1536]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v291) i = v0 c i)
          ∧ (∀ i : (⟨2, ![8192, 1536]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v294) i = v1 c i)
          ∧ (∀ i : (⟨2, ![8192, 1536]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v297) i = v2 c i)
          ∧ (∀ i : (⟨3, ![8, 128, 256]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v225) i = v3 c i)
          ∧ (∀ i : (⟨2, ![1, 64]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.ReferenceIdeal.nD Cert.ReferenceIdeal.τ).loc Cert.ReferenceIdeal.main_v274) i = v4 c i)
          ∧ (∀ i : (⟨2, ![1, 64]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 i = 1#1 → r.2.mem ((c.tc : Thread Cert.ReferenceIdeal.nD Cert.ReferenceIdeal.τ).loc Cert.ReferenceIdeal.main_v251) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_v9) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hOn_claimed : Cert.On_claimed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_on_claimed_pre_finite (hKernelIdeal := hKernelIdeal) (hReferenceIdeal := hReferenceIdeal) (hPre_finite := hPre_finite) (hOn_claimed := hOn_claimed)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== On_claimed.lean ====
abbrev S8192x4608 : Shape := ⟨2, ![8192, 4608]⟩
abbrev S8192x512 : Shape := ⟨2, ![8192, 512]⟩
abbrev S8x128x256 : Shape := ⟨3, ![8, 128, 256]⟩
abbrev S1x64 : Shape := ⟨2, ![1, 64]⟩
abbrev S8192x8x64 : Shape := ⟨3, ![8192, 8, 64]⟩
abbrev S8192x8 : Shape := ⟨2, ![8192, 8]⟩
abbrev S1536 : Shape := ⟨1, ![1536]⟩
abbrev S1x1536 : Shape := ⟨2, ![1, 1536]⟩
abbrev S_ : Shape := ⟨0, ![]⟩
abbrev S8192x1 : Shape := ⟨2, ![8192, 1]⟩
abbrev S8192x1536 : Shape := ⟨2, ![8192, 1536]⟩

class Facts : Prop where
  bcast_S1536_S1x1536_1 : S1536.BroadcastsInDim S1x1536 (![1] : Fin 1 → Fin S1x1536.rank)
  bcast_S_S1x1536 : S_.BroadcastsInDim S1x1536 (![] : Fin 0 → Fin S1x1536.rank)
  bcast_S_S8192x1 : S_.BroadcastsInDim S8192x1 (![] : Fin 0 → Fin S8192x1.rank)
  bcast_S1x1536_S8192x1536_0_1 : S1x1536.BroadcastsInDim S8192x1536 (![0, 1] : Fin 2 → Fin S8192x1536.rank)
  bcast_S8192x1_S8192x1536_0_1 : S8192x1.BroadcastsInDim S8192x1536 (![0, 1] : Fin 2 → Fin S8192x1536.rank)
  bcast_S_S1x64 : S_.BroadcastsInDim S1x64 (![] : Fin 0 → Fin S1x64.rank)
  bcast_S_S8x128x256 : S_.BroadcastsInDim S8x128x256 (![] : Fin 0 → Fin S8x128x256.rank)

variable [Facts]

def fn {F : FTy → Type} [FloatOps F] (main_arg0 : FVec F S8192x4608 .f32) (main_arg1 : FVec F S8192x512 .f32) (main_arg2 : FVec F S8x128x256 .f32) (main_arg3 : FVec F S1x64 .f32) (main_arg4 : FVec F S1x64 .f32) (main_arg5 : FVec F S8192x8x64 .f32) (main_arg6 : FVec F S8192x8 .f32) (main_arg7 : FVec F S8192x8x64 .f32) (main_arg8 : FVec F S8192x8 .f32) : IVec S8192x1536 1 × IVec S8192x1536 1 × IVec S8192x1536 1 × IVec S8x128x256 1 × IVec S1x64 1 × IVec S1x64 1 :=
  let main_v0 : IVec S1536 32 := iotaInDim S1536 32 0
  let main_v1 : IVec S1x1536 32 := broadcastInDim S1x1536 ![1] bcast_S1536_S1x1536_1 main_v0
  let main_c : IVec S_ 32 := constantI S_ 32 512#32
  let main_v2 : IVec S1x1536 32 := broadcastInDim S1x1536 ![] bcast_S_S1x1536 main_c
  let main_v3 : IVec S1x1536 1 := cmpi .slt main_v1 main_v2
  let main_c_0 : IVec S_ 1 := constantI S_ 1 1#1
  let main_v4 : IVec S8192x1 1 := broadcastInDim S8192x1 ![] bcast_S_S8192x1 main_c_0
  let main_v5 : IVec S8192x1536 1 := broadcastInDim S8192x1536 ![0, 1] bcast_S1x1536_S8192x1536_0_1 main_v3
  let main_v6 : IVec S8192x1536 1 := broadcastInDim S8192x1536 ![0, 1] bcast_S8192x1_S8192x1536_0_1 main_v4
  let main_v7 : IVec S8192x1536 1 := andi main_v5 main_v6
  let main_c_1 : IVec S_ 1 := constantI S_ 1 1#1
  let main_v8 : IVec S1x64 1 := broadcastInDim S1x64 ![] bcast_S_S1x64 main_c_1
  let main_c_2 : IVec S_ 1 := constantI S_ 1 1#1
  let main_v9 : IVec S8x128x256 1 := broadcastInDim S8x128x256 ![] bcast_S_S8x128x256 main_c_2
  (main_v7, main_v7, main_v7, main_v9, main_v8, main_v8)
-- ==== Pre_finite.lean ====
abbrev S8192x4608 : Shape := ⟨2, ![8192, 4608]⟩
abbrev S8192x512 : Shape := ⟨2, ![8192, 512]⟩
abbrev S8x128x256 : Shape := ⟨3, ![8, 128, 256]⟩
abbrev S1x64 : Shape := ⟨2, ![1, 64]⟩
abbrev S8192x8x64 : Shape := ⟨3, ![8192, 8, 64]⟩
abbrev S8192x8 : Shape := ⟨2, ![8192, 8]⟩
abbrev S_ : Shape := ⟨0, ![]⟩

class Facts : Prop where
  bcast_S_S8192x4608 : S_.BroadcastsInDim S8192x4608 (![] : Fin 0 → Fin S8192x4608.rank)
  reducesTo_S8192x4608_S_d0_1 : S8192x4608.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8x128x256 : S_.BroadcastsInDim S8x128x256 (![] : Fin 0 → Fin S8x128x256.rank)
  reducesTo_S8x128x256_S_d0_1_2 : S8x128x256.ReducesTo [0, 1, 2] S_
  bcast_S_S1x64 : S_.BroadcastsInDim S1x64 (![] : Fin 0 → Fin S1x64.rank)
  reducesTo_S1x64_S_d0_1 : S1x64.ReducesTo [0, 1] S_
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x8 : S_.BroadcastsInDim S8192x8 (![] : Fin 0 → Fin S8192x8.rank)
  reducesTo_S8192x8_S_d0_1 : S8192x8.ReducesTo [0, 1] S_

variable [Facts]

def fn_part2 {F : FTy → Type} [FloatOps F] (main_arg7 : FVec F S8192x8x64 .f32) (main_arg8 : FVec F S8192x8 .f32) (main_v33 : IVec S_ 1) : IVec S_ 1 :=
  let main_v34 : FVec F S8192x8x64 .f32 := Host.absf main_arg7
  let main_cst_12 : FVec F S_ .f32 := constant S_ .f32 0x7F800000#32
  let main_v35 : FVec F S8192x8x64 .f32 := broadcastInDim S8192x8x64 ![] bcast_S_S8192x8x64 main_cst_12
  let main_v36 : IVec S8192x8x64 1 := cmpf .olt main_v34 main_v35
  let main_c_13 : IVec S_ 1 := constantI S_ 1 1#1
  let main_v37 : IVec S_ 1 := (fun x v => Host.reduce IntOp.andi x v reducesTo_S8192x8x64_S_d0_1_2 h_S_) main_v36 main_c_13
  let main_v38 : IVec S_ 1 := andi main_v33 main_v37
  let main_v39 : FVec F S8192x8 .f32 := Host.absf main_arg8
  let main_cst_14 : FVec F S_ .f32 := constant S_ .f32 0x7F800000#32
  let main_v40 : FVec F S8192x8 .f32 := broadcastInDim S8192x8 ![] bcast_S_S8192x8 main_cst_14
  let main_v41 : IVec S8192x8 1 := cmpf .olt main_v39 main_v40
  let main_c_15 : IVec S_ 1 := constantI S_ 1 1#1
  let main_v42 : IVec S_ 1 := (fun x v => Host.reduce IntOp.andi x v reducesTo_S8192x8_S_d0_1 h_S_) main_v41 main_c_15
  let main_v43 : IVec S_ 1 := andi main_v38 main_v42
  main_v43

def fn_part1 {F : FTy → Type} [FloatOps F] (main_arg4 : FVec F S1x64 .f32) (main_arg5 : FVec F S8192x8x64 .f32) (main_arg6 : FVec F S8192x8 .f32) (main_arg7 : FVec F S8192x8x64 .f32) (main_arg8 : FVec F S8192x8 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S8192x8x64 .f32 := Host.absf main_arg5
  let main_cst_8 : FVec F S_ .f32 := constant S_ .f32 0x7F800000#32
  let main_v25 : FVec F S8192x8x64 .f32 := broadcastInDim S8192x8x64 ![] bcast_S_S8192x8x64 main_cst_8
  let main_v26 : IVec S8192x8x64 1 := cmpf .olt main_v24 main_v25
  let main_c_9 : IVec S_ 1 := constantI S_ 1 1#1
  let main_v27 : IVec S_ 1 := (fun x v => Host.reduce IntOp.andi x v reducesTo_S8192x8x64_S_d0_1_2 h_S_) main_v26 main_c_9
  let main_v28 : IVec S_ 1 := andi main_v23 main_v27
  let main_v29 : FVec F S8192x8 .f32 := Host.absf main_arg6
  let main_cst_10 : FVec F S_ .f32 := constant S_ .f32 0x7F800000#32
  let main_v30 : FVec F S8192x8 .f32 := broadcastInDim S8192x8 ![] bcast_S_S8192x8 main_cst_10
  let main_v31 : IVec S8192x8 1 := cmpf .olt main_v29 main_v30
  let main_c_11 : IVec S_ 1 := constantI S_ 1 1#1
  let main_v32 : IVec S_ 1 := (fun x v => Host.reduce IntOp.andi x v reducesTo_S8192x8_S_d0_1 h_S_) main_v31 main_c_11
  let main_v33 : IVec S_ 1 := andi main_v28 main_v32
  fn_part2 (F := F) main_arg7 main_arg8 main_v33

def fn {F : FTy → Type} [FloatOps F] (main_arg0 : FVec F S8192x4608 .f32) (main_arg1 : FVec F S8192x512 .f32) (main_arg2 : FVec F S8x128x256 .f32) (main_arg3 : FVec F S1x64 .f32) (main_arg4 : FVec F S1x64 .f32) (main_arg5 : FVec F S8192x8x64 .f32) (main_arg6 : FVec F S8192x8 .f32) (main_arg7 : FVec F S8192x8x64 .f32) (main_arg8 : FVec F S8192x8 .f32) : IVec S_ 1 :=
  let main_v0 : FVec F S8192x4608 .f32 := Host.absf main_arg0
  let main_cst : FVec F S_ .f32 := constant S_ .f32 0x7F800000#32
  let main_v1 : FVec F S8192x4608 .f32 := broadcastInDim S8192x4608 ![] bcast_S_S8192x4608 main_cst
  let main_v2 : IVec S8192x4608 1 := cmpf .olt main_v0 main_v1
  let main_c : IVec S_ 1 := constantI S_ 1 1#1
  let main_v3 : IVec S_ 1 := (fun x v => Host.reduce IntOp.andi x v reducesTo_S8192x4608_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8x128x256 .f32 := Host.absf main_arg2
  let main_cst_2 : FVec F S_ .f32 := constant S_ .f32 0x7F800000#32
  let main_v10 : FVec F S8x128x256 .f32 := broadcastInDim S8x128x256 ![] bcast_S_S8x128x256 main_cst_2
  let main_v11 : IVec S8x128x256 1 := cmpf .olt main_v9 main_v10
  let main_c_3 : IVec S_ 1 := constantI S_ 1 1#1
  let main_v12 : IVec S_ 1 := (fun x v => Host.reduce IntOp.andi x v reducesTo_S8x128x256_S_d0_1_2 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_v13 main_v16
-- ==== Pre_finite2.lean ====
abbrev S8192x1024 : Shape := ⟨2, ![8192, 1024]⟩
abbrev S2816x1024 : Shape := ⟨2, ![2816, 1024]⟩
abbrev S1x1024 : Shape := ⟨2, ![1, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg4 : FVec F S8192x2816 .bf16) (main_v14 : IVec S_ 1) (main_v16 : FVec F S8192x2816 .f32) (main_cst_4 : FVec F S_ .f32) : IVec S_ 1 :=
  let main_v17 : FVec F S8192x2816 .f32 := broadcastInDim S8192x2816 ![] bcast_S_S8192x2816 main_cst_4
  let main_v18 : IVec S8192x2816 1 := cmpf .olt main_v16 main_v17
  let main_c_5 : IVec S_ 1 := constantI S_ 1 1#1
  let main_v19 : IVec S_ 1 := (fun x v => Host.reduce IntOp.andi x v reducesTo_S8192x2816_S_d0_1 h_S_) main_v18 main_c_5
  let main_v20 : IVec S_ 1 := andi main_v14 main_v19
  let main_v21 : FVec F S8192x2816 .f32 := (extf .f32 · bitsLt_bf16_f32) main_arg4
  let main_v22 : FVec F S8192x2816 .f32 := Host.absf main_v21
  let main_cst_6 : FVec F S_ .f32 := constant S_ .f32 0x7F800000#32
  let main_v23 : FVec F S8192x2816 .f32 := broadcastInDim S8192x2816 ![] bcast_S_S8192x2816 main_cst_6
  let main_v24 : IVec S8192x2816 1 := cmpf .olt main_v22 main_v23
  let main_c_7 : IVec S_ 1 := constantI S_ 1 1#1
  let main_v25 : IVec S_ 1 := (fun x v => Host.reduce IntOp.andi x v reducesTo_S8192x2816_S_d0_1 h_S_) main_v24 main_c_7
  let main_v26 : IVec S_ 1 := andi main_v20 main_v25
  main_v26

def fn {F : FTy → Type} [FloatOps F] (main_arg0 : FVec F S8192x1024 .f32) (main_arg1 : FVec F S2816x1024 .bf16) (main_arg2 : FVec F S1x1024 .f32) (main_arg3 : FVec F S8192x2816 .bf16) (main_arg4 : FVec F S8192x2816 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S8192x2816 .f32 := (extf .f32 · bitsLt_bf16_f32) main_arg3
  let main_v16 : FVec F S8192x2816 .f32 := Host.absf main_v15
  let main_cst_4 : FVec F S_ .f32 := constant S_ .f32 0x7F800000#32
  fn_part1 (F := F) main_arg4 main_v14 main_v16 main_cst_4
-- ==== Kernel.lean ====
abbrev S8192x4608 : Shape := ⟨2, ![8192, 4608]⟩
abbrev S8192x512 : Shape := ⟨2, ![8192, 512]⟩
abbrev S8x128x256 : Shape := ⟨3, ![8, 128, 256]⟩
abbrev S1x64 : Shape := ⟨2, ![1, 64]⟩
abbrev S8192x8x64 : Shape := ⟨3, ![8192, 8, 64]⟩
abbrev S8192x8 : Shape := ⟨2, ![8192, 8]⟩
abbrev S_ : Shape := ⟨0, ![]⟩
abbrev S8192x8x1 : Shape := ⟨3, ![8192, 8, 1]⟩
abbrev S1x1x64 : Shape := ⟨3, ![1, 1, 64]⟩
abbrev S64x128x8x64 : Shape := ⟨4, ![64, 128, 8, 64]⟩
abbrev S1x128x8x64 : Shape := ⟨4, ![1, 128, 8, 64]⟩
abbrev S63x128x8x64 : Shape := ⟨4, ![63, 128, 8, 64]⟩
abbrev S64x256x8x64 : Shape := ⟨4, ![64, 256, 8, 64]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S1x128x256 : Shape := ⟨3, ![1, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S64x128x256 : Shape := ⟨3, ![64, 128, 256]⟩
abbrev S64x8x128x256 : Shape := ⟨4, ![64, 8, 128, 256]⟩
abbrev S1x8x128x256 : Shape := ⟨4, ![1, 8, 128, 256]⟩
abbrev S64x1x128x256 : Shape := ⟨4, ![64, 1, 128, 256]⟩
abbrev S64x8x128 : Shape := ⟨3, ![64, 8, 128]⟩
abbrev S64x8x128x1 : Shape := ⟨4, ![64, 8, 128, 1]⟩
abbrev S64x8x64x128 : Shape := ⟨4, ![64, 8, 64, 128]⟩
abbrev S64x128x8 : Shape := ⟨3, ![64, 128, 8]⟩
abbrev S1x1x1x64 : Shape := ⟨4, ![1, 1, 1, 64]⟩
abbrev S1x1x2x64 : Shape := ⟨4, ![1, 1, 2, 64]⟩
abbrev S1x128 : Shape := ⟨2, ![1, 128]⟩
abbrev S8192x1536 : Shape := ⟨2, ![8192, 1536]⟩
abbrev S1024x128 : Shape := ⟨2, ![1024, 128]⟩
abbrev S128x128 : Shape := ⟨2, ![128, 128]⟩
abbrev S2x128x256 : Shape := ⟨3, ![2, 128, 256]⟩
abbrev S256x128 : Shape := ⟨2, ![256, 128]⟩
abbrev S1x128x128 : Shape := ⟨3, ![1, 128, 128]⟩

abbrev nBuf : Space → Nat
  | .hbm => 191
  | .vmem => 38
  | .smem => 0
  | _ => 0

abbrev hbmTy0_0 (i : Nat) : BufTy := match i % 128 with
  | 0 => ⟨S8192x4608, .f32⟩
  | 1 => ⟨S8192x512, .f32⟩
  | 2 => ⟨S8x128x256, .f32⟩
  | 3 => ⟨S1x64, .f32⟩
  | 4 => ⟨S1x64, .f32⟩
  | 5 => ⟨S8192x8x64, .f32⟩
  | 6 => ⟨S8192x8, .f32⟩
  | 7 => ⟨S8192x8x64, .f32⟩
  | 8 => ⟨S8192x8, .f32⟩
  | 9 => ⟨S8192x512, .f32⟩
  | 10 => ⟨S8192x8x64, .f32⟩
  | 11 => ⟨S8192x512, .f32⟩
  | 12 => ⟨S8192x8x64, .f32⟩
  | 13 => ⟨S8192x512, .f32⟩
  | 14 => ⟨S8192x8x64, .f32⟩
  | 15 => ⟨S8192x8x64, .f32⟩
  | 16 => ⟨S_, .f32⟩
  | 17 => ⟨S8192x8, .f32⟩
  | 18 => ⟨S8192x8x1, .f32⟩
  | 19 => ⟨S_, .f32⟩
  | 20 => ⟨S8192x8x1, .f32⟩
  | 21 => ⟨S8192x8x1, .f32⟩
  | 22 => ⟨S_, .f32⟩
  | 23 => ⟨S8192x8x1, .f32⟩
  | 24 => ⟨S8192x8x1, .f32⟩
  | 25 => ⟨S8192x8x1, .f32⟩
  | 26 => ⟨S8192x8x64, .f32⟩
  | 27 => ⟨S8192x8x64, .f32⟩
  | 28 => ⟨S1x1x64, .f32⟩
  | 29 => ⟨S8192x8x64, .f32⟩
  | 30 => ⟨S8192x8x64, .f32⟩
  | 31 => ⟨S_, .f32⟩
  | 32 => ⟨S8192x8x64, .f32⟩
  | 33 => ⟨S8192x8x64, .f32⟩
  | 34 => ⟨S8192x8x64, .f32⟩
  | 35 => ⟨S_, .f32⟩
  | 36 => ⟨S8192x8, .f32⟩
  | 37 => ⟨S8192x8x1, .f32⟩
  | 38 => ⟨S_, .f32⟩
  | 39 => ⟨S8192x8x1, .f32⟩
  | 40 => ⟨S8192x8x1, .f32⟩
  | 41 => ⟨S_, .f32⟩
  | 42 => ⟨S8192x8x1, .f32⟩
  | 43 => ⟨S8192x8x1, .f32⟩
  | 44 => ⟨S8192x8x1, .f32⟩
  | 45 => ⟨S8192x8x64, .f32⟩
  | 46 => ⟨S8192x8x64, .f32⟩
  | 47 => ⟨S1x1x64, .f32⟩
  | 48 => ⟨S8192x8x64, .f32⟩
  | 49 => ⟨S8192x8x64, .f32⟩
  | 50 => ⟨S64x128x8x64, .f32⟩
  | 51 => ⟨S64x128x8x64, .f32⟩
  | 52 => ⟨S64x128x8x64, .f32⟩
  | 53 => ⟨S1x128x8x64, .f32⟩
  | 54 => ⟨S_, .f32⟩
  | 55 => ⟨S1x128x8x64, .f32⟩
  | 56 => ⟨S63x128x8x64, .f32⟩
  | 57 => ⟨S64x128x8x64, .f32⟩
  | 58 => ⟨S64x256x8x64, .f32⟩
  | 59 => ⟨S1x128x8x64, .f32⟩
  | 60 => ⟨S_, .f32⟩
  | 61 => ⟨S1x128x8x64, .f32⟩
  | 62 => ⟨S63x128x8x64, .f32⟩
  | 63 => ⟨S64x128x8x64, .f32⟩
  | 64 => ⟨S64x256x8x64, .f32⟩
  | 65 => ⟨S256, .i32⟩
  | 66 => ⟨S1x256, .i32⟩
  | 67 => ⟨S128, .i32⟩
  | 68 => ⟨S128x1, .i32⟩
  | 69 => ⟨S_, .i32⟩
  | 70 => ⟨S128x1, .i32⟩
  | 71 => ⟨S128x1, .i32⟩
  | 72 => ⟨S128x256, .i32⟩
  | 73 => ⟨S128x256, .i32⟩
  | 74 => ⟨S128x256, .i32⟩
  | 75 => ⟨S_, .i32⟩
  | 76 => ⟨S128x256, .i32⟩
  | 77 => ⟨S128x256, .i1⟩
  | 78 => ⟨S_, .i32⟩
  | 79 => ⟨S128x256, .i32⟩
  | 80 => ⟨S128x256, .i1⟩
  | 81 => ⟨S128x256, .i1⟩
  | 82 => ⟨S1x128x256, .i1⟩
  | 83 => ⟨S64, .i32⟩
  | 84 => ⟨S_, .i32⟩
  | 85 => ⟨S64, .i32⟩
  | 86 => ⟨S64, .i1⟩
  | 87 => ⟨S64x1x1, .i1⟩
  | 88 => ⟨S_, .i32⟩
  | 89 => ⟨S1x256, .i32⟩
  | 90 => ⟨S1x256, .i1⟩
  | 91 => ⟨S1x1x256, .i1⟩
  | 92 => ⟨S64x1x256, .i1⟩
  | 93 => ⟨S64x1x256, .i1⟩
  | 94 => ⟨S64x1x256, .i1⟩
  | 95 => ⟨S64x128x256, .i1⟩
  | 96 => ⟨S64x128x256, .i1⟩
  | 97 => ⟨S64x128x256, .i1⟩
  | 98 => ⟨S64x8x128x256, .f32⟩
  | 99 => ⟨S1x8x128x256, .f32⟩
  | 100 => ⟨S64x8x128x256, .f32⟩
  | 101 => ⟨S64x8x128x256, .f32⟩
  | 102 => ⟨S64x1x128x256, .i1⟩
  | 103 => ⟨S_, .f32⟩
  | 104 => ⟨S_, .f32⟩
  | 105 => ⟨S64x8x128x256, .i1⟩
  | 106 => ⟨S64x8x128x256, .f32⟩
  | 107 => ⟨S64x8x128x256, .f32⟩
  | 108 => ⟨S_, .f32⟩
  | 109 => ⟨S64x8x128, .f32⟩
  | 110 => ⟨S64x8x128x1, .f32⟩
  | 111 => ⟨S64x8x128x256, .f32⟩
  | 112 => ⟨S64x8x128x256, .f32⟩
  | 113 => ⟨S64x8x128x256, .f32⟩
  | 114 => ⟨S_, .f32⟩
  | 115 => ⟨S64x8x128, .f32⟩
  | 116 => ⟨S64x8x128x1, .f32⟩
  | 117 => ⟨S64x8x128x256, .f32⟩
  | 118 => ⟨S64x8x128x256, .f32⟩
  | 119 => ⟨S64x8x64x128, .f32⟩
  | 120 => ⟨S64x128x8x64, .f32⟩
  | 121 => ⟨S64x8x128x1, .f32⟩
  | 122 => ⟨S64x8x128x1, .f32⟩
  | 123 => ⟨S64x8x128, .f32⟩
  | 124 => ⟨S8192x8x64, .f32⟩
  | 125 => ⟨S64x128x8, .f32⟩
  | 126 => ⟨S8192x8, .f32⟩
  | 127 => ⟨S8192x8, .f32⟩
  | _ => ⟨S8192x4608, .f32⟩

abbrev hbmTy0_1 (i : Nat) : BufTy := match i % 128 with
  | 0 => ⟨S8192x8, .f32⟩
  | 1 => ⟨S8192x8, .f32⟩
  | 2 => ⟨S8192x8, .f32⟩
  | 3 => ⟨S8192x8, .f32⟩
  | 4 => ⟨S8192x8, .f32⟩
  | 5 => ⟨S8192x8, .f32⟩
  | 6 => ⟨S8192x8, .f32⟩
  | 7 => ⟨S8192x8, .f32⟩
  | 8 => ⟨S8192x8, .f32⟩
  | 9 => ⟨S8192x8x1, .f32⟩
  | 10 => ⟨S8192x8x64, .f32⟩
  | 11 => ⟨S8192x8x64, .f32⟩
  | 12 => ⟨S8192x8x1, .f32⟩
  | 13 => ⟨S8192x8x64, .f32⟩
  | 14 => ⟨S8192x8x64, .f32⟩
  | 15 => ⟨S8192x8x64, .f32⟩
  | 16 => ⟨S8192x8x1, .f32⟩
  | 17 => ⟨S8192x8x64, .f32⟩
  | 18 => ⟨S8192x8x64, .f32⟩
  | 19 => ⟨S8192x8x64, .f32⟩
  | 20 => ⟨S8192x8x1, .f32⟩
  | 21 => ⟨S8192x8x64, .f32⟩
  | 22 => ⟨S8192x8x64, .f32⟩
  | 23 => ⟨S8192x512, .f32⟩
  | 24 => ⟨S8192x8, .f32⟩
  | 25 => ⟨S8192x8, .f32⟩
  | 26 => ⟨S8192x8x64, .f32⟩
  | 27 => ⟨S8192x512, .f32⟩
  | 28 => ⟨S128, .i32⟩
  | 29 => ⟨S128x1, .i32⟩
  | 30 => ⟨S_, .i32⟩
  | 31 => ⟨S128x1, .i32⟩
  | 32 => ⟨S128x1, .i32⟩
  | 33 => ⟨S256, .i32⟩
  | 34 => ⟨S1x256, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S1x128x256, .i1⟩
  | 46 => ⟨S_, .f32⟩
  | 47 => ⟨S_, .f32⟩
  | 48 => ⟨S8x128x256, .i1⟩
  | 49 => ⟨S8x128x256, .f32⟩
  | 50 => ⟨S8x128x256, .f32⟩
  | 51 => ⟨S1x1x1x64, .f32⟩
  | 52 => ⟨S1x1x2x64, .f32⟩
  | 53 => ⟨S1x128, .f32⟩
  | 54 => ⟨S1x1x1x64, .f32⟩
  | 55 => ⟨S1x1x2x64, .f32⟩
  | 56 => ⟨S1x128, .f32⟩
  | 57 => ⟨S8192x1536, .f32⟩
  | 58 => ⟨S8192x1536, .f32⟩
  | 59 => ⟨S8192x1536, .f32⟩
  | 60 => ⟨S8x128x256, .f32⟩
  | 61 => ⟨S1x64, .f32⟩
  | 62 => ⟨S1x64, .f32⟩
  | _ => ⟨S8192x4608, .f32⟩

abbrev hbmTy (i : Nat) : BufTy := match i / 128 with
  | 0 => hbmTy0_0 i
  | 1 => hbmTy0_1 i
  | _ => ⟨S8192x4608, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1024x128, .f32⟩
  | .local _ .vmem, ⟨7, _⟩ => ⟨S1024x128, .f32⟩
  | .local _ .vmem, ⟨8, _⟩ => ⟨S128x128, .f32⟩
  | .local _ .vmem, ⟨9, _⟩ => ⟨S128x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S128x128, .f32⟩
  | .local _ .vmem, ⟨15, _⟩ => ⟨S128x128, .f32⟩
  | .local _ .vmem, ⟨16, _⟩ => ⟨S1024x128, .f32⟩
  | .local _ .vmem, ⟨17, _⟩ => ⟨S1024x128, .f32⟩
  | .local _ .vmem, ⟨18, _⟩ => ⟨S128x128, .f32⟩
  | .local _ .vmem, ⟨19, _⟩ => ⟨S128x128, .f32⟩
  | .local _ .vmem, ⟨20, _⟩ => ⟨S1024x128, .f32⟩
  | .local _ .vmem, ⟨21, _⟩ => ⟨S1024x128, .f32⟩
  | .local _ .vmem, ⟨22, _⟩ => ⟨S128x128, .f32⟩
  | .local _ .vmem, ⟨23, _⟩ => ⟨S128x128, .f32⟩
  | .local _ .vmem, ⟨24, _⟩ => ⟨S2x128x256, .f32⟩
  | .local _ .vmem, ⟨25, _⟩ => ⟨S2x128x256, .f32⟩
  | .local _ .vmem, ⟨26, _⟩ => ⟨S1x128, .f32⟩
  | .local _ .vmem, ⟨27, _⟩ => ⟨S1x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S2x128x256, .f32⟩
  | .local _ .vmem, ⟨35, _⟩ => ⟨S2x128x256, .f32⟩
  | .local _ .vmem, ⟨36, _⟩ => ⟨S1x64, .f32⟩
  | .local _ .vmem, ⟨37, _⟩ => ⟨S1x64, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_8 : Ref sig .tc := ⟨.hbm, 75, rfl⟩
abbrev main_v56 : Ref sig .tc := ⟨.hbm, 76, rfl⟩
abbrev main_v57 : Ref sig .tc := ⟨.hbm, 77, rfl⟩
abbrev main_c_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_14 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_c_15 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_c_16 : Ref sig .tc := ⟨.hbm, 166, rfl⟩
abbrev main_v136 : Ref sig .tc := ⟨.hbm, 167, rfl⟩
abbrev main_v137 : Ref sig .tc := ⟨.hbm, 168, rfl⟩
abbrev main_c_17 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_cst_18 : Ref sig .tc := ⟨.hbm, 174, rfl⟩
abbrev main_call1_v0 : Ref sig .tc := ⟨.hbm, 175, rfl⟩
abbrev main_call1_v1 : Ref sig .tc := ⟨.hbm, 176, rfl⟩
abbrev main_call1_v2 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149_0 : Ref sig .tc := ⟨.hbm, 185, rfl⟩
abbrev main_v149_1 : Ref sig .tc := ⟨.hbm, 186, rfl⟩
abbrev main_v149_2 : Ref sig .tc := ⟨.hbm, 187, rfl⟩
abbrev main_v149_3 : Ref sig .tc := ⟨.hbm, 188, rfl⟩
abbrev main_v149_4 : Ref sig .tc := ⟨.hbm, 189, rfl⟩
abbrev main_v149_5 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg20_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem20_0 : DmaSem sig := 37

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c0_i32_635 : BitVec 32 := 0#32
  let v1740 : BitVec 1 := Scalar.cmpi .eq arg0 c0_i32_635
  let arg1 : BitVec 32 := BitVec.ofNat 32 (i 1).val
  let c0_i32_636 : BitVec 32 := 0#32
  let v1741 : BitVec 1 := Scalar.cmpi .eq arg1 c0_i32_636
  let v1742 : BitVec 1 := Scalar.andi v1740 v1741
  let v1743 : BitVec 32 := Scalar.extui v1742
  let c0_i32_637 : BitVec 32 := 0#32
  let v1744 : BitVec 1 := Scalar.cmpi .ne v1743 c0_i32_637
  v1744

def k0_cond3 (i : grid0.Coords) : BitVec 1 :=
  let arg0 : BitVec 32 := BitVec.ofNat 32 (i 0).val
  let c0_i32_635 : BitVec 32 := 0#32
  let v1740 : BitVec 1 := Scalar.cmpi .eq arg0 c0_i32_635
  let arg1 : BitVec 32 := BitVec.ofNat 32 (i 1).val
  let c0_i32_636 : BitVec 32 := 0#32
  let v1741 : BitVec 1 := Scalar.cmpi .eq arg1 c0_i32_636
  let v1742 : BitVec 1 := Scalar.andi v1740 v1741
  let v_true : BitVec 1 := 1#1
  let v1745 : BitVec 1 := Scalar.xori v1742 v_true
  let v1746 : BitVec 32 := Scalar.extui v1745
  let c0_i32_638 : BitVec 32 := 0#32
  let v1747 : BitVec 1 := Scalar.cmpi .ne v1746 c0_i32_638
  v1747

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let v3 : BitVec 32 := Scalar.addi c0_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let v3 : BitVec 32 := Scalar.addi c12_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let v3 : BitVec 32 := Scalar.addi c0_i32 arg0
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let v3 : BitVec 32 := Scalar.addi c0_i32 arg0
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let v3 : BitVec 32 := Scalar.addi c0_i32 arg0
  let c0_i32_0 : BitVec 32 := 0#32
  ![v2.toNat, v3.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S8192x4608 : Shape := ⟨2, ![8192, 4608]⟩
abbrev S8192x512 : Shape := ⟨2, ![8192, 512]⟩
abbrev S8x128x256 : Shape := ⟨3, ![8, 128, 256]⟩
abbrev S1x64 : Shape := ⟨2, ![1, 64]⟩
abbrev S8192x8x64 : Shape := ⟨3, ![8192, 8, 64]⟩
abbrev S8192x8 : Shape := ⟨2, ![8192, 8]⟩
abbrev S_ : Shape := ⟨0, ![]⟩
abbrev S8192x8x1 : Shape := ⟨3, ![8192, 8, 1]⟩
abbrev S1x1x64 : Shape := ⟨3, ![1, 1, 64]⟩
abbrev S64x128x8x64 : Shape := ⟨4, ![64, 128, 8, 64]⟩
abbrev S1x128x8x64 : Shape := ⟨4, ![1, 128, 8, 64]⟩
abbrev S63x128x8x64 : Shape := ⟨4, ![63, 128, 8, 64]⟩
abbrev S64x256x8x64 : Shape := ⟨4, ![64, 256, 8, 64]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S1x128x256 : Shape := ⟨3, ![1, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S64x128x256 : Shape := ⟨3, ![64, 128, 256]⟩
abbrev S64x8x128x256 : Shape := ⟨4, ![64, 8, 128, 256]⟩
abbrev S1x8x128x256 : Shape := ⟨4, ![1, 8, 128, 256]⟩
abbrev S64x1x128x256 : Shape := ⟨4, ![64, 1, 128, 256]⟩
abbrev S64x8x128 : Shape := ⟨3, ![64, 8, 128]⟩
abbrev S64x8x128x1 : Shape := ⟨4, ![64, 8, 128, 1]⟩
abbrev S64x8x64x128 : Shape := ⟨4, ![64, 8, 64, 128]⟩
abbrev S64x128x8 : Shape := ⟨3, ![64, 128, 8]⟩
abbrev S1x8192x8 : Shape := ⟨3, ![1, 8192, 8]⟩
abbrev S3x8192x8 : Shape := ⟨3, ![3, 8192, 8]⟩
abbrev S3x8192x8x1 : Shape := ⟨4, ![3, 8192, 8, 1]⟩
abbrev S1x8192x8x64 : Shape := ⟨4, ![1, 8192, 8, 64]⟩
abbrev S3x8192x8x64 : Shape := ⟨4, ![3, 8192, 8, 64]⟩
abbrev S64x8x64x256 : Shape := ⟨4, ![64, 8, 64, 256]⟩
abbrev S64x8x256x64 : Shape := ⟨4, ![64, 8, 256, 64]⟩
abbrev S64x8x128x64 : Shape := ⟨4, ![64, 8, 128, 64]⟩
abbrev S8192x1024 : Shape := ⟨2, ![8192, 1024]⟩
abbrev S8192x1536 : Shape := ⟨2, ![8192, 1536]⟩

abbrev nBuf : Space → Nat
  | .hbm => 378
  | .vmem => 0
  | .smem => 0
  | _ => 0

abbrev hbmTy0_0 (i : Nat) : BufTy := match i % 128 with
  | 0 => ⟨S8192x4608, .f32⟩
  | 1 => ⟨S8192x512, .f32⟩
  | 2 => ⟨S8x128x256, .f32⟩
  | 3 => ⟨S1x64, .f32⟩
  | 4 => ⟨S1x64, .f32⟩
  | 5 => ⟨S8192x8x64, .f32⟩
  | 6 => ⟨S8192x8, .f32⟩
  | 7 => ⟨S8192x8x64, .f32⟩
  | 8 => ⟨S8192x8, .f32⟩
  | 9 => ⟨S8192x512, .f32⟩
  | 10 => ⟨S8192x8x64, .f32⟩
  | 11 => ⟨S8192x512, .f32⟩
  | 12 => ⟨S8192x8x64, .f32⟩
  | 13 => ⟨S8192x512, .f32⟩
  | 14 => ⟨S8192x8x64, .f32⟩
  | 15 => ⟨S8192x8x64, .f32⟩
  | 16 => ⟨S_, .f32⟩
  | 17 => ⟨S8192x8, .f32⟩
  | 18 => ⟨S8192x8x1, .f32⟩
  | 19 => ⟨S_, .f32⟩
  | 20 => ⟨S8192x8x1, .f32⟩
  | 21 => ⟨S8192x8x1, .f32⟩
  | 22 => ⟨S_, .f32⟩
  | 23 => ⟨S8192x8x1, .f32⟩
  | 24 => ⟨S8192x8x1, .f32⟩
  | 25 => ⟨S8192x8x1, .f32⟩
  | 26 => ⟨S8192x8x1, .f32⟩
  | 27 => ⟨S_, .f32⟩
  | 28 => ⟨S8192x8x1, .f32⟩
  | 29 => ⟨S8192x8x1, .f32⟩
  | 30 => ⟨S8192x8x64, .f32⟩
  | 31 => ⟨S8192x8x64, .f32⟩
  | 32 => ⟨S1x1x64, .f32⟩
  | 33 => ⟨S8192x8x64, .f32⟩
  | 34 => ⟨S8192x8x64, .f32⟩
  | 35 => ⟨S_, .f32⟩
  | 36 => ⟨S8192x8x64, .f32⟩
  | 37 => ⟨S8192x8x64, .f32⟩
  | 38 => ⟨S8192x8x64, .f32⟩
  | 39 => ⟨S_, .f32⟩
  | 40 => ⟨S8192x8, .f32⟩
  | 41 => ⟨S8192x8x1, .f32⟩
  | 42 => ⟨S_, .f32⟩
  | 43 => ⟨S8192x8x1, .f32⟩
  | 44 => ⟨S8192x8x1, .f32⟩
  | 45 => ⟨S_, .f32⟩
  | 46 => ⟨S8192x8x1, .f32⟩
  | 47 => ⟨S8192x8x1, .f32⟩
  | 48 => ⟨S8192x8x1, .f32⟩
  | 49 => ⟨S8192x8x1, .f32⟩
  | 50 => ⟨S_, .f32⟩
  | 51 => ⟨S8192x8x1, .f32⟩
  | 52 => ⟨S8192x8x1, .f32⟩
  | 53 => ⟨S8192x8x64, .f32⟩
  | 54 => ⟨S8192x8x64, .f32⟩
  | 55 => ⟨S1x1x64, .f32⟩
  | 56 => ⟨S8192x8x64, .f32⟩
  | 57 => ⟨S8192x8x64, .f32⟩
  | 58 => ⟨S64x128x8x64, .f32⟩
  | 59 => ⟨S64x128x8x64, .f32⟩
  | 60 => ⟨S64x128x8x64, .f32⟩
  | 61 => ⟨S1x128x8x64, .f32⟩
  | 62 => ⟨S_, .f32⟩
  | 63 => ⟨S1x128x8x64, .f32⟩
  | 64 => ⟨S63x128x8x64, .f32⟩
  | 65 => ⟨S64x128x8x64, .f32⟩
  | 66 => ⟨S_, .f32⟩
  | 67 => ⟨S1x128x8x64, .f32⟩
  | 68 => ⟨S64x256x8x64, .f32⟩
  | 69 => ⟨S1x128x8x64, .f32⟩
  | 70 => ⟨S_, .f32⟩
  | 71 => ⟨S1x128x8x64, .f32⟩
  | 72 => ⟨S63x128x8x64, .f32⟩
  | 73 => ⟨S64x128x8x64, .f32⟩
  | 74 => ⟨S_, .f32⟩
  | 75 => ⟨S1x128x8x64, .f32⟩
  | 76 => ⟨S64x256x8x64, .f32⟩
  | 77 => ⟨S256, .i32⟩
  | 78 => ⟨S1x256, .i32⟩
  | 79 => ⟨S128, .i32⟩
  | 80 => ⟨S128x1, .i32⟩
  | 81 => ⟨S_, .i32⟩
  | 82 => ⟨S128x1, .i32⟩
  | 83 => ⟨S128x1, .i32⟩
  | 84 => ⟨S128x256, .i32⟩
  | 85 => ⟨S128x256, .i32⟩
  | 86 => ⟨S128x256, .i32⟩
  | 87 => ⟨S_, .i32⟩
  | 88 => ⟨S128x256, .i32⟩
  | 89 => ⟨S128x256, .i1⟩
  | 90 => ⟨S_, .i32⟩
  | 91 => ⟨S128x256, .i32⟩
  | 92 => ⟨S128x256, .i1⟩
  | 93 => ⟨S128x256, .i1⟩
  | 94 => ⟨S1x128x256, .i1⟩
  | 95 => ⟨S64, .i32⟩
  | 96 => ⟨S_, .i32⟩
  | 97 => ⟨S64, .i32⟩
  | 98 => ⟨S64, .i1⟩
  | 99 => ⟨S64x1x1, .i1⟩
  | 100 => ⟨S_, .i32⟩
  | 101 => ⟨S1x256, .i32⟩
  | 102 => ⟨S1x256, .i1⟩
  | 103 => ⟨S1x1x256, .i1⟩
  | 104 => ⟨S64x1x256, .i1⟩
  | 105 => ⟨S64x1x256, .i1⟩
  | 106 => ⟨S64x1x256, .i1⟩
  | 107 => ⟨S64x128x256, .i1⟩
  | 108 => ⟨S64x128x256, .i1⟩
  | 109 => ⟨S64x128x256, .i1⟩
  | 110 => ⟨S64x8x128x256, .f32⟩
  | 111 => ⟨S1x8x128x256, .f32⟩
  | 112 => ⟨S64x8x128x256, .f32⟩
  | 113 => ⟨S64x8x128x256, .f32⟩
  | 114 => ⟨S64x1x128x256, .i1⟩
  | 115 => ⟨S_, .f32⟩
  | 116 => ⟨S_, .f32⟩
  | 117 => ⟨S64x8x128x256, .i1⟩
  | 118 => ⟨S64x8x128x256, .f32⟩
  | 119 => ⟨S64x8x128x256, .f32⟩
  | 120 => ⟨S_, .f32⟩
  | 121 => ⟨S64x8x128x256, .f32⟩
  | 122 => ⟨S_, .f32⟩
  | 123 => ⟨S64x8x128, .f32⟩
  | 124 => ⟨S64x8x128x1, .f32⟩
  | 125 => ⟨S64x8x128x256, .f32⟩
  | 126 => ⟨S64x8x128x256, .i1⟩
  | 127 => ⟨S64x8x128x256, .f32⟩
  | _ => ⟨S8192x4608, .f32⟩

abbrev hbmTy0_1 (i : Nat) : BufTy := match i % 128 with
  | 0 => ⟨S_, .f32⟩
  | 1 => ⟨S64x8x128, .f32⟩
  | 2 => ⟨S64x8x128x1, .f32⟩
  | 3 => ⟨S64x8x128x256, .f32⟩
  | 4 => ⟨S64x8x128x256, .f32⟩
  | 5 => ⟨S64x8x128x256, .f32⟩
  | 6 => ⟨S_, .f32⟩
  | 7 => ⟨S64x8x128, .f32⟩
  | 8 => ⟨S64x8x128x1, .f32⟩
  | 9 => ⟨S64x8x128x256, .f32⟩
  | 10 => ⟨S64x8x128x256, .f32⟩
  | 11 => ⟨S64x8x128x1, .f32⟩
  | 12 => ⟨S_, .f32⟩
  | 13 => ⟨S64x8x128x1, .f32⟩
  | 14 => ⟨S64x8x128x1, .f32⟩
  | 15 => ⟨S64x8x64x128, .f32⟩
  | 16 => ⟨S64x128x8x64, .f32⟩
  | 17 => ⟨S64x8x128x1, .f32⟩
  | 18 => ⟨S64x8x128x1, .f32⟩
  | 19 => ⟨S64x8x128, .f32⟩
  | 20 => ⟨S8192x8x64, .f32⟩
  | 21 => ⟨S64x128x8, .f32⟩
  | 22 => ⟨S8192x8, .f32⟩
  | 23 => ⟨S1x8192x8, .f32⟩
  | 24 => ⟨S1x8192x8, .f32⟩
  | 25 => ⟨S1x8192x8, .f32⟩
  | 26 => ⟨S3x8192x8, .f32⟩
  | 27 => ⟨S_, .f32⟩
  | 28 => ⟨S8192x8, .f32⟩
  | 29 => ⟨S_, .f32⟩
  | 30 => ⟨S8192x8, .f32⟩
  | 31 => ⟨S_, .f32⟩
  | 32 => ⟨S8192x8, .f32⟩
  | 33 => ⟨S1x8192x8, .f32⟩
  | 34 => ⟨S3x8192x8, .f32⟩
  | 35 => ⟨S3x8192x8, .i1⟩
  | 36 => ⟨S3x8192x8, .f32⟩
  | 37 => ⟨S_, .f32⟩
  | 38 => ⟨S8192x8, .f32⟩
  | 39 => ⟨S_, .f32⟩
  | 40 => ⟨S8192x8, .f32⟩
  | 41 => ⟨S8192x8, .f32⟩
  | 42 => ⟨S_, .f32⟩
  | 43 => ⟨S8192x8, .f32⟩
  | 44 => ⟨S8192x8, .i1⟩
  | 45 => ⟨S_, .f32⟩
  | 46 => ⟨S8192x8, .f32⟩
  | 47 => ⟨S8192x8, .i1⟩
  | 48 => ⟨S_, .f32⟩
  | 49 => ⟨S8192x8, .f32⟩
  | 50 => ⟨S_, .f32⟩
  | 51 => ⟨S8192x8, .f32⟩
  | 52 => ⟨S_, .f32⟩
  | 53 => ⟨S8192x8, .f32⟩
  | 54 => ⟨S8192x8, .f32⟩
  | 55 => ⟨S8192x8, .f32⟩
  | 56 => ⟨S1x8192x8, .f32⟩
  | 57 => ⟨S3x8192x8, .f32⟩
  | 58 => ⟨S3x8192x8, .f32⟩
  | 59 => ⟨S3x8192x8, .f32⟩
  | 60 => ⟨S_, .f32⟩
  | 61 => ⟨S8192x8, .f32⟩
  | 62 => ⟨S1x8192x8, .f32⟩
  | 63 => ⟨S3x8192x8, .f32⟩
  | 64 => ⟨S3x8192x8, .f32⟩
  | 65 => ⟨S1x8192x8, .f32⟩
  | 66 => ⟨S_, .f32⟩
  | 67 => ⟨S1x8192x8, .f32⟩
  | 68 => ⟨S1x8192x8, .f32⟩
  | 69 => ⟨S3x8192x8x1, .f32⟩
  | 70 => ⟨S1x8192x8x64, .f32⟩
  | 71 => ⟨S1x8192x8x64, .f32⟩
  | 72 => ⟨S1x8192x8x64, .f32⟩
  | 73 => ⟨S3x8192x8x64, .f32⟩
  | 74 => ⟨S_, .f32⟩
  | 75 => ⟨S8192x8x64, .f32⟩
  | 76 => ⟨S_, .f32⟩
  | 77 => ⟨S8192x8x64, .f32⟩
  | 78 => ⟨S3x8192x8x64, .f32⟩
  | 79 => ⟨S3x8192x8x64, .f32⟩
  | 80 => ⟨S_, .f32⟩
  | 81 => ⟨S8192x8x64, .f32⟩
  | 82 => ⟨S8192x512, .f32⟩
  | 83 => ⟨S8192x8x64, .f32⟩
  | 84 => ⟨S3x8192x8x64, .f32⟩
  | 85 => ⟨S3x8192x8x64, .f32⟩
  | 86 => ⟨S3x8192x8x64, .f32⟩
  | 87 => ⟨S3x8192x8x64, .f32⟩
  | 88 => ⟨S_, .f32⟩
  | 89 => ⟨S3x8192x8, .f32⟩
  | 90 => ⟨S3x8192x8x1, .f32⟩
  | 91 => ⟨S1x8192x8x64, .f32⟩
  | 92 => ⟨S8192x8x64, .f32⟩
  | 93 => ⟨S1x8192x8x64, .f32⟩
  | 94 => ⟨S8192x8x64, .f32⟩
  | 95 => ⟨S1x8192x8x64, .f32⟩
  | 96 => ⟨S8192x8x64, .f32⟩
  | 97 => ⟨S_, .f32⟩
  | 98 => ⟨S3x8192x8, .f32⟩
  | 99 => ⟨S3x8192x8, .f32⟩
  | 100 => ⟨S3x8192x8, .f32⟩
  | 101 => ⟨S3x8192x8, .f32⟩
  | 102 => ⟨S_, .f32⟩
  | 103 => ⟨S8192x8, .f32⟩
  | 104 => ⟨S1x8192x8, .f32⟩
  | 105 => ⟨S1x8192x8, .f32⟩
  | 106 => ⟨S3x8192x8, .f32⟩
  | 107 => ⟨S3x8192x8, .f32⟩
  | 108 => ⟨S_, .f32⟩
  | 109 => ⟨S8192x8, .f32⟩
  | 110 => ⟨S3x8192x8, .f32⟩
  | 111 => ⟨S3x8192x8, .f32⟩
  | 112 => ⟨S3x8192x8, .f32⟩
  | 113 => ⟨S1x8192x8, .f32⟩
  | 114 => ⟨S8192x8, .f32⟩
  | 115 => ⟨S1x8192x8, .f32⟩
  | 116 => ⟨S8192x8, .f32⟩
  | 117 => ⟨S1x8192x8, .f32⟩
  | 118 => ⟨S8192x8, .f32⟩
  | 119 => ⟨S64x128x8, .f32⟩
  | 120 => ⟨S64x8x128, .f32⟩
  | 121 => ⟨S64x128x8x64, .f32⟩
  | 122 => ⟨S64x8x128x1, .f32⟩
  | 123 => ⟨S64x8x128x1, .f32⟩
  | 124 => ⟨S64x8x64x128, .f32⟩
  | 125 => ⟨S64x8x128x256, .f32⟩
  | 126 => ⟨S64x8x64x256, .f32⟩
  | 127 => ⟨S64x256x8x64, .f32⟩
  | _ => ⟨S8192x4608, .f32⟩

abbrev hbmTy0_2 (i : Nat) : BufTy := match i % 128 with
  | 0 => ⟨S64x8x128x256, .f32⟩
  | 1 => ⟨S64x8x128x256, .f32⟩
  | 2 => ⟨S64x8x128x256, .f32⟩
  | 3 => ⟨S_, .f32⟩
  | 4 => ⟨S64x8x128, .f32⟩
  | 5 => ⟨S64x8x128x1, .f32⟩
  | 6 => ⟨S64x8x128x1, .f32⟩
  | 7 => ⟨S64x8x128x1, .f32⟩
  | 8 => ⟨S64x8x128x256, .f32⟩
  | 9 => ⟨S64x8x128x256, .f32⟩
  | 10 => ⟨S_, .f32⟩
  | 11 => ⟨S64x8x128, .f32⟩
  | 12 => ⟨S64x8x128x256, .f32⟩
  | 13 => ⟨S64x8x128x256, .f32⟩
  | 14 => ⟨S64x8x128x256, .f32⟩
  | 15 => ⟨S64x8x128x256, .f32⟩
  | 16 => ⟨S_, .f32⟩
  | 17 => ⟨S64x8x128, .f32⟩
  | 18 => ⟨S64x8x128x1, .f32⟩
  | 19 => ⟨S64x8x128x1, .f32⟩
  | 20 => ⟨S_, .f32⟩
  | 21 => ⟨S64x8x128, .f32⟩
  | 22 => ⟨S64x8x128, .f32⟩
  | 23 => ⟨S64x8x128x256, .f32⟩
  | 24 => ⟨S64x8x128x256, .f32⟩
  | 25 => ⟨S64x8x128x256, .f32⟩
  | 26 => ⟨S_, .f32⟩
  | 27 => ⟨S64x8x128x256, .f32⟩
  | 28 => ⟨S64x8x128x256, .f32⟩
  | 29 => ⟨S_, .f32⟩
  | 30 => ⟨S8x128x256, .f32⟩
  | 31 => ⟨S1x8x128x256, .f32⟩
  | 32 => ⟨S_, .f32⟩
  | 33 => ⟨S8x128x256, .f32⟩
  | 34 => ⟨S64x8x256x64, .f32⟩
  | 35 => ⟨S64x256x8x64, .f32⟩
  | 36 => ⟨S64x8x128x64, .f32⟩
  | 37 => ⟨S64x128x8x64, .f32⟩
  | 38 => ⟨S64x128x8x64, .f32⟩
  | 39 => ⟨S64x128x8x64, .f32⟩
  | 40 => ⟨S1x128x8x64, .f32⟩
  | 41 => ⟨S63x128x8x64, .f32⟩
  | 42 => ⟨S_, .f32⟩
  | 43 => ⟨S64x128x8x64, .f32⟩
  | 44 => ⟨S64x128x8x64, .f32⟩
  | 45 => ⟨S64x128x8x64, .f32⟩
  | 46 => ⟨S64x128x8x64, .f32⟩
  | 47 => ⟨S1x128x8x64, .f32⟩
  | 48 => ⟨S63x128x8x64, .f32⟩
  | 49 => ⟨S_, .f32⟩
  | 50 => ⟨S64x128x8x64, .f32⟩
  | 51 => ⟨S64x128x8x64, .f32⟩
  | 52 => ⟨S8192x8x64, .f32⟩
  | 53 => ⟨S8192x8x64, .f32⟩
  | 54 => ⟨S8192x8x64, .f32⟩
  | 55 => ⟨S8192x8x64, .f32⟩
  | 56 => ⟨S_, .f32⟩
  | 57 => ⟨S64, .f32⟩
  | 58 => ⟨S1x1x64, .f32⟩
  | 59 => ⟨S8192x8x64, .f32⟩
  | 60 => ⟨S8192x8x64, .f32⟩
  | 61 => ⟨S_, .f32⟩
  | 62 => ⟨S64, .f32⟩
  | 63 => ⟨S1x64, .f32⟩
  | 64 => ⟨S8192x8x64, .f32⟩
  | 65 => ⟨S_, .f32⟩
  | 66 => ⟨S8192x8, .f32⟩
  | 67 => ⟨S8192x8x1, .f32⟩
  | 68 => ⟨S8192x8x64, .f32⟩
  | 69 => ⟨S8192x8x64, .f32⟩
  | 70 => ⟨S8192x8x1, .f32⟩
  | 71 => ⟨S_, .f32⟩
  | 72 => ⟨S8192x8x1, .f32⟩
  | 73 => ⟨S8192x8x1, .f32⟩
  | 74 => ⟨S_, .f32⟩
  | 75 => ⟨S8192x8, .f32⟩
  | 76 => ⟨S8192x8x64, .f32⟩
  | 77 => ⟨S8192x8x64, .f32⟩
  | 78 => ⟨S8192x8x64, .f32⟩
  | 79 => ⟨S8192x8x64, .f32⟩
  | 80 => ⟨S8192x8x64, .f32⟩
  | 81 => ⟨S_, .f32⟩
  | 82 => ⟨S8192x8x64, .f32⟩
  | 83 => ⟨S8192x8x64, .f32⟩
  | 84 => ⟨S8192x8x64, .f32⟩
  | 85 => ⟨S_, .f32⟩
  | 86 => ⟨S64, .f32⟩
  | 87 => ⟨S1x1x64, .f32⟩
  | 88 => ⟨S8192x8x64, .f32⟩
  | 89 => ⟨S8192x8x64, .f32⟩
  | 90 => ⟨S_, .f32⟩
  | 91 => ⟨S64, .f32⟩
  | 92 => ⟨S1x64, .f32⟩
  | 93 => ⟨S8192x8x64, .f32⟩
  | 94 => ⟨S_, .f32⟩
  | 95 => ⟨S8192x8, .f32⟩
  | 96 => ⟨S8192x8x1, .f32⟩
  | 97 => ⟨S8192x8x64, .f32⟩
  | 98 => ⟨S8192x8x64, .f32⟩
  | 99 => ⟨S8192x8x1, .f32⟩
  | 100 => ⟨S_, .f32⟩
  | 101 => ⟨S8192x8x1, .f32⟩
  | 102 => ⟨S8192x8x1, .f32⟩
  | 103 => ⟨S_, .f32⟩
  | 104 => ⟨S8192x8, .f32⟩
  | 105 => ⟨S8192x8x64, .f32⟩
  | 106 => ⟨S8192x8x64, .f32⟩
  | 107 => ⟨S8192x8x64, .f32⟩
  | 108 => ⟨S8192x8x64, .f32⟩
  | 109 => ⟨S8192x8x64, .f32⟩
  | 110 => ⟨S8192x512, .f32⟩
  | 111 => ⟨S_, .f32⟩
  | 112 => ⟨S8192x1024, .f32⟩
  | 113 => ⟨S8192x1536, .f32⟩
  | 114 => ⟨S8192x512, .f32⟩
  | 115 => ⟨S_, .f32⟩
  | 116 => ⟨S8192x1024, .f32⟩
  | 117 => ⟨S8192x1536, .f32⟩
  | 118 => ⟨S8192x512, .f32⟩
  | 119 => ⟨S_, .f32⟩
  | 120 => ⟨S8192x1024, .f32⟩
  | 121 => ⟨S8192x1536, .f32⟩
  | _ => ⟨S8192x4608, .f32⟩

abbrev hbmTy (i : Nat) : BufTy := match i / 128 with
  | 0 => hbmTy0_0 i
  | 1 => hbmTy0_1 i
  | 2 => hbmTy0_2 i
  | _ => ⟨S8192x4608, .f32⟩

abbrev bufTy : (tb : Table) → Fin (tcTables nBuf tb) → BufTy
  | .hbm, ⟨i, _⟩ => hbmTy i
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_16 : Ref sig .tc := ⟨.hbm, 115, rfl⟩
abbrev main_call0_v0 : Ref sig .tc := ⟨.hbm, 116, rfl⟩
abbrev main_v88_1 : Ref sig .tc := ⟨.hbm, 117, rfl⟩
abbrev main_call0_v2 : Ref sig .tc := ⟨.hbm, 118, rfl⟩
abbrev main_v88_0 : Ref sig .tc := ⟨.hbm, 119, rfl⟩
abbrev main_call0_cst : Ref sig .tc := ⟨.hbm, 120, rfl⟩
abbrev main_v88_2 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_18 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_19 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_20 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_21 : Ref sig .tc := ⟨.hbm, 155, rfl⟩
abbrev main_v118 : Ref sig .tc := ⟨.hbm, 156, rfl⟩
abbrev main_cst_22 : Ref sig .tc := ⟨.hbm, 157, rfl⟩
abbrev main_v119 : Ref sig .tc := ⟨.hbm, 158, rfl⟩
abbrev main_cst_23 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_24 : Ref sig .tc := ⟨.hbm, 165, rfl⟩
abbrev main_v125 : Ref sig .tc := ⟨.hbm, 166, rfl⟩
abbrev main_cst_25 : Ref sig .tc := ⟨.hbm, 167, rfl⟩
abbrev main_v126 : Ref sig .tc := ⟨.hbm, 168, rfl⟩
abbrev main_v127 : Ref sig .tc := ⟨.hbm, 169, rfl⟩
abbrev main_cst_26 : Ref sig .tc := ⟨.hbm, 170, rfl⟩
abbrev main_v128 : Ref sig .tc := ⟨.hbm, 171, rfl⟩
abbrev main_v129 : Ref sig .tc := ⟨.hbm, 172, rfl⟩
abbrev main_cst_27 : Ref sig .tc := ⟨.hbm, 173, rfl⟩
abbrev main_v130 : Ref sig .tc := ⟨.hbm, 174, rfl⟩
abbrev main_v131 : Ref sig .tc := ⟨.hbm, 175, rfl⟩
abbrev main_cst_28 : Ref sig .tc := ⟨.hbm, 176, rfl⟩
abbrev main_v132 : Ref sig .tc := ⟨.hbm, 177, rfl⟩
abbrev main_cst_29 : Ref sig .tc := ⟨.hbm, 178, rfl⟩
abbrev main_v133 : Ref sig .tc := ⟨.hbm, 179, rfl⟩
abbrev main_cst_30 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_31 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_32 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_33 : Ref sig .tc := ⟨.hbm, 202, rfl⟩
abbrev main_v153 : Ref sig .tc := ⟨.hbm, 203, rfl⟩
abbrev main_cst_34 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_35 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_36 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_cst_37 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_38 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_cst_39 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_cst_40 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_cst_41 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_cst_42 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_cst_43 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_call1_cst : Ref sig .tc := ⟨.hbm, 282, rfl⟩
abbrev main_call1_v0 : Ref sig .tc := ⟨.hbm, 283, rfl⟩
abbrev main_v222 : Ref sig .tc := ⟨.hbm, 284, rfl⟩
abbrev main_cst_44 : Ref sig .tc := ⟨.hbm, 285, rfl⟩
abbrev main_v223 : Ref sig .tc := ⟨.hbm, 286, rfl⟩
abbrev main_v224 : Ref sig .tc := ⟨.hbm, 287, rfl⟩
abbrev main_cst_45 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_cst_46 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_cst_47 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_cst_48 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_cst_49 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_cst_50 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_cst_51 : Ref sig .tc := ⟨.hbm, 327, rfl⟩
abbrev main_v258 : Ref sig .tc := ⟨.hbm, 328, rfl⟩
abbrev main_v259 : Ref sig .tc := ⟨.hbm, 329, rfl⟩
abbrev main_cst_52 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_cst_53 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_cst_54 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_cst_55 : Ref sig .tc := ⟨.hbm, 346, rfl⟩
abbrev main_v273 : Ref sig .tc := ⟨.hbm, 347, rfl⟩
abbrev main_v274 : Ref sig .tc := ⟨.hbm, 348, rfl⟩
abbrev main_v275 : Ref sig .tc := ⟨.hbm, 349, rfl⟩
abbrev main_cst_56 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_cst_57 : Ref sig .tc := ⟨.hbm, 356, rfl⟩
abbrev main_v281 : Ref sig .tc := ⟨.hbm, 357, rfl⟩
abbrev main_v282 : Ref sig .tc := ⟨.hbm, 358, rfl⟩
abbrev main_cst_58 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_cst_59 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_cst_60 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_cst_61 : Ref sig .tc := ⟨.hbm, 375, rfl⟩
abbrev main_v296 : Ref sig .tc := ⟨.hbm, 376, rfl⟩
abbrev main_v297 : Ref sig .tc := ⟨.hbm, 377, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S1x1024 : Shape := ⟨2, ![1, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S1x1024, .f32⟩
  | .hbm, ⟨3, _⟩ => ⟨S8192x2816, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8192x1024 : Shape := ⟨2, ![8192, 1024]⟩
abbrev S2816x1024 : Shape := ⟨2, ![2816, 1024]⟩
abbrev S1x1024 : Shape := ⟨2, ![1, 1024]⟩
abbrev S8192x2816 : Shape := ⟨2, ![8192, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S1x1024, .f32⟩
  | .hbm, ⟨3, _⟩ => ⟨S8192x2816, .bf16⟩
  | .hbm, ⟨4, _⟩ => ⟨S8192x2816, .bf16⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .bf16⟩
  | .hbm, ⟨35, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Kernel3.lean ====
abbrev S8192x1024 : Shape := ⟨2, ![8192, 1024]⟩
abbrev S1024x5632 : Shape := ⟨2, ![1024, 5632]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .bf16⟩
  | .hbm, ⟨8, _⟩ => ⟨S8192x2816, .bf16⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel4.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2816 : Shape := ⟨2, ![8192, 2816]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 11
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 4], ![false, false, false]⟩

def k0_cond4 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi v2 c0_i32_1
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi v2 c0_i32_1
  let c0_i32_2 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi v2 c0_i32_0
  let c0_i32_1 : BitVec 32 := 0#32
  ![arg0.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c2_i32_0 : BitVec 32 := 2#32
  let v3 : BitVec 32 := Scalar.addi v2 c2_i32_0
  let c0_i32_1 : BitVec 32 := 0#32
  ![arg1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S8192x2816 : Shape := ⟨2, ![8192, 2816]⟩
abbrev S1024x5632 : Shape := ⟨2, ![1024, 5632]⟩
abbrev S_ : Shape := ⟨0, ![]⟩
abbrev S8192x1024 : Shape := ⟨2, ![8192, 1024]⟩
abbrev S8192x5632 : Shape := ⟨2, ![8192, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S_, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x5632, .f32⟩
  | .hbm, ⟨12, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel6.lean ====
abbrev S8192x2816 : Shape := ⟨2, ![8192, 2816]⟩
abbrev S2816x1024 : Shape := ⟨2, ![2816, 1024]⟩
abbrev S1x1024 : Shape := ⟨2, ![1, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference6Ideal.lean ====
abbrev S8192x2816 : Shape := ⟨2, ![8192, 2816]⟩
abbrev S2816x1024 : Shape := ⟨2, ![2816, 1024]⟩
abbrev S1x1024 : Shape := ⟨2, ![1, 1024]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S1x1024, .f32⟩
  | .hbm, ⟨3, _⟩ => ⟨S8192x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1024x4608 : Shape := ⟨2, ![1024, 4608]⟩
abbrev S8192x4608 : Shape := ⟨2, ![8192, 4608]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x4608 : Shape := ⟨2, ![1024, 4608]⟩
abbrev S8192x4608 : Shape := ⟨2, ![8192, 4608]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x1024, .f32⟩
  | .hbm, ⟨3, _⟩ => ⟨S1024x4608, .f32⟩
  | .hbm, ⟨4, _⟩ => ⟨S8192x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .f32⟩
  | .hbm, ⟨2, _⟩ => ⟨S1024x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .f32⟩
  | .local _ .vmem, ⟨3, _⟩ => ⟨S1024x768, .f32⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .f32⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S1536x1024, .f32⟩
  | .hbm, ⟨7, _⟩ => ⟨S1024x1536, .f32⟩
  | .hbm, ⟨8, _⟩ => ⟨S1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Spec.lean ====
/-
  The mathematics of the claim, over the real numbers: the windowed attention of one head group with its two other
  groups merged in, and its gradient in the form that a backward kernel computes it (the probabilities rebuilt from the
  saved row log-sums). Rows, heads and lanes are natural numbers; a block `n` holds the rows `128 n + y`, and a key
  position `z < 256` of block `n` is the row `128 n + z - 128`.
-/
module

public import Idealize.ShloMosaic.PureOps.Ideal
public import Mathlib.Tactic.Ring
public import Mathlib.Tactic.FieldSimp
public import Mathlib.Tactic.Linarith
public import Mathlib.Tactic.Positivity

@[expose] public section

noncomputable section

namespace Cert.Attn

open scoped BigOperators

/-- The arguments, as real functions: the projected rows, the cotangent, the bias table, the two gains, and the other
    two groups' outputs and log-sums. -/
structure Data where
  qkv : ℕ → ℕ → ℝ
  ct : ℕ → ℕ → ℝ
  tab : ℕ → ℕ → ℕ → ℝ
  qg : ℕ → ℝ
  kg : ℕ → ℝ
  o1 : ℕ → ℕ → ℕ → ℝ
  l1 : ℕ → ℕ → ℝ
  o2 : ℕ → ℕ → ℕ → ℝ
  l2 : ℕ → ℕ → ℝ

/-- The norm's epsilon: the real number that its float word denotes. -/
def eps : ℝ := 8796093 / 2 ^ 43

theorem eps_pos : 0 < eps := by unfold eps; positivity

/-- The reciprocal root of a row's mean square. -/
def rinv (f : ℕ → ℕ → ℕ → ℝ) (s h : ℕ) : ℝ :=
  (Real.sqrt ((∑ d : Fin 64, f s h d * f s h d) / 64 + eps))⁻¹

theorem ms_pos (g : Fin 64 → ℝ) : 0 < (∑ d : Fin 64, g d * g d) / 64 + eps := by
  have h : 0 ≤ ∑ d : Fin 64, g d * g d := Finset.sum_nonneg fun d _ => mul_self_nonneg _
  have := eps_pos
  positivity

/-- Key and value rows of the window: zero before the first row. -/
def ext (f : ℕ → ℕ → ℕ → ℝ) (e h d : ℕ) : ℝ := if e < 128 then 0 else f (e - 128) h d

/-- Which key positions of block `n` the query row `y` sees. -/
abbrev valid (n y z : ℕ) : Prop := z ≤ y + 128 ∧ y ≤ z ∧ (0 < n ∨ 128 ≤ z)

/-- The gradient through a root-mean-square norm: `r (dx - x̂ · mean (dx · x̂))`. -/
def rmsBwd (x dx : ℕ → ℝ) (r : ℝ) (d : ℕ) : ℝ := r * (dx d - x d * ((∑ e : Fin 64, dx e * x e) / 64))

namespace Data

variable (D : Data)

def q (s h d : ℕ) : ℝ := D.qkv s (64 * h + d)
def k (s h d : ℕ) : ℝ := D.qkv s (1536 + (64 * h + d))
def v (s h d : ℕ) : ℝ := D.qkv s (3072 + (64 * h + d))
def cth (s h d : ℕ) : ℝ := D.ct s (64 * h + d)
def rq (s h : ℕ) : ℝ := rinv D.q s h
def rk (s h : ℕ) : ℝ := rinv D.k s h
def qx (s h d : ℕ) : ℝ := D.q s h d * D.rq s h
def kx (s h d : ℕ) : ℝ := D.k s h d * D.rk s h
def qn (s h d : ℕ) : ℝ := D.qx s h d * (D.qg d * (1 / 8))
def kn (s h d : ℕ) : ℝ := D.kx s h d * D.kg d

/-- The logits of a block's query row against its window. -/
def logit (n h y z : ℕ) : ℝ := (∑ d : Fin 64, D.qn (128 * n + y) h d * ext D.kn (128 * n + z) h d) + D.tab h y z

/-- The unnormalised weight of one key position. -/
def ev (n h y z : ℕ) : ℝ := if valid n y z then Real.exp (D.logit n h y z) else 0

/-- This group's sum of weights for a row. -/
def sumE (n h y : ℕ) : ℝ := ∑ z : Fin 256, D.ev n h y z

/-- The sum of weights over the three groups. -/
def tot (n h y : ℕ) : ℝ :=
  D.sumE n h y + Real.exp (D.l1 (128 * n + y) h) + Real.exp (D.l2 (128 * n + y) h)

def prob (n h y z : ℕ) : ℝ := D.ev n h y z / D.tot n h y

/-- The merged output of a row. -/
def out (n h y d : ℕ) : ℝ :=
  ((∑ z : Fin 256, D.ev n h y z * ext D.v (128 * n + z) h d)
    + Real.exp (D.l1 (128 * n + y) h) * D.o1 (128 * n + y) h d
    + Real.exp (D.l2 (128 * n + y) h) * D.o2 (128 * n + y) h d) / D.tot n h y

/-- A row's inner product of cotangent and output. -/
def delta (n h y : ℕ) : ℝ := ∑ d : Fin 64, D.cth (128 * n + y) h d * D.out n h y d

/-- The cotangent of a probability. -/
def dp (n h y z : ℕ) : ℝ := ∑ d : Fin 64, D.cth (128 * n + y) h d * ext D.v (128 * n + z) h d

/-- The cotangent of a logit. -/
def ds (n h y z : ℕ) : ℝ := D.prob n h y z * (D.dp n h y z - D.delta n h y)

/-- The cotangent of a block's normalised query. -/
def dqn (n h y d : ℕ) : ℝ := ∑ z : Fin 256, D.ds n h y z * ext D.kn (128 * n + z) h d

/-- The cotangent of a block's normalised key: from its own block and from the next one, where there is one. -/
def dkn (n h z d : ℕ) : ℝ :=
  (∑ y : Fin 128, D.ds n h y (128 + z) * D.qn (128 * n + y) h d)
    + if n + 1 < 64 then ∑ y : Fin 128, D.ds (n + 1) h y z * D.qn (128 * (n + 1) + y) h d else 0

/-- The cotangent of a block's value. -/
def dv (n h z d : ℕ) : ℝ :=
  (∑ y : Fin 128, D.prob n h y (128 + z) * D.cth (128 * n + y) h d)
    + if n + 1 < 64 then ∑ y : Fin 128, D.prob (n + 1) h y z * D.cth (128 * (n + 1) + y) h d else 0

/-- The gradient of the projected query. -/
def dq (n h y d : ℕ) : ℝ :=
  rmsBwd (fun e => D.qx (128 * n + y) h e) (fun e => D.dqn n h y e * (D.qg e * (1 / 8))) (D.rq (128 * n + y) h) d

/-- The gradient of the projected key. -/
def dk (n h y d : ℕ) : ℝ :=
  rmsBwd (fun e => D.kx (128 * n + y) h e) (fun e => D.dkn n h y e * D.kg e) (D.rk (128 * n + y) h) d

/-- The gradient of the bias table. -/
def dtab (h y z : ℕ) : ℝ := ∑ n : Fin 64, D.ds n h y z

/-- The gradient of the query's gain. -/
def dqg (d : ℕ) : ℝ :=
  (∑ n : Fin 64, ∑ h : Fin 8, ∑ y : Fin 128, D.dqn n h y d * D.qx (128 * n + y) h d) * (1 / 8)

/-- The gradient of the key's gain. -/
def dkg (d : ℕ) : ℝ := ∑ n : Fin 64, ∑ h : Fin 8, ∑ y : Fin 128, D.dkn n h y d * D.kx (128 * n + y) h d

theorem ev_nonneg (n h y z : ℕ) : 0 ≤ D.ev n h y z := by
  unfold ev; split
  · exact (Real.exp_pos _).le
  · exact le_rfl

theorem sumE_pos (n h y : ℕ) (hy : y < 128) : 0 < D.sumE n h y := by
  refine Finset.sum_pos' (fun z _ => D.ev_nonneg n h y z) ⟨⟨y + 128, by omega⟩, Finset.mem_univ _, ?_⟩
  unfold ev
  rw [if_pos ⟨by simp, by simp, Or.inr (by simp)⟩]
  exact Real.exp_pos _

theorem sumE_nonneg (n h y : ℕ) : 0 ≤ D.sumE n h y := Finset.sum_nonneg fun z _ => D.ev_nonneg n h y z

theorem tot_pos (n h y : ℕ) : 0 < D.tot n h y := by
  have := D.sumE_nonneg n h y
  have h1 := Real.exp_pos (D.l1 (128 * n + y) h)
  have h2 := Real.exp_pos (D.l2 (128 * n + y) h)
  unfold tot; linarith

end Data

/-! ## The gradient through the softmax over keys and the softmax over groups -/

/-- The weights against a shift `m`, summed, recover the sum of weights. -/
theorem shift_sum {ι : Type} [Fintype ι] (a : ι → ℝ) (m : ℝ) :
    ∑ z, a z * Real.exp (-m) = (∑ z, a z) * Real.exp (-m) := by rw [Finset.sum_mul]

end Cert.Attn
end
-- ==== Proof.Kit.lean ====
/-
  Extended-real values that are real numbers: the sums, quotients, exponentials, logarithms and roots of real numbers,
  and the numbers that the programs' float words denote.
-/
module

public import Idealize.ShloMosaic.PureOps.Ideal.Laws
public import Mathlib.Tactic.NormNum
public import proofs.«01_k».proof.Proof.Spec

@[expose] public section

noncomputable section

namespace Cert.Attn

open Idealize.ShloMosaic
open scoped BigOperators

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_coe {ι : Type} [Fintype ι] (g : ι → EReal) (f : ι → ℝ) (h : ∀ i, g i = ((f i : ℝ) : EReal)) :
    ∑ i, g i = ((∑ i, f i : ℝ) : EReal) := by
  rw [← coe_sum]; exact Finset.sum_congr rfl fun i _ => h i

theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

theorem exp_coe (a : ℝ) : Ideal.exp (a : EReal) = ((Real.exp a : ℝ) : EReal) := rfl

theorem exp_bot : Ideal.exp ⊥ = ((0 : ℝ) : EReal) := rfl

theorem log_coe (a : ℝ) (h : 0 < a) : Ideal.log (a : EReal) = ((Real.log a : ℝ) : EReal) := by
  show (if a ≤ 0 then ⊥ else ((Real.log a : ℝ) : EReal)) = _
  rw [if_neg (not_le.mpr h)]

theorem rsqrt_coe (a : ℝ) (h : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr h.le), if_neg h.ne']

theorem word_zero : Ideal.ofBits .f32 0x00000000#32 = ((0 : ℝ) : EReal) := by
  simp [Ideal.ofBits, Ideal.ieee]

theorem word_one : Ideal.ofBits .f32 0x3F800000#32 = ((1 : ℝ) : EReal) := by
  simp [Ideal.ofBits, Ideal.ieee, -EReal.coe_mul]; norm_num

theorem word_eighth : Ideal.ofBits .f32 0x3E000000#32 = ((1 / 8 : ℝ) : EReal) := by
  simp [Ideal.ofBits, Ideal.ieee, -EReal.coe_mul]; norm_num

theorem word_64th : Ideal.ofBits .f32 0x3C800000#32 = ((1 / 64 : ℝ) : EReal) := by
  simp [Ideal.ofBits, Ideal.ieee, -EReal.coe_mul]; norm_num

theorem word_64 : Ideal.ofBits .f32 0x42800000#32 = ((64 : ℝ) : EReal) := by
  simp [Ideal.ofBits, Ideal.ieee, -EReal.coe_mul]; norm_num

theorem word_eps : Ideal.ofBits .f32 0x358637BD#32 = ((eps : ℝ) : EReal) := by
  unfold eps
  simp [Ideal.ofBits, Ideal.ieee, -EReal.coe_mul]; norm_num

theorem word_bot : Ideal.ofBits .f32 0xFF800000#32 = (⊥ : EReal) := by
  simp [Ideal.ofBits, Ideal.ieee]

theorem word_top : Ideal.ofBits .f32 0x7F800000#32 = (⊤ : EReal) := by
  simp [Ideal.ofBits, Ideal.ieee]

end Cert.Attn
end
-- ==== Proof.Words.lean ====
/-
  The masks' bits, as the conditions that they stand for.
-/
module

public import proofs.«01_k».proof.Proof.Kit
public import Idealize.ShloMosaic.Lib.Pointwise

@[expose] public section

set_option maxRecDepth 16384

noncomputable section

namespace Cert.Attn

open Idealize.ShloMosaic

/-- The band's bit. -/
theorem band_word (y z : ℕ) (hy : y < 128) (hz : z < 256) :
    IntOp.andi
        (IntOp.cmpi CmpIPredicate.sge (IntOp.subi (IntOp.addi (BitVec.ofNat 32 y) 128#32) (BitVec.ofNat 32 z)) 0#32)
        (IntOp.cmpi CmpIPredicate.sle (IntOp.subi (IntOp.addi (BitVec.ofNat 32 y) 128#32) (BitVec.ofNat 32 z)) 128#32)
      = BitVec.ofBool (decide (z ≤ y + 128 ∧ y ≤ z)) := by
  have h : ∀ y : Fin 128, ∀ z : Fin 256, IntOp.andi
        (IntOp.cmpi CmpIPredicate.sge (IntOp.subi (IntOp.addi (BitVec.ofNat 32 y.val) 128#32) (BitVec.ofNat 32 z.val)) 0#32)
        (IntOp.cmpi CmpIPredicate.sle (IntOp.subi (IntOp.addi (BitVec.ofNat 32 y.val) 128#32) (BitVec.ofNat 32 z.val)) 128#32)
      = BitVec.ofBool (decide (z.val ≤ y.val + 128 ∧ y.val ≤ z.val)) := by decide +kernel
  exact h ⟨y, hy⟩ ⟨z, hz⟩

/-- The bit that keeps the first block from the rows before the sequence. -/
theorem start_word (n z : ℕ) (hn : n < 64) (hz : z < 256) :
    IntOp.ori (IntOp.cmpi CmpIPredicate.sgt (BitVec.ofNat 32 n) 0#32) (IntOp.cmpi CmpIPredicate.sge (BitVec.ofNat 32 z) 128#32)
      = BitVec.ofBool (decide (0 < n ∨ 128 ≤ z)) := by
  have h : ∀ n : Fin 64, ∀ z : Fin 256, IntOp.ori (IntOp.cmpi CmpIPredicate.sgt (BitVec.ofNat 32 n.val) 0#32)
      (IntOp.cmpi CmpIPredicate.sge (BitVec.ofNat 32 z.val) 128#32) = BitVec.ofBool (decide (0 < n.val ∨ 128 ≤ z.val)) := by
    decide +kernel
  exact h ⟨n, hn⟩ ⟨z, hz⟩

theorem and_word (p q : Prop) [Decidable p] [Decidable q] :
    IntOp.andi (BitVec.ofBool (decide p)) (BitVec.ofBool (decide q)) = BitVec.ofBool (decide (p ∧ q)) := by
  by_cases hp : p <;> by_cases hq : q <;> simp [hp, hq] <;> rfl

theorem select_word {α : Type} (p : Prop) [Decidable p] (a b : α) :
    Scalar.select (BitVec.ofBool (decide p)) a b = if p then a else b := by
  by_cases hp : p <;> simp [hp, Scalar.select]

end Cert.Attn
end
-- ==== Proof.RefFwd.lean ====
/-
  The reference's forward stages over the reals: the normalised queries and keys, the windows of keys and values, the
  masked logits.
-/
module

public import proofs.«01_k».proof.Proof.Gen.ReferenceIdeal.Read
public import proofs.«01_k».proof.Proof.Words
public import Idealize.ShloMosaic.Lib.Pointwise

@[expose] public section

set_option maxRecDepth 16384
set_option backward.isDefEq.respectTransparency false

noncomputable section

namespace Cert.ReferenceIdeal.Ref

open Idealize.ShloMosaic Idealize.ShloMosaic.TcCoe Idealize.SL.Sem Idealize.ShloMosaic.StableHlo
open Cert.ReferenceIdeal Cert.ReferenceIdeal.Gen Cert.ReferenceIdeal.Read Cert.Attn
open scoped BigOperators

variable {x0 : (⟨S8192x4608, .f32⟩ : BufTy).Contents (Elt Ideal)} {x1 : (⟨S8192x512, .f32⟩ : BufTy).Contents (Elt Ideal)}
  {x2 : (⟨S8x128x256, .f32⟩ : BufTy).Contents (Elt Ideal)} {x3 x4 : (⟨S1x64, .f32⟩ : BufTy).Contents (Elt Ideal)}
  {x5 x7 : (⟨S8192x8x64, .f32⟩ : BufTy).Contents (Elt Ideal)} {x6 x8 : (⟨S8192x8, .f32⟩ : BufTy).Contents (Elt Ideal)}

/-- The argument arrays hold the data. -/
structure Holds (D : Data) (x0 : (⟨S8192x4608, .f32⟩ : BufTy).Contents (Elt Ideal))
    (x1 : (⟨S8192x512, .f32⟩ : BufTy).Contents (Elt Ideal)) (x2 : (⟨S8x128x256, .f32⟩ : BufTy).Contents (Elt Ideal))
    (x3 x4 : (⟨S1x64, .f32⟩ : BufTy).Contents (Elt Ideal)) (x5 : (⟨S8192x8x64, .f32⟩ : BufTy).Contents (Elt Ideal))
    (x6 : (⟨S8192x8, .f32⟩ : BufTy).Contents (Elt Ideal)) (x7 : (⟨S8192x8x64, .f32⟩ : BufTy).Contents (Elt Ideal))
    (x8 : (⟨S8192x8, .f32⟩ : BufTy).Contents (Elt Ideal)) : Prop where
  qkv : ∀ i : S8192x4608.Idx, x0 i = ((D.qkv (i 0).val (i 1).val : ℝ) : EReal)
  ct : ∀ i : S8192x512.Idx, x1 i = ((D.ct (i 0).val (i 1).val : ℝ) : EReal)
  tab : ∀ i : S8x128x256.Idx, x2 i = ((D.tab (i 0).val (i 1).val (i 2).val : ℝ) : EReal)
  qg : ∀ i : S1x64.Idx, x3 i = ((D.qg (i 1).val : ℝ) : EReal)
  kg : ∀ i : S1x64.Idx, x4 i = ((D.kg (i 1).val : ℝ) : EReal)
  o1 : ∀ i : S8192x8x64.Idx, x5 i = ((D.o1 (i 0).val (i 1).val (i 2).val : ℝ) : EReal)
  l1 : ∀ i : S8192x8.Idx, x6 i = ((D.l1 (i 0).val (i 1).val : ℝ) : EReal)
  o2 : ∀ i : S8192x8x64.Idx, x7 i = ((D.o2 (i 0).val (i 1).val (i 2).val : ℝ) : EReal)
  l2 : ∀ i : S8192x8.Idx, x8 i = ((D.l2 (i 0).val (i 1).val : ℝ) : EReal)

variable {D : Data} (H : Holds D x0 x1 x2 x3 x4 x5 x6 x7 x8)
include H

theorem q_at (i : S8192x8x64.Idx) : val_main_v1 (F := Ideal) x0 i = ((D.q (i 0).val (i 1).val (i 2).val : ℝ) : EReal) := by
  pointwise [val_main_v1, val_main_v0]
  rw [H.qkv]
  show ((D.qkv (i 0).val ((i 1).val * 64 + (i 2).val) : ℝ) : EReal) = _
  rw [Nat.mul_comm]; rfl

theorem k_at (i : S8192x8x64.Idx) : val_main_v3 (F := Ideal) x0 i = ((D.k (i 0).val (i 1).val (i 2).val : ℝ) : EReal) := by
  pointwise [val_main_v3, val_main_v2]
  rw [H.qkv]
  show ((D.qkv (i 0).val (1536 + ((i 1).val * 64 + (i 2).val)) : ℝ) : EReal) = _
  rw [Nat.mul_comm]; rfl

theorem v_at (i : S8192x8x64.Idx) : val_main_v5 (F := Ideal) x0 i = ((D.v (i 0).val (i 1).val (i 2).val : ℝ) : EReal) := by
  pointwise [val_main_v5, val_main_v4]
  rw [H.qkv]
  show ((D.qkv (i 0).val (3072 + ((i 1).val * 64 + (i 2).val)) : ℝ) : EReal) = _
  rw [Nat.mul_comm]; rfl

theorem msq_at (i : S8192x8x1.Idx) : val_main_v12 (F := Ideal) x0 i =
    (((∑ d : Fin 64, D.q (i 0).val (i 1).val d * D.q (i 0).val (i 1).val d) / 64 + eps : ℝ) : EReal) := by
  pointwise [val_main_v12, val_main_v11, val_main_v10, val_main_v9, val_main_v8, val_main_v7, val_main_v6, val_main_cst,
    val_main_cst_0, val_main_cst_1]
  rw [word_64, word_eps, sum_coe _ (fun d : Fin 64 => D.q (i 0).val (i 1).val d * D.q (i 0).val (i 1).val d)
    (fun d => by rw [q_at H, ← EReal.coe_mul]; rfl), div_coe _ _ (by norm_num), ← EReal.coe_add]

theorem rq_at (i : S8192x8x1.Idx) : val_main_v13 (F := Ideal) x0 i = ((D.rq (i 0).val (i 1).val : ℝ) : EReal) := by
  pointwise [val_main_v13]
  rw [msq_at H, rsqrt_coe _ (ms_pos _)]; rfl

theorem msk_at (i : S8192x8x1.Idx) : val_main_v30 (F := Ideal) x0 i =
    (((∑ d : Fin 64, D.k (i 0).val (i 1).val d * D.k (i 0).val (i 1).val d) / 64 + eps : ℝ) : EReal) := by
  pointwise [val_main_v30, val_main_v29, val_main_v28, val_main_v27, val_main_v26, val_main_v25, val_main_v24, val_main_cst_4,
    val_main_cst_5, val_main_cst_6]
  rw [word_64, word_eps, sum_coe _ (fun d : Fin 64 => D.k (i 0).val (i 1).val d * D.k (i 0).val (i 1).val d)
    (fun d => by rw [k_at H, ← EReal.coe_mul]; rfl), div_coe _ _ (by norm_num), ← EReal.coe_add]

theorem rk_at (i : S8192x8x1.Idx) : val_main_v31 (F := Ideal) x0 i = ((D.rk (i 0).val (i 1).val : ℝ) : EReal) := by
  pointwise [val_main_v31]
  rw [msk_at H, rsqrt_coe _ (ms_pos _)]; rfl

theorem qx_at (i : S8192x8x64.Idx) : val_main_v18 (F := Ideal) x0 i = ((D.qx (i 0).val (i 1).val (i 2).val : ℝ) : EReal) := by
  pointwise [val_main_v18, val_main_v17]
  rw [q_at H, rq_at H, ← EReal.coe_mul]; rfl

theorem kx_at (i : S8192x8x64.Idx) : val_main_v36 (F := Ideal) x0 i = ((D.kx (i 0).val (i 1).val (i 2).val : ℝ) : EReal) := by
  pointwise [val_main_v36, val_main_v35]
  rw [k_at H, rk_at H, ← EReal.coe_mul]; rfl

theorem qn_at (i : S8192x8x64.Idx) : val_main_v23 (F := Ideal) x0 x3 i = ((D.qn (i 0).val (i 1).val (i 2).val : ℝ) : EReal) := by
  pointwise [val_main_v23, val_main_v22, val_main_v21, val_main_v20, val_main_v19, val_main_cst_3]
  rw [qx_at H, H.qg, word_eighth, ← EReal.coe_mul, ← EReal.coe_mul, mul_assoc]; rfl

theorem kn_at (i : S8192x8x64.Idx) : val_main_v39 (F := Ideal) x0 x4 i = ((D.kn (i 0).val (i 1).val (i 2).val : ℝ) : EReal) := by
  pointwise [val_main_v39, val_main_v38, val_main_v37]
  rw [kx_at H, H.kg, ← EReal.coe_mul]; rfl

/-- The queries by blocks of rows. -/
theorem qb_at (i : S64x128x8x64.Idx) : val_main_v40 (F := Ideal) x0 x3 i =
    ((D.qn (128 * (i 0).val + (i 1).val) (i 2).val (i 3).val : ℝ) : EReal) := by
  pointwise [val_main_v40]
  rw [qn_at H, Nat.mul_comm 128]; rfl

omit H in
/-- A window: nothing before the first block, then the block before, then the block itself. -/
theorem ext_eq (f : ℕ → ℕ → ℕ → ℝ) (n z h d : ℕ) (X : EReal) (a : z < 128 → n < 1 → X = 0)
    (b : z < 128 → ¬n < 1 → X = ((f ((n - 1) * 128 + z) h d : ℝ) : EReal))
    (c : ¬z < 128 → X = ((f (n * 128 + (z - 128)) h d : ℝ) : EReal)) : X = ((ext f (128 * n + z) h d : ℝ) : EReal) := by
  unfold ext
  by_cases hz : z < 128
  · by_cases hn : n < 1
    · rw [a hz hn, if_pos (by omega)]; rfl
    · rw [b hz hn, if_neg (by omega)]; congr 2; omega
  · rw [c hz, if_neg (by omega)]; congr 2; omega

/-- The windows of keys. -/
theorem kb_at (i : S64x256x8x64.Idx) : val_main_v48 (F := Ideal) x0 x4 i =
    ((ext D.kn (128 * (i 0).val + (i 1).val) (i 2).val (i 3).val : ℝ) : EReal) := by
  pointwise [val_main_v48, val_main_v46, val_main_v45, val_main_v44, val_main_v41, val_main_cst_8]
  refine ext_eq _ _ _ _ _ _ (fun h h' => ?_) (fun h h' => ?_) (fun h => ?_)
  · rw [dif_pos h, dif_pos h']
  · rw [dif_pos h, dif_neg h', kn_at H]; rfl
  · rw [dif_neg h, kn_at H]; rfl

/-- The windows of values. -/
theorem vb_at (i : S64x256x8x64.Idx) : val_main_v54 (F := Ideal) x0 i =
    ((ext D.v (128 * (i 0).val + (i 1).val) (i 2).val (i 3).val : ℝ) : EReal) := by
  pointwise [val_main_v54, val_main_v52, val_main_v51, val_main_v50, val_main_v42, val_main_cst_10]
  refine ext_eq _ _ _ _ _ _ (fun h h' => ?_) (fun h h' => ?_) (fun h => ?_)
  · rw [dif_pos h, dif_pos h']
  · rw [dif_pos h, dif_neg h', v_at H]; rfl
  · rw [dif_neg h, v_at H]; rfl

omit H in
/-- The mask's bit: within the band and within the sequence. -/
theorem mask_at (i : S64x128x256.Idx) : val_main_v82 (F := Ideal) i =
    BitVec.ofBool (decide (valid (i 0).val (i 1).val (i 2).val)) := by
  pointwise [val_main_v82, val_main_v81, val_main_v80,
    val_main_v79, val_main_v78, val_main_v77, val_main_v76, val_main_v75, val_main_v74, val_main_v73, val_main_v72,
    val_main_v71, val_main_v70, val_main_v69, val_main_v68, val_main_v67, val_main_v66, val_main_v65, val_main_v64,
    val_main_v63, val_main_v62, val_main_v61, val_main_v60, val_main_v59, val_main_v58, val_main_v57, val_main_v56,
    val_main_v55, val_main_c, val_main_c_12, val_main_c_13, val_main_c_14, val_main_c_15]
  rw [band_word _ _ (i 1).isLt (i 2).isLt, start_word _ _ (i 0).isLt (i 2).isLt, and_word]
  congr 2
  exact propext and_assoc

theorem logit_at (i : S64x8x128x256.Idx) : val_main_v86 (F := Ideal) x0 x2 x3 x4 i =
    ((D.logit (i 0).val (i 1).val (i 2).val (i 3).val : ℝ) : EReal) := by
  pointwise [val_main_v86, val_main_v85, val_main_v84, val_main_v83]
  rw [H.tab, sum_coe _ (fun d : Fin 64 => D.qn (128 * (i 0).val + (i 2).val) (i 1).val d
    * ext D.kn (128 * (i 0).val + (i 3).val) (i 1).val d) (fun d => by rw [qb_at H, kb_at H, ← EReal.coe_mul]; rfl),
    ← EReal.coe_add]
  rfl

/-- The masked logits. -/
theorem masked_at (i : S64x8x128x256.Idx) : val_main_v88_0 (F := Ideal) x0 x2 x3 x4 i =
    if valid (i 0).val (i 2).val (i 3).val then ((D.logit (i 0).val (i 1).val (i 2).val (i 3).val : ℝ) : EReal) else ⊥ := by
  pointwise [val_main_v88_0, val_main_v88_1, val_main_call0_v2, val_main_call0_v0, val_main_v87, val_main_cst_16]
  rw [mask_at, select_word, logit_at H]
  show (if valid (i 0).val (i 2).val (i 3).val then _ else Ideal.ofBits .f32 0xFF800000#32) = _
  rw [word_bot]

end Cert.ReferenceIdeal.Ref
end
-- ==== Proof.Finite.lean ====
/-
  Finite arguments as real data: where every element's magnitude is below infinity, the nine arrays hold real numbers.
-/
module

public import proofs.«01_k».proof.Proof.RefFwd
public import proofs.«01_k».proof.Proof.Gen.Pre_finite
public import Idealize.ShloMosaic.Lib.ReduceAll

@[expose] public section

set_option maxRecDepth 16384
set_option backward.isDefEq.respectTransparency false

noncomputable section

namespace Cert.ReferenceIdeal.Ref

open Idealize.ShloMosaic Idealize.ShloMosaic.TcCoe Idealize.SL.Sem
open Cert.ReferenceIdeal Cert.Attn

/-- An element whose magnitude is below infinity is a real number. -/
theorem real_of_abs {s : Shape} (x : FVec Ideal s .f32) (hb) (i : s.Idx)
    (e : cmpf .olt (Host.absf x) (broadcastInDim s ![] hb (constant (F := Ideal) Cert.Pre_finite.S_ .f32 0x7F800000#32)) i = 1#1) :
    x i = ((EReal.toReal (x i) : ℝ) : EReal) := by
  have htop : Ideal.ofBits .f32 0x7F800000#32 = ⊤ := by simp [Ideal.ofBits, Ideal.ieee]
  have e' : Ideal.cmp .olt (max (x i : EReal) (-(x i : EReal))) (Ideal.ofBits .f32 0x7F800000#32) = 1#1 := e
  rw [htop] at e'
  have hlt : max (x i : EReal) (-(x i : EReal)) < ⊤ := (Ideal.cmp_olt_eq_one _ _).1 e'
  have h := max_lt_iff.1 hlt
  refine (EReal.coe_toReal (lt_top_iff_ne_top.1 h.1) fun hb => ?_).symm
  rw [hb] at h
  simp at h

variable (x0 : (⟨S8192x4608, .f32⟩ : BufTy).Contents (Elt Ideal)) (x1 : (⟨S8192x512, .f32⟩ : BufTy).Contents (Elt Ideal))
  (x2 : (⟨S8x128x256, .f32⟩ : BufTy).Contents (Elt Ideal)) (x3 x4 : (⟨S1x64, .f32⟩ : BufTy).Contents (Elt Ideal))
  (x5 : (⟨S8192x8x64, .f32⟩ : BufTy).Contents (Elt Ideal)) (x6 : (⟨S8192x8, .f32⟩ : BufTy).Contents (Elt Ideal))
  (x7 : (⟨S8192x8x64, .f32⟩ : BufTy).Contents (Elt Ideal)) (x8 : (⟨S8192x8, .f32⟩ : BufTy).Contents (Elt Ideal))

/-- A two-axis array's real numbers, zero outside it. -/
def real2 {a b : ℕ} (x : (⟨2, ![a, b]⟩ : Shape).Idx → EReal) (r k : ℕ) : ℝ :=
  if h : r < a ∧ k < b then (x (ix2 ⟨r, h.1⟩ ⟨k, h.2⟩)).toReal else 0

/-- A three-axis array's real numbers, zero outside it. -/
def real3 {a b d : ℕ} (x : (⟨3, ![a, b, d]⟩ : Shape).Idx → EReal) (r k l : ℕ) : ℝ :=
  if h : r < a ∧ k < b ∧ l < d then (x (ix3 ⟨r, h.1⟩ ⟨k, h.2.1⟩ ⟨l, h.2.2⟩)).toReal else 0

theorem real2_at {a b : ℕ} (x : (⟨2, ![a, b]⟩ : Shape).Idx → EReal) (i : (⟨2, ![a, b]⟩ : Shape).Idx)
    (h : x i = ((EReal.toReal (x i) : ℝ) : EReal)) : x i = ((real2 x (i 0).val (i 1).val : ℝ) : EReal) := by
  refine h.trans (congrArg _ ?_)
  unfold real2
  rw [dif_pos ⟨(i 0).isLt, (i 1).isLt⟩]
  refine congrArg (fun j => (x j).toReal) (funext fun a => ?_)
  fin_cases a <;> rfl

theorem real3_at {a b d : ℕ} (x : (⟨3, ![a, b, d]⟩ : Shape).Idx → EReal) (i : (⟨3, ![a, b, d]⟩ : Shape).Idx)
    (h : x i = ((EReal.toReal (x i) : ℝ) : EReal)) : x i = ((real3 x (i 0).val (i 1).val (i 2).val : ℝ) : EReal) := by
  refine h.trans (congrArg _ ?_)
  unfold real3
  rw [dif_pos ⟨(i 0).isLt, (i 1).isLt, (i 2).isLt⟩]
  refine congrArg (fun j => (x j).toReal) (funext fun a => ?_)
  fin_cases a <;> rfl

/-- The arguments' real data. -/
def dataOf : Data where
  qkv := real2 (a := 8192) (b := 4608) x0
  ct := real2 (a := 8192) (b := 512) x1
  tab := real3 (a := 8) (b := 128) (d := 256) x2
  qg k := real2 (a := 1) (b := 64) x3 0 k
  kg k := real2 (a := 1) (b := 64) x4 0 k
  o1 := real3 (a := 8192) (b := 8) (d := 64) x5
  l1 := real2 (a := 8192) (b := 8) x6
  o2 := real3 (a := 8192) (b := 8) (d := 64) x7
  l2 := real2 (a := 8192) (b := 8) x8

/-- Finite arguments hold their real data. -/
theorem holds_of (e : ∀ j, Cert.Pre_finite.fn (F := Ideal) x0 x1 x2 x3 x4 x5 x6 x7 x8 j = 1#1) : Holds (dataOf x0 x1 x2 x3 x4 x5 x6 x7 x8) x0 x1 x2 x3 x4 x5 x6 x7 x8 := by
  have e := e (fun a => a.elim0)
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  have : Subsingleton Cert.Pre_finite.S_.Idx := ⟨fun a b => funext fun k => k.elim0⟩
  exact
    { qkv := fun i => real2_at (a := 8192) (b := 4608) x0 i (real_of_abs x0 _ i (Host.reduce_andi_all _ _ _ _ _ e i))
      ct := fun i => real2_at (a := 8192) (b := 512) x1 i (real_of_abs x1 _ i (Host.reduce_andi_all _ _ _ _ _ e1 i))
      tab := fun i => real3_at (a := 8) (b := 128) (d := 256) x2 i (real_of_abs x2 _ i (Host.reduce_andi_all _ _ _ _ _ e2 i))
      qg := fun i => (real2_at (a := 1) (b := 64) x3 i (real_of_abs x3 _ i (Host.reduce_andi_all _ _ _ _ _ e3 i))).trans
        (congrArg (fun z => ((real2 (a := 1) (b := 64) x3 z (i 1).val : ℝ) : EReal)) (Nat.lt_one_iff.1 (i 0).isLt))
      kg := fun i => (real2_at (a := 1) (b := 64) x4 i (real_of_abs x4 _ i (Host.reduce_andi_all _ _ _ _ _ e4 i))).trans
        (congrArg (fun z => ((real2 (a := 1) (b := 64) x4 z (i 1).val : ℝ) : EReal)) (Nat.lt_one_iff.1 (i 0).isLt))
      o1 := fun i => real3_at (a := 8192) (b := 8) (d := 64) x5 i (real_of_abs x5 _ i (Host.reduce_andi_all _ _ _ _ _ e5 i))
      l1 := fun i => real2_at (a := 8192) (b := 8) x6 i (real_of_abs x6 _ i (Host.reduce_andi_all _ _ _ _ _ e6 i))
      o2 := fun i => real3_at (a := 8192) (b := 8) (d := 64) x7 i (real_of_abs x7 _ i (Host.reduce_andi_all _ _ _ _ _ e7 i))
      l2 := fun i => real2_at (a := 8192) (b := 8) x8 i (real_of_abs x8 _ i (Host.reduce_andi_all _ _ _ _ _ e8 i)) }

end Cert.ReferenceIdeal.Ref
end
-- ==== Proof.Vocab.lean ====
/-
  What the kernel's body computes, block by block: a tile holds eight blocks of 128 rows and a pair of heads (64 lanes
  each), with the block of keys before it and the block of queries after it. Every definition is over any float values.
-/
module

public import proofs.«01_k».proof.Proof.Gen.KernelIdeal.Skeleton
public import Idealize.ShloMosaic.Lib.ValueIdxCore

@[expose] public section

noncomputable section

namespace Cert.KernelIdeal.Blk

open Idealize.ShloMosaic Idealize.SL.Sem Cert.KernelIdeal Cert.KernelIdeal.Gen

variable {F : FTy → Type} [FloatOps F] [Named F]

/-- A place in a block, and in a block's window. -/
abbrev ixN (r c : Fin 128) : S128x128.Idx := ValueIdx.ix2 r c
abbrev ixW (r : Fin 128) (z : Fin 256) : S128x256.Idx := ValueIdx.ix2 r z
abbrev ixB (h : Fin 2) (r : Fin 128) (z : Fin 256) : S2x128x256.Idx := ValueIdx.ix3 h r z
abbrev ixP (r : Fin 128) (z : Fin 256) : S1x128x256.Idx := ValueIdx.ix3 0 r z

/-- The zero block. -/
def zero : FVec F S128x128 .f32 := broadcast S128x128 (Scalar.ofBits .f32 0x00000000#32)

/-- A column of row values, spread over 128 lanes. -/
def spread (r : FVec F S128 .f32) : FVec F S128x128 .f32 :=
  broadcastTo S128x128 (shapeCast S128x1 (shapeCast S128x1 r shapeCasts_S128_S128x1) shapeCasts_S128x1_S128x1)
    broadcasts_S128x1_S128x128

/-- Each row's sum over the first head's lanes there, and over the second head's lanes there. -/
def headSum (x : FVec F S128x128 .f32) : FVec F S128x128 .f32 :=
  select k0_pay9
    (spread (multiReduction .add [1] S128 (select k0_pay9 x zero) 0x00000000#32 reduces_S128x128_S128 (.inl rfl) rfl))
    (spread (multiReduction .add [1] S128 (select k0_pay9 zero x) 0x00000000#32 reduces_S128x128_S128 (.inl rfl) rfl))

/-- The mean over a head's lanes. -/
def headMean (x : FVec F S128x128 .f32) : FVec F S128x128 .f32 :=
  mulf (headSum x) (broadcast S128x128 (Scalar.ofBits .f32 0x3C800000#32))

def rmsR (x : FVec F S128x128 .f32) : FVec F S128x128 .f32 :=
  rsqrt (addf (headMean (mulf x x)) (broadcast S128x128 (Scalar.ofBits .f32 0x358637BD#32)))

def rmsX (x : FVec F S128x128 .f32) : FVec F S128x128 .f32 := mulf x (rmsR x)

def gains (g : FVec F S1x128 .f32) : FVec F S128x128 .f32 := broadcastTo S128x128 g broadcasts_S1x128_S128x128

def rmsN (g : FVec F S1x128 .f32) (x : FVec F S128x128 .f32) : FVec F S128x128 .f32 := mulf (rmsX x) (gains g)

/-- The gradient through the norm, from the cotangent `dy` of its result. -/
def rmsBwd (g : FVec F S1x128 .f32) (x dy : FVec F S128x128 .f32) : FVec F S128x128 .f32 :=
  mulf (rmsR x) (subf (mulf dy (gains g)) (mulf (rmsX x) (headMean (mulf (mulf dy (gains g)) (rmsX x)))))

def cast16 (x : FVec F S128x128 .f32) : FVec F S128x128 .bf16 := truncf .bf16 x bitsLt_bf16_f32

def cast16w (x : FVec F S128x256 .f32) : FVec F S128x256 .bf16 := truncf .bf16 x bitsLt_bf16_f32

/-- One head's lanes, the other's zeroed. -/
def part : Bool → FVec F S128x128 .f32 → FVec F S128x128 .bf16
  | false, x => cast16 (select k0_pay9 x zero)
  | true, x => cast16 (select k0_pay9 zero x)

/-- A row value read at one head's first lane, spread over a window's 256 positions. -/
def colw : Bool → FVec F S128x128 .f32 → FVec F S128x256 .f32
  | false, x => broadcastTo S128x256 (extractStridedSlice S128x1 ![0, 0] x slices_S128x128_o0_0_S128x1)
      broadcasts_S128x1_S128x256
  | true, x => broadcastTo S128x256 (extractStridedSlice S128x1 ![0, 64] x slices_S128x128_o0_64_S128x1)
      broadcasts_S128x1_S128x256

/-- The same over 128 positions. -/
def coln : Bool → FVec F S128x128 .f32 → FVec F S128x128 .f32
  | false, x => broadcastTo S128x128 (extractStridedSlice S128x1 ![0, 0] x slices_S128x128_o0_0_S128x1)
      broadcasts_S128x1_S128x128
  | true, x => broadcastTo S128x128 (extractStridedSlice S128x1 ![0, 64] x slices_S128x128_o0_64_S128x1)
      broadcasts_S128x1_S128x128

def cat (a b : FVec F S128x128 .bf16) : FVec F S256x128 .bf16 :=
  concatenate S256x128 0 [⟨S128x128, a⟩, ⟨S128x128, b⟩] concatenates_S128x128_S128x128_S256x128_d0

/-- Rows against rows of a window. -/
def dotw (a : FVec F S128x128 .bf16) (b : FVec F S256x128 .bf16) : FVec F S128x256 .f32 :=
  matmul dot_S128x128_S256x128_S128x256_1_1_0_0_n_n none a b (constant S128x256 .f32 0x00000000#32)

/-- Rows against rows of one block. -/
def dotn (a b : FVec F S128x128 .bf16) : FVec F S128x128 .f32 :=
  matmul dot_S128x128_S128x128_S128x128_1_1_0_0_n_n none a b (constant S128x128 .f32 0x00000000#32)

/-- Window weights times the window's rows. -/
def mixw (a : FVec F S128x256 .bf16) (b : FVec F S256x128 .bf16) : FVec F S128x128 .f32 :=
  matmul dot_S128x256_S256x128_S128x128_1_0_0_1_n_n none a b (constant S128x128 .f32 0x00000000#32)

/-- Transposed weights times rows. -/
def mixt (a b : FVec F S128x128 .bf16) : FVec F S128x128 .f32 :=
  matmul dot_S128x128_S128x128_S128x128_0_0_1_1_n_n none a b (constant S128x128 .f32 0x00000000#32)

/-- The second half of a window's positions: the block's own keys. -/
def own (x : FVec F S128x256 .bf16) : FVec F S128x128 .bf16 :=
  extractStridedSlice S128x128 ![0, 128] x slices_S128x256_o0_128_S128x128

/-- The first half: the keys of the block before. -/
def before (x : FVec F S128x256 .bf16) : FVec F S128x128 .bf16 :=
  extractStridedSlice S128x128 ![0, 0] x slices_S128x256_o0_0_S128x128

/-- Adds over the rows of a block. -/
def rowSum (x : FVec F S128x128 .f32) : FVec F S1x128 .f32 :=
  shapeCast S1x128 (multiReduction .add [0] S128 x 0x00000000#32 reduces_S128x128_S128_2 (.inl rfl) rfl)
    shapeCasts_S128_S1x128

/-- What the body reads of its blocks: queries, outputs, log-sums and cotangents of the tile's blocks `0 … 7` and of the
    next block `8`; keys and values of the block before (`0`) and of the tile's blocks (`1 … 8`); the bias rows of each
    head over a window and over its first half; the gains; and whether the tile is the first, and not the last. -/
structure Tile (F : FTy → Type) where
  q : ℕ → FVec F S128x128 .f32
  k : ℕ → FVec F S128x128 .f32
  v : ℕ → FVec F S128x128 .f32
  o : ℕ → FVec F S128x128 .f32
  l : ℕ → FVec F S128x128 .f32
  ct : ℕ → FVec F S128x128 .f32
  bias : Bool → FVec F S128x256 .f32
  biasH : Bool → FVec F S128x128 .f32
  qg : FVec F S1x128 .f32
  kg : FVec F S1x128 .f32
  tile : BitVec 32

namespace Tile

variable (T : Tile F)

def qgs : FVec F S1x128 .f32 := mulf T.qg (broadcast S1x128 (Scalar.ofBits .f32 0x3E000000#32))
def knb (j : ℕ) : FVec F S128x128 .bf16 := cast16 (rmsN T.kg (T.k j))
def qnb (a : Bool) (t : ℕ) : FVec F S128x128 .bf16 := part a (rmsN T.qgs (T.q t))
def vb (j : ℕ) : FVec F S128x128 .bf16 := cast16 (T.v j)
def ctb (a : Bool) (t : ℕ) : FVec F S128x128 .bf16 := part a (T.ct t)
def delta (t : ℕ) : FVec F S128x128 .f32 :=
  headSum (mulf (T.ct t) (shapeCast S128x128 (T.o t) shapeCasts_S128x128_S128x128))
def lse (t : ℕ) : FVec F S128x128 .f32 := shapeCast S128x128 (T.l t) shapeCasts_S128x128_S128x128
def keys (t : ℕ) : FVec F S256x128 .bf16 := cat (T.knb t) (T.knb (t + 1))
def vals (t : ℕ) : FVec F S256x128 .bf16 := cat (T.vb t) (T.vb (t + 1))

def raw (a : Bool) (t : ℕ) : FVec F S128x256 .f32 := addf (dotw (T.qnb a t) (T.keys t)) (T.bias a)

/-- Positions of the window before the first row. -/
def outside : IVec S128x256 1 :=
  andi (broadcast S128x256 (Scalar.cmpi .eq T.tile 0#32))
    (cmpi .slt (iota .tc S128x256 32 [1] iota_S128x256_d1_w32) (broadcast S128x256 128#32))

def score (a : Bool) : ℕ → FVec F S128x256 .f32
  | 0 => select T.outside (broadcast S128x256 (Named.named κ "mask" 0xF149F2CA#32)) (T.raw a 0)
  | t + 1 => T.raw a (t + 1)

def prob (a : Bool) (t : ℕ) : FVec F S128x256 .f32 := exp (subf (T.score a t) (colw a (T.lse t)))
def dp (a : Bool) (t : ℕ) : FVec F S128x256 .f32 := dotw (T.ctb a t) (T.vals t)
def ds (a : Bool) (t : ℕ) : FVec F S128x256 .f32 := mulf (T.prob a t) (subf (T.dp a t) (colw a (T.delta t)))

/-- The next block's half window on the tile's last block. -/
def probH (a : Bool) : FVec F S128x128 .f32 :=
  Scalar.select (Scalar.cmpi .slt T.tile 7#32)
    (exp (subf (addf (dotn (T.qnb a 8) (T.knb 8)) (T.biasH a)) (coln a (T.lse 8)))) zero
def dsH (a : Bool) : FVec F S128x128 .f32 :=
  mulf (T.probH a) (subf (dotn (T.ctb a 8) (T.vb 8)) (coln a (T.delta 8)))

/-- What block `t + 1`'s weights hold for the keys of block `t`. -/
def probB (a : Bool) : ℕ → FVec F S128x128 .bf16
  | 7 => cast16 (T.probH a)
  | t => before (cast16w (T.prob a (t + 1)))
def dsB (a : Bool) : ℕ → FVec F S128x128 .bf16
  | 7 => cast16 (T.dsH a)
  | t => before (cast16w (T.ds a (t + 1)))

def dqn (t : ℕ) : FVec F S128x128 .f32 :=
  select k0_pay9 (mixw (cast16w (T.ds false t)) (T.keys t)) (mixw (cast16w (T.ds true t)) (T.keys t))
def dkn (t : ℕ) : FVec F S128x128 .f32 :=
  addf (addf zero (addf (mixt (own (cast16w (T.ds false t))) (T.qnb false t)) (mixt (T.dsB false t) (T.qnb false (t + 1)))))
    (addf (mixt (own (cast16w (T.ds true t))) (T.qnb true t)) (mixt (T.dsB true t) (T.qnb true (t + 1))))
def dv (t : ℕ) : FVec F S128x128 .f32 :=
  addf (addf zero (addf (mixt (own (cast16w (T.prob false t))) (T.ctb false t)) (mixt (T.probB false t) (T.ctb false (t + 1)))))
    (addf (mixt (own (cast16w (T.prob true t))) (T.ctb true t)) (mixt (T.probB true t) (T.ctb true (t + 1))))
def dq (t : ℕ) : FVec F S128x128 .f32 := rmsBwd T.qgs (T.q t) (T.dqn t)
def dk (t : ℕ) : FVec F S128x128 .f32 := rmsBwd T.kg (T.k (t + 1)) (T.dkn t)

/-- The sum of a head's logit cotangents over the blocks up to `t`. -/
def dsSum (a : Bool) : ℕ → FVec F S128x256 .f32
  | 0 => T.ds a 0
  | t + 1 => addf (dsSum a t) (T.ds a (t + 1))

/-- The gain gradients over the blocks before `t`, per lane. -/
def dqgSum : ℕ → FVec F S1x128 .f32
  | 0 => broadcast S1x128 (Scalar.ofBits .f32 0x00000000#32)
  | t + 1 => addf (dqgSum t) (rowSum (mulf (T.dqn t) (rmsX (T.q t))))
def dkgSum : ℕ → FVec F S1x128 .f32
  | 0 => broadcast S1x128 (Scalar.ofBits .f32 0x00000000#32)
  | t + 1 => addf (dkgSum t) (rowSum (mulf (T.dkn t) (rmsX (T.k (t + 1)))))

end Tile

/-- The two heads' lanes added. -/
def fold (x : FVec F S1x128 .f32) : FVec F S1x64 .f32 :=
  addf (extractStridedSlice S1x64 ![0, 0] x slices_S1x128_o0_0_S1x64)
    (extractStridedSlice S1x64 ![0, 64] x slices_S1x128_o0_64_S1x64)

end Cert.KernelIdeal.Blk
end
-- ==== Proof.Pieces.lean ====
/-
  Reading back what the body stores: eight blocks of rows stacked into a tile, and the two heads' planes added to what an
  accumulator held.
-/
module

public import proofs.«01_k».proof.Proof.Vocab
public import Idealize.ShloMosaic.Lib.Pipeline.ValueKit

@[expose] public section

set_option backward.isDefEq.respectTransparency false

noncomputable section

namespace Cert.KernelIdeal.Blk

open Idealize.ShloMosaic Idealize.SL.Sem Cert.KernelIdeal Cert.KernelIdeal.Gen

variable {F : FTy → Type} [FloatOps F] [Named F]

theorem inbT (t : ℕ) (h : t < 8) : ∀ a, (![128 * t, 0] : Fin 2 → ℕ) a + S128x128.size a ≤ S1024x128.size a := by
  intro a; fin_cases a <;> simp <;> omega

/-- The stores of a tile's eight blocks, the last first. -/
def pieces (f : ℕ → FVec F S128x128 .f32) : List (View.Piece (Elt F) S1024x128 .f32) :=
  ([7, 6, 5, 4, 3, 2, 1, 0] : List (Fin 8)).map fun j =>
    ⟨Rect.unit (s := S1024x128) ![128 * j.val, 0] S128x128.size (inbT j.val j.isLt), f j.val⟩

/-- Eight blocks of rows as one tile. -/
def stack (f : ℕ → FVec F S128x128 .f32) : FVec F S1024x128 .f32 := fun y =>
  f ((y 0).val / 128) (ixN ⟨(y 0).val % 128, Nat.mod_lt _ (by decide)⟩ (y 1))

theorem canon_pieces (f : ℕ → FVec F S128x128 .f32) : View.canon (pieces f) = stack f := by
  funext y
  refine View.canon_apply_of_pieces (stack f) (pieces f) (fun p hp x => ?_) y ?_
  · obtain ⟨j, -, rfl⟩ := List.mem_map.1 hp
    have h0 : ((Rect.unit (s := S1024x128) ![128 * j.val, 0] S128x128.size (inbT j.val j.isLt)).emb x 0).val
        = 128 * j.val + (x 0).val := Rect.idx_unit_val _ _ _ x 0
    have h1 : ((Rect.unit (s := S1024x128) ![128 * j.val, 0] S128x128.size (inbT j.val j.isLt)).emb x 1).val
        = 0 + (x 1).val := Rect.idx_unit_val _ _ _ x 1
    have hx : (x 0).val < 128 := (x 0).isLt
    show f j.val x = stack f _
    unfold stack
    rw [show ((Rect.unit (s := S1024x128) ![128 * j.val, 0] S128x128.size (inbT j.val j.isLt)).emb x 0).val / 128 = j.val
      by rw [h0]; omega]
    congr 1
    funext a
    fin_cases a
    · exact Fin.ext (by show (x 0).val = _ % 128; rw [h0]; omega)
    · exact Fin.ext (by show (x 1).val = _; rw [h1]; omega)
  · have hy : (y 0).val < 1024 := (y 0).isLt
    let j : Fin 8 := ⟨(y 0).val / 128, by omega⟩
    refine ⟨_, List.mem_map.2 ⟨j, (by decide : ∀ j : Fin 8, j ∈ ([7, 6, 5, 4, 3, 2, 1, 0] : List (Fin 8))) j, rfl⟩, ?_⟩
    refine (Rect.mem_set_unit (inb := inbT j.val j.isLt)).2 fun a => ?_
    have h1 : (y 1).val < 128 := (y 1).isLt
    fin_cases a
    · show 128 * ((y 0).val / 128) ≤ (y 0).val ∧ (y 0).val < 128 * ((y 0).val / 128) + 128; omega
    · show 0 ≤ (y 1).val ∧ (y 1).val < 0 + 128; omega

theorem inb0 : ∀ a, (![0, 0, 0] : Fin 3 → ℕ) a + S1x128x256.size a ≤ S2x128x256.size a := by decide
theorem inb1 : ∀ a, (![1, 0, 0] : Fin 3 → ℕ) a + S1x128x256.size a ≤ S2x128x256.size a := by decide

/-- A plane that was read, plus what is to be added. -/
def plane (x : FVec F S1x128x256 .f32) (s : FVec F S128x256 .f32) : FVec F S1x128x256 .f32 :=
  shapeCast S1x128x256 (addf (shapeCast S128x256 x shapeCasts_S1x128x256_S128x256) s) shapeCasts_S128x256_S1x128x256

/-- The stores of the two planes, the second first, over earlier ones. -/
def planes (x0 x1 : FVec F S1x128x256 .f32) (s : Bool → FVec F S128x256 .f32)
    (L : List (View.Piece (Elt F) S2x128x256 .f32)) : List (View.Piece (Elt F) S2x128x256 .f32) :=
  ⟨Rect.unit (s := S2x128x256) ![1, 0, 0] S1x128x256.size inb1, plane x1 (s true)⟩ ::
    ⟨Rect.unit (s := S2x128x256) ![0, 0, 0] S1x128x256.size inb0, plane x0 (s false)⟩ :: L

/-- Two planes, each with its sum added. -/
def bump (x : FVec F S2x128x256 .f32) (s : Bool → FVec F S128x256 .f32) : FVec F S2x128x256 .f32 :=
  addf x fun y => s (decide ((y 0).val = 1)) (ixW (y 1) (y 2))

theorem plane_apply (x : FVec F S1x128x256 .f32) (s : FVec F S128x256 .f32) (z : S1x128x256.Idx) :
    plane x s z = FloatOps.addf (x z) (s (ixW (z 1) (z 2))) := by
  have h0 : (z 0).val = 0 := by have : (z 0).val < 1 := (z 0).isLt; omega
  unfold plane
  rw [shapeCast_apply _ _ z (ixW (z 1) (z 2)) (by
    rw [rowMajor_val2 _ 256 rfl, rowMajor_val3 _ (128 * 256) 256 rfl rfl, h0]
    show (z 1).val * 256 + (z 2).val = _; omega)]
  show FloatOps.addf (shapeCast _ x _ _) _ = _
  rw [shapeCast_apply x _ (ixW (z 1) (z 2)) z (by
    rw [rowMajor_val2 _ 256 rfl, rowMajor_val3 _ (128 * 256) 256 rfl rfl, h0]
    show _ = (z 1).val * 256 + (z 2).val; omega)]

/-- The planes read back: each plane as it was read, plus its sum. -/
theorem canon_planes (X : FVec F S2x128x256 .f32) (x0 x1 : FVec F S1x128x256 .f32) (s : Bool → FVec F S128x256 .f32)
    (L : List (View.Piece (Elt F) S2x128x256 .f32))
    (h0 : ∀ z, x0 z = X (ixB 0 (z 1) (z 2))) (h1 : ∀ z, x1 z = X (ixB 1 (z 1) (z 2))) :
    View.canon (planes x0 x1 s L) = bump X s := by
  funext y
  have hy : (y 0).val < 2 := (y 0).isLt
  have h1' : (y 1).val < 128 := (y 1).isLt
  have h2' : (y 2).val < 256 := (y 2).isLt
  unfold planes bump
  show _ = FloatOps.addf (X y) (s (decide ((y 0).val = 1)) (ixW (y 1) (y 2)))
  by_cases h : (y 0).val = 1
  · have e : y = (Rect.unit (s := S2x128x256) ![1, 0, 0] S1x128x256.size inb1).emb (ixP (y 1) (y 2)) := by
      funext a
      refine Fin.ext (Eq.trans ?_ (Rect.idx_unit_val _ _ _ _ a).symm)
      fin_cases a
      · exact h
      · show (y 1).val = 0 + (y 1).val; omega
      · show (y 2).val = 0 + (y 2).val; omega
    have e' : ixB 1 (y 1) (y 2) = y := by
      funext a; fin_cases a
      · exact Fin.ext h.symm
      · rfl
      · rfl
    rw [decide_eq_true h]
    conv_lhs => rw [e]
    rw [View.canon_cons_emb, plane_apply, h1]
    exact congrArg (fun w => FloatOps.addf (X w) (s true (ixW (y 1) (y 2)))) e'
  · have h0' : (y 0).val = 0 := by omega
    have e : y = (Rect.unit (s := S2x128x256) ![0, 0, 0] S1x128x256.size inb0).emb (ixP (y 1) (y 2)) := by
      funext a
      refine Fin.ext (Eq.trans ?_ (Rect.idx_unit_val _ _ _ _ a).symm)
      fin_cases a
      · exact h0'
      · show (y 1).val = 0 + (y 1).val; omega
      · show (y 2).val = 0 + (y 2).val; omega
    have e' : ixB 0 (y 1) (y 2) = y := by
      funext a; fin_cases a
      · exact Fin.ext h0'.symm
      · rfl
      · rfl
    rw [decide_eq_false h]
    rw [View.canon_cons_of_not_mem _ _ (fun hm => by
      have := ((Rect.mem_set_unit (inb := inb1)).1 hm 0).1
      change 1 ≤ (y 0).val at this; omega)]
    conv_lhs => rw [e]
    rw [View.canon_cons_emb, plane_apply, h0]
    exact congrArg (fun w => FloatOps.addf (X w) (s false (ixW (y 1) (y 2)))) e'

end Cert.KernelIdeal.Blk
end
-- ==== Proof.Opened.lean ====
/-
  What one grid point leaves in the six result blocks, whatever its case, in the terms of `Tile`.
-/
module

public import proofs.«01_k».proof.Proof.Gen.KernelIdeal.Frame
public import Idealize.ShloMosaic.Lib.Pipeline.ValueKit
public import Idealize.ShloMosaic.Lib.Pipeline.ReadBack
public import proofs.«01_k».proof.Proof.Pieces

@[expose] public section

set_option maxRecDepth 16384

noncomputable section

namespace Cert.KernelIdeal.Blk

open Idealize.ShloMosaic Idealize.ShloMosaic.TcCoe Idealize.ShloMosaic.Tactic Cert.KernelIdeal.Gen
open Idealize.SL Idealize.SL.Sem

variable {F : FTy → Type} [FloatOps F] [Named F]

theorem read_pieces (v : View sig .tc .vmem S1024x128 .f32) (f : ℕ → FVec F S128x128 .f32) :
    v.read (Elt F) (v.writes (Elt F) v.junk (pieces f)) = stack f := by
  rw [View.read_writes_junk_eq_canon, canon_pieces]

theorem read_row (v : View sig .tc .vmem S1x64 .f32) (w : FVec F S1x64 .f32) :
    v.read (Elt F) (v.writes (Elt F) v.junk [⟨Rect.unit (s := S1x64) ![0, 0] S1x64.size inb_S1x64_S1x64_0_0, w⟩]) = w := by
  rw [View.read_writes_junk_eq_canon]
  exact View.canon_cons_unit_zero (funext fun a => by fin_cases a <;> rfl) _ _ _

theorem ld_row (w : FVec F S1x64 .f32) :
    View.ld (Val := Elt F) (e' := .f32) w (Rect.unit (s := S1x64) ![0, 0] S1x64.size inb_S1x64_S1x64_0_0) = w :=
  View.ld_unit_zero (funext fun a => by fin_cases a <;> rfl) _ _

theorem ld_plane0 (w : FVec F S2x128x256 .f32) (z : S1x128x256.Idx) :
    View.ld (Val := Elt F) (e' := .f32) w (Rect.unit (s := S2x128x256) ![0, 0, 0] S1x128x256.size inb0) z = w (ixB 0 (z 1) (z 2)) := by
  have h0 : (z 0).val < 1 := (z 0).isLt
  refine View.ld_unit_apply_of _ _ _ _ _ _ fun a => ?_
  fin_cases a
  · show 0 = 0 + (z 0).val; omega
  · show (z 1).val = 0 + (z 1).val; omega
  · show (z 2).val = 0 + (z 2).val; omega

theorem ld_plane1 (w : FVec F S2x128x256 .f32) (z : S1x128x256.Idx) :
    View.ld (Val := Elt F) (e' := .f32) w (Rect.unit (s := S2x128x256) ![1, 0, 0] S1x128x256.size inb1) z = w (ixB 1 (z 1) (z 2)) := by
  have h0 : (z 0).val < 1 := (z 0).isLt
  refine View.ld_unit_apply_of _ _ _ _ _ _ fun a => ?_
  fin_cases a
  · show 1 = 1 + (z 0).val; omega
  · show (z 1).val = 0 + (z 1).val; omega
  · show (z 2).val = 0 + (z 2).val; omega

theorem canon_whole (w : FVec F S2x128x256 .f32) (inb) :
    View.canon (Val := Elt F) [(⟨Rect.unit (s := S2x128x256) ![0, 0, 0] S2x128x256.size inb, w⟩ : View.Piece (Elt F) S2x128x256 .f32)] = w :=
  View.canon_cons_unit_zero (funext fun a => by fin_cases a <;> rfl) _ _ _

theorem readCov_plane0 (v : View sig .tc .vmem S2x128x256 .f32) (w : FVec F S2x128x256 .f32) (inb) (z : S1x128x256.Idx) :
    View.readCov (Val := Elt F) v [(⟨Rect.unit (s := S2x128x256) ![0, 0, 0] S2x128x256.size inb, w⟩ : View.Piece (Elt F) S2x128x256 .f32)]
      (Rect.unit (s := S2x128x256) ![0, 0, 0] S1x128x256.size inb0).toLoadRect z = w (ixB 0 (z 1) (z 2)) := by
  rw [View.readCov_eq_canon', canon_whole]
  exact ld_plane0 w z

theorem readCov_plane1 (v : View sig .tc .vmem S2x128x256 .f32) (w : FVec F S2x128x256 .f32) (inb) (p : FVec F S1x128x256 .f32)
    (z : S1x128x256.Idx) :
    View.readCov (Val := Elt F) v [(⟨(Rect.unit (s := S2x128x256) ![0, 0, 0] S1x128x256.size inb0), p⟩ : View.Piece (Elt F) S2x128x256 .f32),
        ⟨Rect.unit (s := S2x128x256) ![0, 0, 0] S2x128x256.size inb, w⟩]
      (Rect.unit (s := S2x128x256) ![1, 0, 0] S1x128x256.size inb1).toLoadRect z = w (ixB 1 (z 1) (z 2)) := by
  rw [View.readCov_skip _ _ _ _ _ (by decide), View.readCov_eq_canon', canon_whole]
  exact ld_plane1 w z

/-- What the body loads at a grid point, out of its blocks. -/
def tileOf (i : grid0.Coords) (x0 : Vec F S1024x128 .f32) (x1 : Vec F S128x128 .f32) (x2 : Vec F S128x128 .f32) (x3 : Vec F S1024x128 .f32) (x4 : Vec F S128x128 .f32) (x5 : Vec F S1024x128 .f32) (x6 : Vec F S1024x128 .f32) (x7 : Vec F S128x128 .f32) (x8 : Vec F S1024x128 .f32) (x9 : Vec F S128x128 .f32) (x10 : Vec F S1024x128 .f32) (x11 : Vec F S128x128 .f32) (x12 : Vec F S2x128x256 .f32) (x13 : Vec F S1x128 .f32) (x14 : Vec F S1x128 .f32) : Tile F :=
  ⟨fun t => if h : t < 8 then View.ld x0 (Rect.unit (s := S1024x128) ![128 * (t), 0] S128x128.size (inbT (t) h)) else View.ld x1 (Rect.unit (s := S128x128) ![0, 0] S128x128.size inb_S128x128_S128x128_0_0),
   fun j => match j with
    | 0 => View.ld x2 (Rect.unit (s := S128x128) ![0, 0] S128x128.size inb_S128x128_S128x128_0_0)
    | t + 1 => if h : t < 8 then View.ld x3 (Rect.unit (s := S1024x128) ![128 * t, 0] S128x128.size (inbT t h)) else zero,
   fun j => match j with
    | 0 => View.ld x4 (Rect.unit (s := S128x128) ![0, 0] S128x128.size inb_S128x128_S128x128_0_0)
    | t + 1 => if h : t < 8 then View.ld x5 (Rect.unit (s := S1024x128) ![128 * t, 0] S128x128.size (inbT t h)) else zero,
   fun t => if h : t < 8 then View.ld x6 (Rect.unit (s := S1024x128) ![128 * (t), 0] S128x128.size (inbT (t) h)) else View.ld x7 (Rect.unit (s := S128x128) ![0, 0] S128x128.size inb_S128x128_S128x128_0_0),
   fun t => if h : t < 8 then View.ld x8 (Rect.unit (s := S1024x128) ![128 * (t), 0] S128x128.size (inbT (t) h)) else View.ld x9 (Rect.unit (s := S128x128) ![0, 0] S128x128.size inb_S128x128_S128x128_0_0),
   fun t => if h : t < 8 then View.ld x10 (Rect.unit (s := S1024x128) ![128 * (t), 0] S128x128.size (inbT (t) h)) else View.ld x11 (Rect.unit (s := S128x128) ![0, 0] S128x128.size inb_S128x128_S128x128_0_0),
   fun a => match a with
    | false => shapeCast S128x256 (View.ld x12 (Rect.unit (s := S2x128x256) ![0, 0, 0] S1x128x256.size inb_S2x128x256_S1x128x256_0_0_0)) shapeCasts_S1x128x256_S128x256
    | true => shapeCast S128x256 (View.ld x12 (Rect.unit (s := S2x128x256) ![1, 0, 0] S1x128x256.size inb_S2x128x256_S1x128x256_1_0_0)) shapeCasts_S1x128x256_S128x256,
   fun a => match a with
    | false => shapeCast S128x128 (View.ld x12 (Rect.unit (s := S2x128x256) ![0, 0, 0] S1x128x128.size inb_S2x128x256_S1x128x128_0_0_0)) shapeCasts_S1x128x128_S128x128
    | true => shapeCast S128x128 (View.ld x12 (Rect.unit (s := S2x128x256) ![1, 0, 0] S1x128x128.size inb_S2x128x256_S1x128x128_1_0_0)) shapeCasts_S1x128x128_S128x128,
   View.ld x13 (Rect.unit (s := S1x128) ![0, 0] S1x128.size inb_S1x128_S1x128_0_0),
   View.ld x14 (Rect.unit (s := S1x128) ![0, 0] S1x128.size inb_S1x128_S1x128_0_0),
   BitVec.ofNat 32 (i 1).val⟩

/-- The same, with each load as the body makes it. -/
def rawTile (c : Dev nD) (i : grid0.Coords) (arg2 : Memref sig .tc .vmem S1024x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S128x128 .f32) (harg11 : arg11.IsWhole) (arg12 : Memref sig .tc .vmem S1024x128 .f32) (harg12 : arg12.IsWhole) (arg13 : Memref sig .tc .vmem S128x128 .f32) (harg13 : arg13.IsWhole) (arg14 : Memref sig .tc .vmem S2x128x256 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S2x128x256 .f32) (harg20 : arg20.IsWhole) (arg21 : Memref sig .tc .vmem S1x64 .f32) (harg21 : arg21.IsWhole) (arg22 : Memref sig .tc .vmem S1x64 .f32) (harg22 : arg22.IsWhole)
   (x0 : Vec F S1024x128 .f32) (x1 : Vec F S128x128 .f32) (x2 : Vec F S128x128 .f32) (x3 : Vec F S1024x128 .f32) (x4 : Vec F S128x128 .f32) (x5 : Vec F S1024x128 .f32) (x6 : Vec F S1024x128 .f32) (x7 : Vec F S128x128 .f32) (x8 : Vec F S1024x128 .f32) (x9 : Vec F S128x128 .f32) (x10 : Vec F S1024x128 .f32) (x11 : Vec F S128x128 .f32) (x12 : Vec F S2x128x256 .f32) (x13 : Vec F S1x128 .f32) (x14 : Vec F S1x128 .f32) : Tile F :=
  ⟨fun t => if h : t < 8 then View.readAt (Elt F) arg2.view (Rect.unit (s := S1024x128) ![128 * (t), 0] S128x128.size (inbT (t) h)).toLoadRect (harg2.unread x0) else View.readAt (Elt F) arg3.view (Rect.unit (s := S128x128) ![0, 0] S128x128.size inb_S128x128_S128x128_0_0).toLoadRect (harg3.unread x1),
   fun j => match j with
    | 0 => View.readAt (Elt F) arg4.view (Rect.unit (s := S128x128) ![0, 0] S128x128.size inb_S128x128_S128x128_0_0).toLoadRect (harg4.unread x2)
    | t + 1 => if h : t < 8 then View.readAt (Elt F) arg5.view (Rect.unit (s := S1024x128) ![128 * t, 0] S128x128.size (inbT t h)).toLoadRect (harg5.unread x3) else zero,
   fun j => match j with
    | 0 => View.readAt (Elt F) arg6.view (Rect.unit (s := S128x128) ![0, 0] S128x128.size inb_S128x128_S128x128_0_0).toLoadRect (harg6.unread x4)
    | t + 1 => if h : t < 8 then View.readAt (Elt F) arg7.view (Rect.unit (s := S1024x128) ![128 * t, 0] S128x128.size (inbT t h)).toLoadRect (harg7.unread x5) else zero,
   fun t => if h : t < 8 then View.readAt (Elt F) arg8.view (Rect.unit (s := S1024x128) ![128 * (t), 0] S128x128.size (inbT (t) h)).toLoadRect (harg8.unread x6) else View.readAt (Elt F) arg9.view (Rect.unit (s := S128x128) ![0, 0] S128x128.size inb_S128x128_S128x128_0_0).toLoadRect (harg9.unread x7),
   fun t => if h : t < 8 then View.readAt (Elt F) arg10.view (Rect.unit (s := S1024x128) ![128 * (t), 0] S128x128.size (inbT (t) h)).toLoadRect (harg10.unread x8) else View.readAt (Elt F) arg11.view (Rect.unit (s := S128x128) ![0, 0] S128x128.size inb_S128x128_S128x128_0_0).toLoadRect (harg11.unread x9),
   fun t => if h : t < 8 then View.readAt (Elt F) arg12.view (Rect.unit (s := S1024x128) ![128 * (t), 0] S128x128.size (inbT (t) h)).toLoadRect (harg12.unread x10) else View.readAt (Elt F) arg13.view (Rect.unit (s := S128x128) ![0, 0] S128x128.size inb_S128x128_S128x128_0_0).toLoadRect (harg13.unread x11),
   fun a => match a with
    | false => shapeCast S128x256 (View.readAt (Elt F) arg14.view (Rect.unit (s := S2x128x256) ![0, 0, 0] S1x128x256.size inb_S2x128x256_S1x128x256_0_0_0).toLoadRect (harg14.unread x12)) shapeCasts_S1x128x256_S128x256
    | true => shapeCast S128x256 (View.readAt (Elt F) arg14.view (Rect.unit (s := S2x128x256) ![1, 0, 0] S1x128x256.size inb_S2x128x256_S1x128x256_1_0_0).toLoadRect (harg14.unread x12)) shapeCasts_S1x128x256_S128x256,
   fun a => match a with
    | false => shapeCast S128x128 (View.readAt (Elt F) arg14.view (Rect.unit (s := S2x128x256) ![0, 0, 0] S1x128x128.size inb_S2x128x256_S1x128x128_0_0_0).toLoadRect (harg14.unread x12)) shapeCasts_S1x128x128_S128x128
    | true => shapeCast S128x128 (View.readAt (Elt F) arg14.view (Rect.unit (s := S2x128x256) ![1, 0, 0] S1x128x128.size inb_S2x128x256_S1x128x128_1_0_0).toLoadRect (harg14.unread x12)) shapeCasts_S1x128x128_S128x128,
   View.readAt (Elt F) arg15.view (Rect.unit (s := S1x128) ![0, 0] S1x128.size inb_S1x128_S1x128_0_0).toLoadRect (harg15.unread x13),
   View.readAt (Elt F) arg16.view (Rect.unit (s := S1x128) ![0, 0] S1x128.size inb_S1x128_S1x128_0_0).toLoadRect (harg16.unread x14),
   BitVec.ofNat 32 (i 1).val⟩

theorem rawTile_eq (c : Dev nD) (i : grid0.Coords) (arg2 : Memref sig .tc .vmem S1024x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S128x128 .f32) (harg11 : arg11.IsWhole) (arg12 : Memref sig .tc .vmem S1024x128 .f32) (harg12 : arg12.IsWhole) (arg13 : Memref sig .tc .vmem S128x128 .f32) (harg13 : arg13.IsWhole) (arg14 : Memref sig .tc .vmem S2x128x256 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S2x128x256 .f32) (harg20 : arg20.IsWhole) (arg21 : Memref sig .tc .vmem S1x64 .f32) (harg21 : arg21.IsWhole) (arg22 : Memref sig .tc .vmem S1x64 .f32) (harg22 : arg22.IsWhole)
   (x0 : Vec F S1024x128 .f32) (x1 : Vec F S128x128 .f32) (x2 : Vec F S128x128 .f32) (x3 : Vec F S1024x128 .f32) (x4 : Vec F S128x128 .f32) (x5 : Vec F S1024x128 .f32) (x6 : Vec F S1024x128 .f32) (x7 : Vec F S128x128 .f32) (x8 : Vec F S1024x128 .f32) (x9 : Vec F S128x128 .f32) (x10 : Vec F S1024x128 .f32) (x11 : Vec F S128x128 .f32) (x12 : Vec F S2x128x256 .f32) (x13 : Vec F S1x128 .f32) (x14 : Vec F S1x128 .f32) : rawTile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 = tileOf i x0 x1 x2 x3 x4 x5 x6 x7 x8 x9 x10 x11 x12 x13 x14 := by
  unfold rawTile tileOf
  simp only [View.readAt_eq_ld, Memref.IsWhole.read_unread]

section
variable (c : Dev nD) (i : grid0.Coords) (arg2 : Memref sig .tc .vmem S1024x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S1024x128 .f32) (harg10 : arg10.IsWhole) (arg11 : Memref sig .tc .vmem S128x128 .f32) (harg11 : arg11.IsWhole) (arg12 : Memref sig .tc .vmem S1024x128 .f32) (harg12 : arg12.IsWhole) (arg13 : Memref sig .tc .vmem S128x128 .f32) (harg13 : arg13.IsWhole) (arg14 : Memref sig .tc .vmem S2x128x256 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S2x128x256 .f32) (harg20 : arg20.IsWhole) (arg21 : Memref sig .tc .vmem S1x64 .f32) (harg21 : arg21.IsWhole) (arg22 : Memref sig .tc .vmem S1x64 .f32) (harg22 : arg22.IsWhole)
   (x0 : Vec F S1024x128 .f32) (x1 : Vec F S128x128 .f32) (x2 : Vec F S128x128 .f32) (x3 : Vec F S1024x128 .f32) (x4 : Vec F S128x128 .f32) (x5 : Vec F S1024x128 .f32) (x6 : Vec F S1024x128 .f32) (x7 : Vec F S128x128 .f32) (x8 : Vec F S1024x128 .f32) (x9 : Vec F S128x128 .f32) (x10 : Vec F S1024x128 .f32) (x11 : Vec F S128x128 .f32) (x12 : Vec F S2x128x256 .f32) (x13 : Vec F S1x128 .f32) (x14 : Vec F S1x128 .f32)

/-! ### Case A -/

section
variable (hc0 : cond0_0 i) (hc1 : cond0_1 i) (hc2 : ¬cond0_2 i)

theorem openA (T : Tile F) (hT : T = rawTile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14).1 = pieces T.dq
      ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14).2.1 = pieces T.dk
      ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14).2.2.1 = pieces T.dv
      ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14).2.2.2.1 = planes (View.readCov (Val := Elt F) arg20.view [⟨Rect.unit (s := S2x128x256) ![0, 0, 0] S2x128x256.size inb_S2x128x256_S2x128x256_0_0_0, k0_pay6⟩] (Rect.unit (s := S2x128x256) ![0, 0, 0] S1x128x256.size inb0).toLoadRect) (View.readCov (Val := Elt F) arg20.view [⟨(Rect.unit (s := S2x128x256) ![0, 0, 0] S1x128x256.size inb0), plane (View.readCov (Val := Elt F) arg20.view [⟨Rect.unit (s := S2x128x256) ![0, 0, 0] S2x128x256.size inb_S2x128x256_S2x128x256_0_0_0, k0_pay6⟩] (Rect.unit (s := S2x128x256) ![0, 0, 0] S1x128x256.size inb0).toLoadRect) (T.dsSum false 7)⟩, ⟨Rect.unit (s := S2x128x256) ![0, 0, 0] S2x128x256.size inb_S2x128x256_S2x128x256_0_0_0, k0_pay6⟩] (Rect.unit (s := S2x128x256) ![1, 0, 0] S1x128x256.size inb1).toLoadRect) (fun a => T.dsSum a 7) [⟨Rect.unit (s := S2x128x256) ![0, 0, 0] S2x128x256.size inb_S2x128x256_S2x128x256_0_0_0, k0_pay6⟩]
      ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14).2.2.2.2.1 = [⟨Rect.unit (s := S1x64) ![0, 0] S1x64.size inb_S1x64_S1x64_0_0, k0_pay1 (T.dqgSum 8)⟩]
      ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14).2.2.2.2.2.1 = [⟨Rect.unit (s := S1x64) ![0, 0] S1x64.size inb_S1x64_S1x64_0_0, k0_pay2 (T.dkgSum 8)⟩] := by
  subst hT
  refine ⟨by sl_kernel_rfl, by sl_kernel_rfl, by sl_kernel_rfl, by sl_kernel_rfl, by sl_kernel_rfl, by sl_kernel_rfl⟩

theorem outA :
    (out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14, out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14, out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14, out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14, out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14, out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14)
    = (stack (tileOf i x0 x1 x2 x3 x4 x5 x6 x7 x8 x9 x10 x11 x12 x13 x14).dq, stack (tileOf i x0 x1 x2 x3 x4 x5 x6 x7 x8 x9 x10 x11 x12 x13 x14).dk, stack (tileOf i x0 x1 x2 x3 x4 x5 x6 x7 x8 x9 x10 x11 x12 x13 x14).dv, bump k0_pay6 (fun a => (tileOf i x0 x1 x2 x3 x4 x5 x6 x7 x8 x9 x10 x11 x12 x13 x14).dsSum a 7), k0_pay1 ((tileOf i x0 x1 x2 x3 x4 x5 x6 x7 x8 x9 x10 x11 x12 x13 x14).dqgSum 8), k0_pay2 ((tileOf i x0 x1 x2 x3 x4 x5 x6 x7 x8 x9 x10 x11 x12 x13 x14).dkgSum 8)) := by
  obtain ⟨h15, h16, h17, h18, h19, h20⟩ := openA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 hc0 hc1 hc2
    (tileOf i x0 x1 x2 x3 x4 x5 x6 x7 x8 x9 x10 x11 x12 x13 x14) (rawTile_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14).symm
  unfold out0_A_15 out0_A_16 out0_A_17 out0_A_18 out0_A_19 out0_A_20
  refine congrArg₂ Prod.mk ((congrArg (fun L => VO0_15.read (Elt F) (VO0_15.writes (Elt F) VO0_15.junk L)) h15).trans (read_pieces _ _)) (congrArg₂ Prod.mk ((congrArg (fun L => VO0_16.read (Elt F) (VO0_16.writes (Elt F) VO0_16.junk L)) h16).trans (read_pieces _ _))
    (congrArg₂ Prod.mk ((congrArg (fun L => VO0_17.read (Elt F) (VO0_17.writes (Elt F) VO0_17.junk L)) h17).trans (read_pieces _ _)) (congrArg₂ Prod.mk ((congrArg (fun L => VO0_18.read (Elt F) (VO0_18.writes (Elt F) VO0_18.junk L)) h18).trans ?_)
    (congrArg₂ Prod.mk ((congrArg (fun L => VO0_19.read (Elt F) (VO0_19.writes (Elt F) VO0_19.junk L)) h19).trans ((read_row _ _).trans ?_))
      ((congrArg (fun L => VO0_20.read (Elt F) (VO0_20.writes (Elt F) VO0_20.junk L)) h20).trans ((read_row _ _).trans ?_))))))
  · show VO0_18.read (Elt F) (VO0_18.writes (Elt F) VO0_18.junk _) = _
    rw [View.read_writes_junk_eq_canon]
    exact canon_planes k0_pay6 _ _ _ _ (fun z => readCov_plane0 _ _ _ z) (fun z => readCov_plane1 _ _ _ _ z)
  · rfl
  · rfl

end

/-! ### Case B -/

section
variable (hc0 : ¬cond0_0 i) (hc1 : ¬cond0_1 i) (hc2 : cond0_2 i) (xo18 : Vec F S2x128x256 .f32) (xo19 : Vec F S1x64 .f32) (xo20 : Vec F S1x64 .f32)

theorem openB (T : Tile F) (hT : T = rawTile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo18 xo19 xo20).1 = pieces T.dq
      ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo18 xo19 xo20).2.1 = pieces T.dk
      ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo18 xo19 xo20).2.2.1 = pieces T.dv
      ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo18 xo19 xo20).2.2.2.1 = planes (View.readAt (Elt F) arg20.view (Rect.unit (s := S2x128x256) ![0, 0, 0] S1x128x256.size inb0).toLoadRect (harg20.unread xo18)) (View.readAt (Elt F) arg20.view (Rect.unit (s := S2x128x256) ![1, 0, 0] S1x128x256.size inb1).toLoadRect (harg20.unread xo18)) (fun a => T.dsSum a 7) []
      ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo18 xo19 xo20).2.2.2.2.1 = [⟨Rect.unit (s := S1x64) ![0, 0] S1x64.size inb_S1x64_S1x64_0_0, k0_pay3 (T.dqgSum 8) (View.readAt (Elt F) arg21.view (Rect.unit (s := S1x64) ![0, 0] S1x64.size inb_S1x64_S1x64_0_0).toLoadRect (harg21.unread xo19))⟩]
      ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo18 xo19 xo20).2.2.2.2.2.1 = [⟨Rect.unit (s := S1x64) ![0, 0] S1x64.size inb_S1x64_S1x64_0_0, k0_pay4 (T.dkgSum 8) (View.readAt (Elt F) arg22.view (Rect.unit (s := S1x64) ![0, 0] S1x64.size inb_S1x64_S1x64_0_0).toLoadRect (harg22.unread xo20))⟩] := by
  subst hT
  refine ⟨by sl_kernel_rfl, by sl_kernel_rfl, by sl_kernel_rfl, by sl_kernel_rfl, by sl_kernel_rfl, by sl_kernel_rfl⟩

theorem outB :
    (out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo18 xo19 xo20, out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo18 xo19 xo20, out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo18 xo19 xo20, out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo18 xo19 xo20, out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo18 xo19 xo20, out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo18 xo19 xo20)
    = (stack (tileOf i x0 x1 x2 x3 x4 x5 x6 x7 x8 x9 x10 x11 x12 x13 x14).dq, stack (tileOf i x0 x1 x2 x3 x4 x5 x6 x7 x8 x9 x10 x11 x12 x13 x14).dk, stack (tileOf i x0 x1 x2 x3 x4 x5 x6 x7 x8 x9 x10 x11 x12 x13 x14).dv, bump xo18 (fun a => (tileOf i x0 x1 x2 x3 x4 x5 x6 x7 x8 x9 x10 x11 x12 x13 x14).dsSum a 7), k0_pay3 ((tileOf i x0 x1 x2 x3 x4 x5 x6 x7 x8 x9 x10 x11 x12 x13 x14).dqgSum 8) xo19, k0_pay4 ((tileOf i x0 x1 x2 x3 x4 x5 x6 x7 x8 x9 x10 x11 x12 x13 x14).dkgSum 8) xo20) := by
  obtain ⟨h15, h16, h17, h18, h19, h20⟩ := openB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 hc0 hc1 hc2 xo18 xo19 xo20
    (tileOf i x0 x1 x2 x3 x4 x5 x6 x7 x8 x9 x10 x11 x12 x13 x14) (rawTile_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14).symm
  unfold out0_B_15 out0_B_16 out0_B_17 out0_B_18 out0_B_19 out0_B_20
  refine congrArg₂ Prod.mk ((congrArg (fun L => VO0_15.read (Elt F) (VO0_15.writes (Elt F) VO0_15.junk L)) h15).trans (read_pieces _ _)) (congrArg₂ Prod.mk ((congrArg (fun L => VO0_16.read (Elt F) (VO0_16.writes (Elt F) VO0_16.junk L)) h16).trans (read_pieces _ _))
    (congrArg₂ Prod.mk ((congrArg (fun L => VO0_17.read (Elt F) (VO0_17.writes (Elt F) VO0_17.junk L)) h17).trans (read_pieces _ _)) (congrArg₂ Prod.mk ((congrArg (fun L => VO0_18.read (Elt F) (VO0_18.writes (Elt F) VO0_18.junk L)) h18).trans ?_)
    (congrArg₂ Prod.mk ((congrArg (fun L => VO0_19.read (Elt F) (VO0_19.writes (Elt F) VO0_19.junk L)) h19).trans ((read_row _ _).trans ?_))
      ((congrArg (fun L => VO0_20.read (Elt F) (VO0_20.writes (Elt F) VO0_20.junk L)) h20).trans ((read_row _ _).trans ?_))))))
  · show VO0_18.read (Elt F) (VO0_18.writes (Elt F) VO0_18.junk _) = _
    rw [View.read_writes_junk_eq_canon]
    exact canon_planes xo18 _ _ _ _ (fun z => by rw [View.readAt_eq_ld, Memref.IsWhole.read_unread]; exact ld_plane0 xo18 z)
      (fun z => by rw [View.readAt_eq_ld, Memref.IsWhole.read_unread]; exact ld_plane1 xo18 z)
  · rw [View.readAt_eq_ld, Memref.IsWhole.read_unread, ld_row]
  · rw [View.readAt_eq_ld, Memref.IsWhole.read_unread, ld_row]

end

/-! ### Case C -/

section
variable (hc0 : cond0_0 i) (hc1 : ¬cond0_1 i) (hc2 : cond0_2 i) (xo19 : Vec F S1x64 .f32) (xo20 : Vec F S1x64 .f32)

theorem openC (T : Tile F) (hT : T = rawTile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo19 xo20).1 = pieces T.dq
      ∧ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo19 xo20).2.1 = pieces T.dk
      ∧ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo19 xo20).2.2.1 = pieces T.dv
      ∧ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo19 xo20).2.2.2.1 = planes (View.readCov (Val := Elt F) arg20.view [⟨Rect.unit (s := S2x128x256) ![0, 0, 0] S2x128x256.size inb_S2x128x256_S2x128x256_0_0_0, k0_pay6⟩] (Rect.unit (s := S2x128x256) ![0, 0, 0] S1x128x256.size inb0).toLoadRect) (View.readCov (Val := Elt F) arg20.view [⟨(Rect.unit (s := S2x128x256) ![0, 0, 0] S1x128x256.size inb0), plane (View.readCov (Val := Elt F) arg20.view [⟨Rect.unit (s := S2x128x256) ![0, 0, 0] S2x128x256.size inb_S2x128x256_S2x128x256_0_0_0, k0_pay6⟩] (Rect.unit (s := S2x128x256) ![0, 0, 0] S1x128x256.size inb0).toLoadRect) (T.dsSum false 7)⟩, ⟨Rect.unit (s := S2x128x256) ![0, 0, 0] S2x128x256.size inb_S2x128x256_S2x128x256_0_0_0, k0_pay6⟩] (Rect.unit (s := S2x128x256) ![1, 0, 0] S1x128x256.size inb1).toLoadRect) (fun a => T.dsSum a 7) [⟨Rect.unit (s := S2x128x256) ![0, 0, 0] S2x128x256.size inb_S2x128x256_S2x128x256_0_0_0, k0_pay6⟩]
      ∧ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo19 xo20).2.2.2.2.1 = [⟨Rect.unit (s := S1x64) ![0, 0] S1x64.size inb_S1x64_S1x64_0_0, k0_pay3 (T.dqgSum 8) (View.readAt (Elt F) arg21.view (Rect.unit (s := S1x64) ![0, 0] S1x64.size inb_S1x64_S1x64_0_0).toLoadRect (harg21.unread xo19))⟩]
      ∧ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo19 xo20).2.2.2.2.2.1 = [⟨Rect.unit (s := S1x64) ![0, 0] S1x64.size inb_S1x64_S1x64_0_0, k0_pay4 (T.dkgSum 8) (View.readAt (Elt F) arg22.view (Rect.unit (s := S1x64) ![0, 0] S1x64.size inb_S1x64_S1x64_0_0).toLoadRect (harg22.unread xo20))⟩] := by
  subst hT
  refine ⟨by sl_kernel_rfl, by sl_kernel_rfl, by sl_kernel_rfl, by sl_kernel_rfl, by sl_kernel_rfl, by sl_kernel_rfl⟩

theorem outC :
    (out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo19 xo20, out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo19 xo20, out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo19 xo20, out0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo19 xo20, out0_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo19 xo20, out0_C_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 xo19 xo20)
    = (stack (tileOf i x0 x1 x2 x3 x4 x5 x6 x7 x8 x9 x10 x11 x12 x13 x14).dq, stack (tileOf i x0 x1 x2 x3 x4 x5 x6 x7 x8 x9 x10 x11 x12 x13 x14).dk, stack (tileOf i x0 x1 x2 x3 x4 x5 x6 x7 x8 x9 x10 x11 x12 x13 x14).dv, bump k0_pay6 (fun a => (tileOf i x0 x1 x2 x3 x4 x5 x6 x7 x8 x9 x10 x11 x12 x13 x14).dsSum a 7), k0_pay3 ((tileOf i x0 x1 x2 x3 x4 x5 x6 x7 x8 x9 x10 x11 x12 x13 x14).dqgSum 8) xo19, k0_pay4 ((tileOf i x0 x1 x2 x3 x4 x5 x6 x7 x8 x9 x10 x11 x12 x13 x14).dkgSum 8) xo20) := by
  obtain ⟨h15, h16, h17, h18, h19, h20⟩ := openC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 hc0 hc1 hc2 xo19 xo20
    (tileOf i x0 x1 x2 x3 x4 x5 x6 x7 x8 x9 x10 x11 x12 x13 x14) (rawTile_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14).symm
  unfold out0_C_15 out0_C_16 out0_C_17 out0_C_18 out0_C_19 out0_C_20
  refine congrArg₂ Prod.mk ((congrArg (fun L => VO0_15.read (Elt F) (VO0_15.writes (Elt F) VO0_15.junk L)) h15).trans (read_pieces _ _)) (congrArg₂ Prod.mk ((congrArg (fun L => VO0_16.read (Elt F) (VO0_16.writes (Elt F) VO0_16.junk L)) h16).trans (read_pieces _ _))
    (congrArg₂ Prod.mk ((congrArg (fun L => VO0_17.read (Elt F) (VO0_17.writes (Elt F) VO0_17.junk L)) h17).trans (read_pieces _ _)) (congrArg₂ Prod.mk ((congrArg (fun L => VO0_18.read (Elt F) (VO0_18.writes (Elt F) VO0_18.junk L)) h18).trans ?_)
    (congrArg₂ Prod.mk ((congrArg (fun L => VO0_19.read (Elt F) (VO0_19.writes (Elt F) VO0_19.junk L)) h19).trans ((read_row _ _).trans ?_))
      ((congrArg (fun L => VO0_20.read (Elt F) (VO0_20.writes (Elt F) VO0_20.junk L)) h20).trans ((read_row _ _).trans ?_))))))
  · show VO0_18.read (Elt F) (VO0_18.writes (Elt F) VO0_18.junk _) = _
    rw [View.read_writes_junk_eq_canon]
    exact canon_planes k0_pay6 _ _ _ _ (fun z => readCov_plane0 _ _ _ z) (fun z => readCov_plane1 _ _ _ _ z)
  · rw [View.readAt_eq_ld, Memref.IsWhole.read_unread, ld_row]
  · rw [View.readAt_eq_ld, Memref.IsWhole.read_unread, ld_row]

end

end

end Cert.KernelIdeal.Blk
end
-- ==== Proof.Outs.lean ====
/-
  What each grid point leaves in its output windows: the tile of its input blocks, stacked; the bias gradient added to
  what the points of the same head pair before it left; the gain gradients added to what all points before it left.
-/
module

public import proofs.«01_k».proof.Proof.Opened

@[expose] public section

set_option maxRecDepth 16384
set_option backward.isDefEq.respectTransparency false

noncomputable section

namespace Cert.KernelIdeal.Blk

open Idealize.ShloMosaic Idealize.ShloMosaic.TcCoe Idealize.SL.Sem Cert.KernelIdeal Cert.KernelIdeal.Gen
open Idealize.ShloMosaic.Pipeline (Dat)

variable {F : FTy → Type} [FloatOps F] [Named F]
variable (m : (ℓ : Loc nD τ sig) → Buf (Elt F) ℓ)

/-- A grid point's tile. -/
def tileAt (c : Dev nD) (t : Fin cfg0.N) : Tile F :=
  tileOf (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t)

/-- The first point. -/
theorem outs_zero (c : Dev nD) (t : Fin cfg0.N) (h : t.val = 0) : outsAt0 m c t.val t.isLt =
    (stack (tileAt m c t).dq, stack (tileAt m c t).dk, stack (tileAt m c t).dv,
      bump k0_pay6 (fun a => (tileAt m c t).dsSum a 7), k0_pay1 ((tileAt m c t).dqgSum 8), k0_pay2 ((tileAt m c t).dkgSum 8)) := by
  rw [outsAt0_A m c t (by omega) (by omega) (by omega)]
  exact outA ..

/-- The first point of a head pair. -/
theorem outs_start (c : Dev nD) (t : Fin cfg0.N) (h : t.val % 8 = 0) (h0 : t.val ≠ 0) : outsAt0 m c t.val t.isLt =
    (stack (tileAt m c t).dq, stack (tileAt m c t).dk, stack (tileAt m c t).dv,
      bump k0_pay6 (fun a => (tileAt m c t).dsSum a 7),
      k0_pay3 ((tileAt m c t).dqgSum 8) (outsAt0 m c (t.val - 1) (Nat.lt_of_le_of_lt (Nat.sub_le _ _) t.isLt)).2.2.2.2.1,
      k0_pay4 ((tileAt m c t).dkgSum 8) (outsAt0 m c (t.val - 1) (Nat.lt_of_le_of_lt (Nat.sub_le _ _) t.isLt)).2.2.2.2.2) := by
  have hN : cfg0.N = 32 := N_0
  have := t.isLt
  rw [outsAt0_C m c t h (by omega) (by omega)]
  exact outC ..

/-- A later point. -/
theorem outs_next (c : Dev nD) (t : Fin cfg0.N) (h : ¬t.val % 8 = 0) : outsAt0 m c t.val t.isLt =
    (stack (tileAt m c t).dq, stack (tileAt m c t).dk, stack (tileAt m c t).dv,
      bump (outsAt0 m c (t.val - 1) (Nat.lt_of_le_of_lt (Nat.sub_le _ _) t.isLt)).2.2.2.1 (fun a => (tileAt m c t).dsSum a 7),
      k0_pay3 ((tileAt m c t).dqgSum 8) (outsAt0 m c (t.val - 1) (Nat.lt_of_le_of_lt (Nat.sub_le _ _) t.isLt)).2.2.2.2.1,
      k0_pay4 ((tileAt m c t).dkgSum 8) (outsAt0 m c (t.val - 1) (Nat.lt_of_le_of_lt (Nat.sub_le _ _) t.isLt)).2.2.2.2.2) := by
  have hN : cfg0.N = 32 := N_0
  have := t.isLt
  rw [outsAt0_B m c t h (by omega) (by omega)]
  exact outB ..

/-- Every point leaves its tile's gradients of the queries, keys and values. -/
theorem outs_tile (c : Dev nD) (t : Fin cfg0.N) : (outsAt0 m c t.val t.isLt).1 = stack (tileAt m c t).dq
    ∧ (outsAt0 m c t.val t.isLt).2.1 = stack (tileAt m c t).dk ∧ (outsAt0 m c t.val t.isLt).2.2.1 = stack (tileAt m c t).dv := by
  by_cases h : t.val % 8 = 0
  · by_cases h0 : t.val = 0
    · rw [outs_zero m c t h0]; exact ⟨rfl, rfl, rfl⟩
    · rw [outs_start m c t h h0]; exact ⟨rfl, rfl, rfl⟩
  · rw [outs_next m c t h]; exact ⟨rfl, rfl, rfl⟩

end Cert.KernelIdeal.Blk
end
-- ==== Proof.Real.lean ====
/-
  The body's blocks over the reals: where its inputs are real numbers, and the bias is minus infinity outside the band,
  every block of the body is the real function written here.
-/
module

public import proofs.«01_k».proof.Proof.Vocab
public import proofs.«01_k».proof.Proof.Kit
public import Idealize.ShloMosaic.Lib.Pointwise

@[expose] public section

set_option maxRecDepth 16384
set_option backward.isDefEq.respectTransparency false

noncomputable section

namespace Cert.KernelIdeal.Blk

open Idealize.ShloMosaic Idealize.SL.Sem Cert.KernelIdeal Cert.KernelIdeal.Gen Cert.Attn
open scoped BigOperators

/-- A block is a real function of row and lane. -/
def IsN {φ : FTy} (X : FVec Ideal S128x128 φ) (f : ℕ → ℕ → ℝ) : Prop := ∀ y, X y = ((f (y 0).val (y 1).val : ℝ) : EReal)
def IsW {φ : FTy} (X : FVec Ideal S128x256 φ) (f : ℕ → ℕ → ℝ) : Prop := ∀ y, X y = ((f (y 0).val (y 1).val : ℝ) : EReal)
def IsG (X : FVec Ideal S1x128 .f32) (f : ℕ → ℝ) : Prop := ∀ y, X y = ((f (y 1).val : ℝ) : EReal)

/-- The head of a lane, and a head's first lane. -/
def hd (c : ℕ) : Bool := decide (64 ≤ c)
def off (a : Bool) : ℕ := if a then 64 else 0

/-- A head's lanes, the other's zeroed. -/
def lane (a : Bool) (f : ℕ → ℕ → ℝ) (r c : ℕ) : ℝ := if hd c = a then f r c else 0

/-- A row's sum over the lanes of the head of `c`. -/
def hsum (f : ℕ → ℕ → ℝ) (r c : ℕ) : ℝ := ∑ e : Fin 64, f r (off (hd c) + e)

/-- Two blocks of rows, one after the other. -/
def two (f g : ℕ → ℕ → ℝ) (z c : ℕ) : ℝ := if z < 128 then f z c else g (z - 128) c

theorem hd_low {c : ℕ} (h : c < 64) : hd c = false := decide_eq_false (Nat.not_le.mpr h)
theorem hd_high {c : ℕ} (h : ¬ c < 64) : hd c = true := decide_eq_true (Nat.not_lt.mp h)

theorem pick64 {α : Type} (n : ℕ) (h : n < 128) (x y : α) :
    Scalar.select (IntOp.cmpi .slt (BitVec.ofNat 32 n) 64#32) x y = if n < 64 then x else y := by
  have : ∀ n : Fin 128, IntOp.cmpi .slt (BitVec.ofNat 32 n.val) 64#32 = if n.val < 64 then 1#1 else 0#1 := by decide +kernel
  rw [this ⟨n, h⟩]
  by_cases h : n < 64 <;> simp [h, Scalar.select]

theorem sum_two64 (g : ℕ → ℝ) : ∑ x : Fin 128, g x = (∑ e : Fin 64, g e) + ∑ e : Fin 64, g (64 + e) := by
  simpa [Nat.add_comm] using Fin.sum_univ_add (a := 64) (b := 64) (fun x : Fin (64 + 64) => g x)

theorem sum_two128 (g : ℕ → ℝ) : ∑ x : Fin 256, g x = (∑ e : Fin 128, g e) + ∑ e : Fin 128, g (128 + e) := by
  simpa [Nat.add_comm] using Fin.sum_univ_add (a := 128) (b := 128) (fun x : Fin (128 + 128) => g x)

theorem sum_low (g : ℕ → ℝ) : ∑ x : Fin 128, (if x.val < 64 then g x else 0) = ∑ e : Fin 64, g e := by
  rw [sum_two64 (fun x => if x < 64 then g x else 0)]
  simp

theorem sum_high (g : ℕ → ℝ) : ∑ x : Fin 128, (if x.val < 64 then 0 else g x) = ∑ e : Fin 64, g (64 + e) := by
  rw [sum_two64 (fun x => if x < 64 then 0 else g x)]
  simp

theorem sum_lane (a : Bool) (f : ℕ → ℕ → ℝ) (r : ℕ) (h : ℕ → ℝ) :
    ∑ x : Fin 128, lane a f r x * h x = ∑ e : Fin 64, f r (off a + e) * h (off a + e) := by
  rw [sum_two64 (fun x => lane a f r x * h x)]
  have hl : ∀ x : Fin 64, hd x.val = false := fun x => hd_low x.isLt
  have hh : ∀ x : Fin 64, hd (64 + x.val) = true := fun x => hd_high (by omega)
  cases a <;> simp [lane, off, hl, hh]

variable {φ ψ : FTy}

section
variable {X Y : FVec Ideal S128x128 .f32} {f g : ℕ → ℕ → ℝ}

theorem IsN.mul (hX : IsN X f) (hY : IsN Y g) : IsN (mulf X Y) (fun r c => f r c * g r c) := fun y => by
  pointwise; rw [hX y, hY y, ← EReal.coe_mul]
theorem IsN.add (hX : IsN X f) (hY : IsN Y g) : IsN (addf X Y) (fun r c => f r c + g r c) := fun y => by
  pointwise; rw [hX y, hY y, ← EReal.coe_add]
theorem IsN.sub (hX : IsN X f) (hY : IsN Y g) : IsN (subf X Y) (fun r c => f r c - g r c) := fun y => by
  pointwise; rw [hX y, hY y, ← EReal.coe_sub]
theorem IsN.cast (hX : IsN X f) : IsN (cast16 X) f := fun y => hX y
theorem IsN.reshape (hX : IsN X f) (h) : IsN (shapeCast S128x128 X h) f := by rw [shapeCast_id]; exact hX

theorem IsN.part (hX : IsN X f) (a : Bool) : IsN (part a X) (lane a f) := fun y => by
  have hy : (y 1).val < 128 := (y 1).isLt
  cases a
  · show select k0_pay9 X zero y = _
    pointwise [k0_pay9, zero]
    rw [pick64 _ hy, hX y]
    by_cases h : (y 1).val < 64 <;> simp [lane, hd_low, hd_high, h]
  · show select k0_pay9 zero X y = _
    pointwise [k0_pay9, zero]
    rw [pick64 _ hy, hX y]
    by_cases h : (y 1).val < 64 <;> simp [lane, hd_low, hd_high, h]

theorem IsN.headSum (hX : IsN X f) : IsN (headSum X) (hsum f) := fun y => by
  have hy : (y 1).val < 128 := (y 1).isLt
  pointwise [Blk.headSum, spread, zero, k0_pay9]
  rw [pick64 _ hy,
    sum_coe (fun x : Fin 128 => Scalar.select (IntOp.cmpi .slt (BitVec.ofNat 32 x.val) 64#32) (X (ix2 (y 0) x)) 0)
      (fun x => if x.val < 64 then f (y 0).val x else 0) (fun x => by
        rw [pick64 _ x.isLt, hX]; by_cases h : x.val < 64 <;> simp [h] <;> rfl),
    sum_coe (fun x : Fin 128 => Scalar.select (IntOp.cmpi .slt (BitVec.ofNat 32 x.val) 64#32) 0 (X (ix2 (y 0) x)))
      (fun x => if x.val < 64 then 0 else f (y 0).val x) (fun x => by
        rw [pick64 _ x.isLt, hX]; by_cases h : x.val < 64 <;> simp [h] <;> rfl),
    sum_low, sum_high]
  by_cases h : (y 1).val < 64 <;> simp [hsum, hd_low, hd_high, off, h]

def mean (f : ℕ → ℕ → ℝ) (r c : ℕ) : ℝ := hsum f r c / 64

theorem IsN.headMean (hX : IsN X f) : IsN (headMean X) (mean f) := fun y => by
  have h := hX.headSum y
  unfold Blk.headMean
  pointwise
  rw [h]
  show _ * Ideal.ofBits .f32 0x3C800000#32 = _
  rw [word_64th, ← EReal.coe_mul]
  exact congrArg _ (by unfold mean; ring)

/-- The reciprocal root mean square of each head's lanes. -/
def rr (f : ℕ → ℕ → ℝ) (r c : ℕ) : ℝ := (Real.sqrt (mean (fun r c => f r c * f r c) r c + eps))⁻¹

theorem IsN.rmsR (hX : IsN X f) : IsN (rmsR X) (rr f) := fun y => by
  have h := (hX.mul hX).headMean y
  unfold Blk.rmsR
  pointwise
  rw [h]
  show Ideal.rsqrt (_ + Ideal.ofBits .f32 0x358637BD#32) = _
  rw [word_eps, ← EReal.coe_add, rsqrt_coe]
  · rfl
  · exact ms_pos _

def rx (f : ℕ → ℕ → ℝ) (r c : ℕ) : ℝ := f r c * rr f r c

theorem IsN.rmsX (hX : IsN X f) : IsN (rmsX X) (rx f) := hX.mul hX.rmsR

variable {G : FVec Ideal S1x128 .f32} {γ : ℕ → ℝ}

theorem IsG.gains (hG : IsG G γ) : IsN (gains G) (fun _ c => γ c) := fun y => by
  unfold Blk.gains
  pointwise
  exact hG _

def rn (γ : ℕ → ℝ) (f : ℕ → ℕ → ℝ) (r c : ℕ) : ℝ := rx f r c * γ c

theorem IsN.rmsN (hX : IsN X f) (hG : IsG G γ) : IsN (rmsN G X) (rn γ f) := hX.rmsX.mul hG.gains

def rback (γ : ℕ → ℝ) (f d : ℕ → ℕ → ℝ) (r c : ℕ) : ℝ :=
  rr f r c * (d r c * γ c - rx f r c * mean (fun r c => d r c * γ c * rx f r c) r c)

theorem IsN.rmsBwd (hX : IsN X f) (hY : IsN Y g) (hG : IsG G γ) : IsN (rmsBwd G X Y) (rback γ f g) :=
  hX.rmsR.mul ((hY.mul hG.gains).sub (hX.rmsX.mul ((hY.mul hG.gains).mul hX.rmsX).headMean))

theorem IsN.colw (hX : IsN X f) (a : Bool) : IsW (colw a X) (fun r _ => f r (off a)) := fun y => by
  cases a
  · unfold Blk.colw; pointwise; exact hX _
  · unfold Blk.colw; pointwise; exact hX _

theorem IsN.coln (hX : IsN X f) (a : Bool) : IsN (coln a X) (fun r _ => f r (off a)) := fun y => by
  cases a
  · unfold Blk.coln; pointwise; exact hX _
  · unfold Blk.coln; pointwise; exact hX _

theorem IsN.rowSum (hX : IsN X f) : IsG (rowSum X) (fun c => ∑ r : Fin 128, f r c) := fun y => by
  unfold Blk.rowSum
  pointwise
  exact sum_coe _ _ fun x => hX _

theorem IsN.pick (hX : IsN X f) (hY : IsN Y g) : IsN (select k0_pay9 X Y) (fun r c => if c < 64 then f r c else g r c) := fun y => by
  have hy : (y 1).val < 128 := (y 1).isLt
  pointwise [k0_pay9]
  rw [pick64 _ hy, hX y, hY y]
  by_cases h : (y 1).val < 64 <;> simp [h]

theorem isN_zero : IsN zero (fun _ _ => 0) := fun y => by
  show Ideal.ofBits .f32 0x00000000#32 = _
  rw [word_zero]

end

section
variable {A : FVec Ideal S128x256 .bf16} {X Y Z : FVec Ideal S128x128 .bf16} {w f g h : ℕ → ℕ → ℝ}

theorem IsN.dotw (hX : IsN X f) (hY : IsN Y g) (hZ : IsN Z h) :
    IsW (dotw X (cat Y Z)) (fun r z => ∑ x : Fin 128, f r x * two g h z x) := fun y => by
  pointwise [Blk.dotw, cat]
  refine sum_coe _ _ fun x => ?_
  rw [hX]
  unfold two
  by_cases hz : (y 1).val < 128
  · rw [dif_pos hz, if_pos hz, hY, ← EReal.coe_mul]; rfl
  · rw [dif_neg hz, if_neg hz, hZ, ← EReal.coe_mul]; rfl

theorem IsN.dotn (hX : IsN X f) (hY : IsN Y g) : IsN (dotn X Y) (fun r z => ∑ x : Fin 128, f r x * g z x) := fun y => by
  pointwise [Blk.dotn]
  refine sum_coe _ _ fun x => ?_
  rw [hX, hY, ← EReal.coe_mul]; rfl

theorem IsW.mixw (hA : IsW A w) (hY : IsN Y g) (hZ : IsN Z h) :
    IsN (mixw A (cat Y Z)) (fun r c => ∑ z : Fin 256, w r z * two g h z c) := fun y => by
  pointwise [Blk.mixw, cat]
  rw [sum_coe (fun x : Fin 128 => A (ix2 (y 0) ⟨x.val, _⟩) * Y (ix2 x (y 1))) (fun x => w (y 0).val x * g x (y 1).val)
      (fun x => by rw [hA, hY, ← EReal.coe_mul]; rfl),
    sum_coe (fun x : Fin 128 => A (ix2 (y 0) ⟨128 + x.val, _⟩) * Z (ix2 x (y 1))) (fun x => w (y 0).val (128 + x) * h x (y 1).val)
      (fun x => by rw [hA, hZ, ← EReal.coe_mul]; rfl), ← EReal.coe_add, sum_two128 (fun z => w (y 0).val z * two g h z (y 1).val)]
  simp [two]

theorem IsW.own (hA : IsW A w) : IsN (own A) (fun r c => w r (128 + c)) := fun y => by
  unfold Blk.own; pointwise; exact hA _

theorem IsW.before (hA : IsW A w) : IsN (before A) w := fun y => by
  unfold Blk.before; pointwise; exact hA _

theorem IsN.mixt (hX : IsN X w) (hY : IsN Y g) : IsN (mixt X Y) (fun r c => ∑ y : Fin 128, w y r * g y c) := fun y => by
  pointwise [Blk.mixt]
  refine sum_coe _ _ fun x => ?_
  rw [hX, hY, ← EReal.coe_mul]; rfl

end

section
variable {A B : FVec Ideal S128x256 .f32} {f g : ℕ → ℕ → ℝ}
theorem IsW.mul (hX : IsW A f) (hY : IsW B g) : IsW (mulf A B) (fun r c => f r c * g r c) := fun y => by
  pointwise; rw [hX y, hY y, ← EReal.coe_mul]
theorem IsW.add (hX : IsW A f) (hY : IsW B g) : IsW (addf A B) (fun r c => f r c + g r c) := fun y => by
  pointwise; rw [hX y, hY y, ← EReal.coe_add]
theorem IsW.sub (hX : IsW A f) (hY : IsW B g) : IsW (subf A B) (fun r c => f r c - g r c) := fun y => by
  pointwise; rw [hX y, hY y, ← EReal.coe_sub]
theorem IsW.cast (hX : IsW A f) : IsW (cast16w A) f := fun y => hX y
end

theorem IsG.add {G H : FVec Ideal S1x128 .f32} {f g : ℕ → ℝ} (hG : IsG G f) (hH : IsG H g) :
    IsG (addf G H) (fun c => f c + g c) := fun y => by
  pointwise; rw [hG y, hH y, ← EReal.coe_add]

end Cert.KernelIdeal.Blk
end
-- ==== Proof.RealTile.lean ====
/-
  A tile of the body over the reals: a grid point's inputs as real functions, what the body computes of them, and the
  theorems that it does.
-/
module

public import proofs.«01_k».proof.Proof.Real

@[expose] public section

set_option maxRecDepth 16384
set_option backward.isDefEq.respectTransparency false

noncomputable section

namespace Cert.KernelIdeal.Blk

open Idealize.ShloMosaic Idealize.SL.Sem Cert.KernelIdeal Cert.KernelIdeal.Gen Cert.Attn
open scoped BigOperators

/-- A grid point's inputs as real functions of block, row and lane, numbered as those of `Tile`. -/
structure RTile where
  q : ℕ → ℕ → ℕ → ℝ
  k : ℕ → ℕ → ℕ → ℝ
  v : ℕ → ℕ → ℕ → ℝ
  o : ℕ → ℕ → ℕ → ℝ
  l : ℕ → ℕ → ℕ → ℝ
  ct : ℕ → ℕ → ℕ → ℝ
  bias : Bool → ℕ → ℕ → ℝ
  qg : ℕ → ℝ
  kg : ℕ → ℝ
  tile : ℕ

namespace RTile

variable (R : RTile)

def qgs (c : ℕ) : ℝ := R.qg c * (1 / 8)
def qn (t : ℕ) : ℕ → ℕ → ℝ := rn R.qgs (R.q t)
def kn (j : ℕ) : ℕ → ℕ → ℝ := rn R.kg (R.k j)
def delta (t : ℕ) : ℕ → ℕ → ℝ := hsum fun r c => R.ct t r c * R.o t r c
/-- A head's product of a query row and a key row of the window of block `t`. -/
def dots (a : Bool) (t r z : ℕ) : ℝ := ∑ e : Fin 64, R.qn t r (off a + e) * two (R.kn t) (R.kn (t + 1)) z (off a + e)
def band (r z : ℕ) : Prop := z ≤ r + 128 ∧ r ≤ z
def ok (t r z : ℕ) : Prop := band r z ∧ (R.tile ≠ 0 ∨ t ≠ 0 ∨ 128 ≤ z)
open Classical in
def prob (a : Bool) (t r z : ℕ) : ℝ := if R.ok t r z then Real.exp (R.dots a t r z + R.bias a r z - R.l t r (off a)) else 0
def dp (a : Bool) (t r z : ℕ) : ℝ := ∑ e : Fin 64, R.ct t r (off a + e) * two (R.v t) (R.v (t + 1)) z (off a + e)
def ds (a : Bool) (t r z : ℕ) : ℝ := R.prob a t r z * (R.dp a t r z - R.delta t r (off a))
open Classical in
def probH (a : Bool) (r z : ℕ) : ℝ :=
  if R.tile < 7 ∧ r ≤ z then
    Real.exp ((∑ e : Fin 64, R.qn 8 r (off a + e) * R.kn 8 z (off a + e)) + R.bias a r z - R.l 8 r (off a)) else 0
def dsH (a : Bool) (r z : ℕ) : ℝ :=
  R.probH a r z * ((∑ e : Fin 64, R.ct 8 r (off a + e) * R.v 8 z (off a + e)) - R.delta 8 r (off a))
def probB (a : Bool) (t : ℕ) : ℕ → ℕ → ℝ := if t = 7 then R.probH a else R.prob a (t + 1)
def dsB (a : Bool) (t : ℕ) : ℕ → ℕ → ℝ := if t = 7 then R.dsH a else R.ds a (t + 1)
def dqn (t r c : ℕ) : ℝ := ∑ z : Fin 256, R.ds (hd c) t r z * two (R.kn t) (R.kn (t + 1)) z c
def dkn (t r c : ℕ) : ℝ :=
  (∑ y : Fin 128, R.ds (hd c) t y (128 + r) * R.qn t y c) + ∑ y : Fin 128, R.dsB (hd c) t y r * R.qn (t + 1) y c
def dv (t r c : ℕ) : ℝ :=
  (∑ y : Fin 128, R.prob (hd c) t y (128 + r) * R.ct t y c) + ∑ y : Fin 128, R.probB (hd c) t y r * R.ct (t + 1) y c
def dq (t : ℕ) : ℕ → ℕ → ℝ := rback R.qgs (R.q t) (R.dqn t)
def dk (t : ℕ) : ℕ → ℕ → ℝ := rback R.kg (R.k (t + 1)) (R.dkn t)
def dsSum (a : Bool) (t r z : ℕ) : ℝ := ∑ u ∈ Finset.range (t + 1), R.ds a u r z
def dqgSum (t c : ℕ) : ℝ := ∑ u ∈ Finset.range t, ∑ r : Fin 128, R.dqn u r c * rx (R.q u) r c
def dkgSum (t c : ℕ) : ℝ := ∑ u ∈ Finset.range t, ∑ r : Fin 128, R.dkn u r c * rx (R.k (u + 1)) r c

end RTile

open Classical in
/-- The tile's inputs are these real functions; the bias is minus infinity outside the band. -/
structure Tile.IsR (T : Tile Ideal) (R : RTile) : Prop where
  q : ∀ t, t ≤ 8 → IsN (T.q t) (R.q t)
  k : ∀ t, t ≤ 8 → IsN (T.k t) (R.k t)
  v : ∀ t, t ≤ 8 → IsN (T.v t) (R.v t)
  o : ∀ t, t ≤ 8 → IsN (T.o t) (R.o t)
  l : ∀ t, t ≤ 8 → IsN (T.l t) (R.l t)
  ct : ∀ t, t ≤ 8 → IsN (T.ct t) (R.ct t)
  bias : ∀ a y, T.bias a y = if RTile.band (y 0).val (y 1).val then ((R.bias a (y 0).val (y 1).val : ℝ) : EReal) else ⊥
  biasH : ∀ a y, T.biasH a y = if (y 0).val ≤ (y 1).val then ((R.bias a (y 0).val (y 1).val : ℝ) : EReal) else ⊥
  qg : IsG T.qg R.qg
  kg : IsG T.kg R.kg
  tile : T.tile = BitVec.ofNat 32 R.tile
  lt : R.tile < 8

namespace Tile.IsR

variable {T : Tile Ideal} {R : RTile} (H : T.IsR R)
include H

theorem qgs : IsG T.qgs R.qgs := fun y => by
  show T.qg y * Ideal.ofBits .f32 0x3E000000#32 = _
  rw [H.qg, word_eighth, ← EReal.coe_mul]
  rfl

theorem knb (j : ℕ) (hj : j ≤ 8) : IsN (T.knb j) (R.kn j) := ((H.k j hj).rmsN H.kg).cast
theorem qnb (a : Bool) (t : ℕ) (ht : t ≤ 8) : IsN (T.qnb a t) (lane a (R.qn t)) := ((H.q t ht).rmsN H.qgs).part a
theorem vb (j : ℕ) (hj : j ≤ 8) : IsN (T.vb j) (R.v j) := (H.v j hj).cast
theorem ctb (a : Bool) (t : ℕ) (ht : t ≤ 8) : IsN (T.ctb a t) (lane a (R.ct t)) := (H.ct t ht).part a
theorem delta (t : ℕ) (ht : t ≤ 8) : IsN (T.delta t) (R.delta t) := ((H.ct t ht).mul ((H.o t ht).reshape _)).headSum
theorem lse (t : ℕ) (ht : t ≤ 8) : IsN (T.lse t) (R.l t) := (H.l t ht).reshape _

theorem dots (a : Bool) (t : ℕ) (ht : t < 8) : IsW (dotw (T.qnb a t) (T.keys t)) (R.dots a t) := fun y => by
  rw [show dotw (T.qnb a t) (T.keys t) y = _ from (H.qnb a t ht.le).dotw (H.knb t ht.le) (H.knb (t + 1) ht) y]
  exact congrArg _ (sum_lane a (R.qn t) _ fun x => two (R.kn t) (R.kn (t + 1)) (y 1).val x)

theorem dp (a : Bool) (t : ℕ) (ht : t < 8) : IsW (T.dp a t) (R.dp a t) := fun y => by
  rw [show T.dp a t y = _ from (H.ctb a t ht.le).dotw (H.vb t ht.le) (H.vb (t + 1) ht) y]
  exact congrArg _ (sum_lane a (R.ct t) _ fun x => two (R.v t) (R.v (t + 1)) (y 1).val x)

open Classical in
theorem raw (a : Bool) (t : ℕ) (ht : t < 8) (y : S128x256.Idx) : T.raw a t y =
    if RTile.band (y 0).val (y 1).val then ((R.dots a t (y 0).val (y 1).val + R.bias a (y 0).val (y 1).val : ℝ) : EReal) else ⊥ := by
  show dotw (T.qnb a t) (T.keys t) y + T.bias a y = _
  rw [H.dots a t ht y, H.bias a y]
  by_cases h : RTile.band (y 0).val (y 1).val
  · rw [if_pos h, if_pos h, ← EReal.coe_add]
  · rw [if_neg h, if_neg h, EReal.add_bot]

open Classical in
theorem score (a : Bool) (t : ℕ) (ht : t < 8) (y : S128x256.Idx) : T.score a t y =
    if R.ok t (y 0).val (y 1).val then ((R.dots a t (y 0).val (y 1).val + R.bias a (y 0).val (y 1).val : ℝ) : EReal) else ⊥ := by
  have hr := H.raw a t ht y
  cases t with
  | succ t =>
    show T.raw a (t + 1) y = _
    rw [hr]
    simp [RTile.ok]
  | zero =>
    have hm : Named.named (F := Ideal) κ "mask" (φ := .f32) 0xF149F2CA#32 = ⊥ := IdealRules.named_const.ideal_named_scalar _ _ _ _ rfl
    have h0 : ∀ n : Fin 8, Scalar.cmpi .eq (BitVec.ofNat 32 n.val) 0#32 = if n.val = 0 then 1#1 else 0#1 := by decide +kernel
    have h1 : ∀ n : Fin 256, IntOp.cmpi .slt (BitVec.ofNat 32 n.val) 128#32 = if n.val < 128 then 1#1 else 0#1 := by decide +kernel
    pointwise [Tile.score, Tile.outside]
    rw [hr, hm, H.tile, h0 ⟨R.tile, H.lt⟩, h1 (y 1)]
    by_cases hz : (y 1).val < 128 <;> by_cases hk : R.tile = 0 <;>
      simp [hz, hk, RTile.ok, Scalar.select, IntOp.andi, Nat.not_le.mpr, Nat.not_lt.mp]

theorem prob (a : Bool) (t : ℕ) (ht : t < 8) : IsW (T.prob a t) (R.prob a t) := fun y => by
  have hs := H.score a t ht y
  have hl := (H.lse t ht.le).colw a y
  unfold Tile.prob
  pointwise
  rw [hs, hl]
  unfold RTile.prob
  by_cases h : R.ok t (y 0).val (y 1).val
  · rw [if_pos h, if_pos h, ← EReal.coe_sub]
    exact exp_coe _
  · rw [if_neg h, if_neg h, EReal.bot_sub]
    exact exp_bot

theorem ds (a : Bool) (t : ℕ) (ht : t < 8) : IsW (T.ds a t) (R.ds a t) :=
  (H.prob a t ht).mul ((H.dp a t ht).sub ((H.delta t ht.le).colw a))

theorem probH (a : Bool) : IsN (T.probH a) (R.probH a) := fun y => by
  have hd : dotn (T.qnb a 8) (T.knb 8) y = ((∑ e : Fin 64, R.qn 8 (y 0).val (off a + e) * R.kn 8 (y 1).val (off a + e) : ℝ) : EReal) := by
    rw [show dotn (T.qnb a 8) (T.knb 8) y = _ from (H.qnb a 8 le_rfl).dotn (H.knb 8 le_rfl) y]
    exact congrArg _ (sum_lane a (R.qn 8) _ fun x => R.kn 8 (y 1).val x)
  have hl := (H.lse 8 le_rfl).coln a y
  have h7 : ∀ n : Fin 8, Scalar.cmpi .slt (BitVec.ofNat 32 n.val) 7#32 = if n.val < 7 then 1#1 else 0#1 := by decide +kernel
  unfold Tile.probH RTile.probH
  rw [H.tile, h7 ⟨R.tile, H.lt⟩]
  by_cases hk : R.tile < 7
  · by_cases hb : (y 0).val ≤ (y 1).val
    · rw [if_pos hk, if_pos ⟨hk, hb⟩]
      show exp (subf (addf (dotn (T.qnb a 8) (T.knb 8)) (T.biasH a)) (coln a (T.lse 8))) y = _
      pointwise
      rw [hd, hl, H.biasH a y, if_pos hb, ← EReal.coe_add, ← EReal.coe_sub]
      exact exp_coe _
    · rw [if_pos hk, if_neg fun h => hb h.2]
      show exp (subf (addf (dotn (T.qnb a 8) (T.knb 8)) (T.biasH a)) (coln a (T.lse 8))) y = _
      pointwise
      rw [hd, hl, H.biasH a y, if_neg hb, EReal.add_bot, EReal.bot_sub]
      exact exp_bot
  · rw [if_neg hk, if_neg fun h => hk h.1]
    exact isN_zero y

theorem dsH (a : Bool) : IsN (T.dsH a) (R.dsH a) := by
  have hd : IsN (dotn (T.ctb a 8) (T.vb 8)) fun r z => ∑ e : Fin 64, R.ct 8 r (off a + e) * R.v 8 z (off a + e) := fun y => by
    rw [show dotn (T.ctb a 8) (T.vb 8) y = _ from (H.ctb a 8 le_rfl).dotn (H.vb 8 le_rfl) y]
    exact congrArg _ (sum_lane a (R.ct 8) _ fun x => R.v 8 (y 1).val x)
  exact (H.probH a).mul (hd.sub ((H.delta 8 le_rfl).coln a))

theorem probB (a : Bool) (t : ℕ) (ht : t < 8) : IsN (T.probB a t) (R.probB a t) := by
  unfold RTile.probB
  by_cases h : t = 7
  · subst h
    rw [if_pos rfl]
    exact (H.probH a).cast
  · rw [if_neg h, show T.probB a t = before (cast16w (T.prob a (t + 1))) from by
      unfold Tile.probB; split <;> simp_all]
    exact ((H.prob a (t + 1) (by omega)).cast).before

theorem dsB (a : Bool) (t : ℕ) (ht : t < 8) : IsN (T.dsB a t) (R.dsB a t) := by
  unfold RTile.dsB
  by_cases h : t = 7
  · subst h
    rw [if_pos rfl]
    exact (H.dsH a).cast
  · rw [if_neg h, show T.dsB a t = before (cast16w (T.ds a (t + 1))) from by
      unfold Tile.dsB; split <;> simp_all]
    exact ((H.ds a (t + 1) (by omega)).cast).before

theorem dqn (t : ℕ) (ht : t < 8) : IsN (T.dqn t) (R.dqn t) := fun y => by
  have h := fun a => ((H.ds a t ht).cast).mixw (H.knb t ht.le) (H.knb (t + 1) ht)
  rw [show T.dqn t y = _ from (h false).pick (h true) y]
  refine congrArg _ ?_
  unfold RTile.dqn
  beta_reduce
  by_cases hc : (y 1).val < 64
  · rw [hd_low hc, if_pos hc]
  · rw [hd_high hc, if_neg hc]

omit H in
theorem sum_pick (w : Bool → ℕ → ℕ → ℝ) (f : ℕ → ℕ → ℝ) (r c : ℕ) (a : Bool) :
    ∑ y : Fin 128, w a y r * lane a f y c = if hd c = a then ∑ y : Fin 128, w (hd c) y r * f y c else 0 := by
  by_cases h : hd c = a
  · simp [lane, h]
  · simp [lane, h]

omit H in
/-- The two heads' transposed products, each over its own lanes. -/
theorem both {A B : Bool → FVec Ideal S128x128 .bf16} {X Y : Bool → FVec Ideal S128x128 .bf16} {u w : Bool → ℕ → ℕ → ℝ}
    {f g : ℕ → ℕ → ℝ} (hA : ∀ a, IsN (A a) (u a)) (hB : ∀ a, IsN (B a) (w a)) (hX : ∀ a, IsN (X a) (lane a f))
    (hY : ∀ a, IsN (Y a) (lane a g)) :
    IsN (addf (addf zero (addf (mixt (A false) (X false)) (mixt (B false) (Y false))))
        (addf (mixt (A true) (X true)) (mixt (B true) (Y true))))
      (fun r c => (∑ y : Fin 128, u (hd c) y r * f y c) + ∑ y : Fin 128, w (hd c) y r * g y c) := fun y => by
  rw [((isN_zero.add (((hA false).mixt (hX false)).add ((hB false).mixt (hY false)))).add
    (((hA true).mixt (hX true)).add ((hB true).mixt (hY true)))) y]
  refine congrArg _ ?_
  beta_reduce
  rw [sum_pick u f _ _ false, sum_pick w g _ _ false, sum_pick u f _ _ true, sum_pick w g _ _ true]
  cases hd (y 1).val <;> simp

theorem dkn (t : ℕ) (ht : t < 8) : IsN (T.dkn t) (R.dkn t) :=
  both (A := fun a => own (cast16w (T.ds a t))) (B := fun a => T.dsB a t) (X := fun a => T.qnb a t) (Y := fun a => T.qnb a (t + 1))
    (u := fun a y r => R.ds a t y (128 + r)) (w := fun a => R.dsB a t) (f := R.qn t) (g := R.qn (t + 1))
    (fun a => ((H.ds a t ht).cast).own) (fun a => H.dsB a t ht) (fun a => H.qnb a t ht.le) (fun a => H.qnb a (t + 1) ht)

/-- The gradient with respect to the values. -/
theorem dv (t : ℕ) (ht : t < 8) : IsN (T.dv t) (R.dv t) :=
  both (A := fun a => own (cast16w (T.prob a t))) (B := fun a => T.probB a t) (X := fun a => T.ctb a t) (Y := fun a => T.ctb a (t + 1))
    (u := fun a y r => R.prob a t y (128 + r)) (w := fun a => R.probB a t) (f := R.ct t) (g := R.ct (t + 1))
    (fun a => ((H.prob a t ht).cast).own) (fun a => H.probB a t ht) (fun a => H.ctb a t ht.le) (fun a => H.ctb a (t + 1) ht)

theorem dq (t : ℕ) (ht : t < 8) : IsN (T.dq t) (R.dq t) := (H.q t ht.le).rmsBwd (H.dqn t ht) H.qgs
theorem dk (t : ℕ) (ht : t < 8) : IsN (T.dk t) (R.dk t) := (H.k (t + 1) ht).rmsBwd (H.dkn t ht) H.kg

theorem dsSum (a : Bool) (t : ℕ) (ht : t < 8) : IsW (T.dsSum a t) (R.dsSum a t) := by
  induction t with
  | zero => intro y; rw [show T.dsSum a 0 y = T.ds a 0 y from rfl, H.ds a 0 ht y]; simp [RTile.dsSum]
  | succ t ih =>
    intro y
    rw [show T.dsSum a (t + 1) y = _ from ((ih (by omega)).add (H.ds a (t + 1) ht)) y]
    exact congrArg _ (Finset.sum_range_succ (fun u => R.ds a u (y 0).val (y 1).val) (t + 1)).symm

theorem dqgSum (t : ℕ) (ht : t ≤ 8) : IsG (T.dqgSum t) (R.dqgSum t) := by
  induction t with
  | zero => intro y; show Ideal.ofBits .f32 0x00000000#32 = _; rw [word_zero]; simp [RTile.dqgSum]
  | succ t ih =>
    intro y
    rw [show T.dqgSum (t + 1) y = _ from ((ih (by omega)).add ((H.dqn t ht).mul (H.q t (by omega)).rmsX).rowSum) y]
    exact congrArg _ (Finset.sum_range_succ (fun u => ∑ r : Fin 128, R.dqn u r (y 1).val * rx (R.q u) r (y 1).val) t).symm

theorem dkgSum (t : ℕ) (ht : t ≤ 8) : IsG (T.dkgSum t) (R.dkgSum t) := by
  induction t with
  | zero => intro y; show Ideal.ofBits .f32 0x00000000#32 = _; rw [word_zero]; simp [RTile.dkgSum]
  | succ t ih =>
    intro y
    rw [show T.dkgSum (t + 1) y = _ from ((ih (by omega)).add ((H.dkn t ht).mul (H.k (t + 1) ht).rmsX).rowSum) y]
    exact congrArg _ (Finset.sum_range_succ (fun u => ∑ r : Fin 128, R.dkn u r (y 1).val * rx (R.k (u + 1)) r (y 1).val) t).symm

end Tile.IsR

/-- The two heads' lanes added, over the reals. -/
theorem IsG.fold {G : FVec Ideal S1x128 .f32} {f : ℕ → ℝ} (h : IsG G f) (y : S1x64.Idx) :
    fold G y = ((f (y 1).val + f (64 + (y 1).val) : ℝ) : EReal) := by
  unfold Blk.fold
  pointwise
  rw [h, h, ← EReal.coe_add]
  rfl

end Cert.KernelIdeal.Blk
end
-- ==== Proof.Arrays.lean ====
/-
  The result arrays after the run over the reals, when every grid point's tile is a real tile: element by element, the
  tile's functions.
-/
module

public import proofs.«01_k».proof.Proof.Outs
public import proofs.«01_k».proof.Proof.RealTile
public import proofs.«01_k».proof.Proof.Gen.KernelIdeal.Value
public import Idealize.ShloMosaic.Lib.Pipeline.ValueKit.Partial

@[expose] public section

set_option maxRecDepth 16384
set_option backward.isDefEq.respectTransparency false

noncomputable section

namespace Cert.KernelIdeal.Blk

open Idealize.ShloMosaic Idealize.ShloMosaic.TcCoe Idealize.SL.Sem Cert.KernelIdeal Cert.KernelIdeal.Gen Cert.Attn
open Idealize.ShloMosaic.Pipeline (Dat)
open scoped BigOperators

variable (m : (ℓ : Loc nD τ sig) → Buf (Elt Ideal) ℓ) (c : Dev nD) (R : ℕ → RTile)

/-- Every grid point's tile is the real tile of its number. -/
def AllR : Prop := ∀ t : Fin cfg0.N, (tileAt m c t).IsR (R t.val)

/-- An array of blocks, read at a row and a column: the point that writes it, and the place in its tile. -/
def spreadR (f : RTile → ℕ → ℕ → ℕ → ℝ) (r k : ℕ) : ℝ := f (R (k / 128 * 8 + r / 1024)) (r % 1024 / 128) (r % 128) (k % 128)

theorem spreadR_at (f : RTile → ℕ → ℕ → ℕ → ℝ) (t y x : ℕ) (hy : y < 1024) (hx : x < 128) :
    spreadR R f (t % 8 * 1024 + y) (t / 8 * 128 + x) = f (R t) (y / 128) (y % 128) x := by
  unfold spreadR
  rw [show (t / 8 * 128 + x) / 128 * 8 + (t % 8 * 1024 + y) / 1024 = t from by omega,
    show (t % 8 * 1024 + y) % 1024 / 128 = y / 128 from by omega, show (t % 8 * 1024 + y) % 128 = y % 128 from by omega,
    show (t / 8 * 128 + x) % 128 = x from by omega]

theorem stack_at {X : ℕ → FVec Ideal S128x128 .f32} {f : ℕ → ℕ → ℕ → ℝ} (h : ∀ t, t < 8 → IsN (X t) (f t)) (y : S1024x128.Idx) :
    stack X y = ((f ((y 0).val / 128) ((y 0).val % 128) (y 1).val : ℝ) : EReal) :=
  h _ (by have : (y 0).val < 1024 := (y 0).isLt; omega) _

theorem index15 : ∀ t : Fin cfg0.N, win0_15.index t = ![t.val % 8, t.val / 8] := (by decide +kernel : ∀ t : Fin grid0.N, _)
theorem index16 : ∀ t : Fin cfg0.N, win0_16.index t = ![t.val % 8, t.val / 8] := (by decide +kernel : ∀ t : Fin grid0.N, _)
theorem index17 : ∀ t : Fin cfg0.N, win0_17.index t = ![t.val % 8, t.val / 8] := (by decide +kernel : ∀ t : Fin grid0.N, _)
theorem index18 : ∀ t : Fin cfg0.N, win0_18.index t = ![t.val / 8, 0, 0] := (by decide +kernel : ∀ t : Fin grid0.N, _)

variable {m c R} (H : AllR m c R)
include H

/-- The array of the gradient with respect to the values, in the group's columns. -/
theorem array17 : (dats m 0 c).arrAt 17 cfg0.N = fun i : S8192x1536.Idx =>
    if (i 1).val < 512 then ((spreadR R RTile.dv (i 0).val (i 1).val : ℝ) : EReal) else (dats m 0 c).A 17 i := by
  refine (dats m 0 c).arrAt_eq_of_coversWhere 17
    (fun i : S8192x1536.Idx => ((spreadR R RTile.dv (i 0).val (i 1).val : ℝ) : EReal)) (fun β => β 1 < 4) (by decide +kernel)
    (fun t hf y => ?_) (fun j => by blk_simp [Pipeline.Window.cell_apply]; omega)
  blk_simp
  rw [after0_17, (outs_tile m c t).2.2]
  refine (stack_at (fun u hu => (H t).dv u hu) y).trans (congrArg _ ?_)
  blk_simp [index17 t]
  exact (spreadR_at R RTile.dv t.val _ _ (y 0).isLt (y 1).isLt).symm

theorem array16 : (dats m 0 c).arrAt 16 cfg0.N = fun i : S8192x1536.Idx =>
    if (i 1).val < 512 then ((spreadR R RTile.dk (i 0).val (i 1).val : ℝ) : EReal) else (dats m 0 c).A 16 i := by
  refine (dats m 0 c).arrAt_eq_of_coversWhere 16
    (fun i : S8192x1536.Idx => ((spreadR R RTile.dk (i 0).val (i 1).val : ℝ) : EReal)) (fun β => β 1 < 4) (by decide +kernel)
    (fun t hf y => ?_) (fun j => by blk_simp [Pipeline.Window.cell_apply]; omega)
  blk_simp
  rw [after0_16, (outs_tile m c t).2.1]
  refine (stack_at (fun u hu => (H t).dk u hu) y).trans (congrArg _ ?_)
  blk_simp [index16 t]
  exact (spreadR_at R RTile.dk t.val _ _ (y 0).isLt (y 1).isLt).symm

theorem array15 : (dats m 0 c).arrAt 15 cfg0.N = fun i : S8192x1536.Idx =>
    if (i 1).val < 512 then ((spreadR R RTile.dq (i 0).val (i 1).val : ℝ) : EReal) else (dats m 0 c).A 15 i := by
  refine (dats m 0 c).arrAt_eq_of_coversWhere 15
    (fun i : S8192x1536.Idx => ((spreadR R RTile.dq (i 0).val (i 1).val : ℝ) : EReal)) (fun β => β 1 < 4) (by decide +kernel)
    (fun t hf y => ?_) (fun j => by blk_simp [Pipeline.Window.cell_apply]; omega)
  blk_simp
  rw [after0_15, (outs_tile m c t).1]
  refine (stack_at (fun u hu => (H t).dq u hu) y).trans (congrArg _ ?_)
  blk_simp [index15 t]
  exact (spreadR_at R RTile.dq t.val _ _ (y 0).isLt (y 1).isLt).symm

/-- What a point leaves in the bias gradient's window: the sum over its head pair's points so far. -/
theorem outs18 : ∀ (n : ℕ) (h : n < cfg0.N) (y : S2x128x256.Idx), (outsAt0 m c n h).2.2.2.1 y =
    ((∑ s ∈ Finset.range (n % 8 + 1), (R (8 * (n / 8) + s)).dsSum (decide ((y 0).val = 1)) 7 (y 1).val (y 2).val : ℝ) : EReal) := by
  intro n
  induction n with
  | zero =>
    intro h y
    rw [show outsAt0 m c 0 h = _ from outs_zero m c ⟨0, h⟩ rfl]
    show Ideal.ofBits .f32 0x00000000#32 + (tileAt m c ⟨0, h⟩).dsSum _ 7 (ixW (y 1) (y 2)) = _
    rw [word_zero, (H ⟨0, h⟩).dsSum _ 7 (by omega), ← EReal.coe_add]
    simp
  | succ n ih =>
    intro h y
    by_cases h8 : (n + 1) % 8 = 0
    · rw [show outsAt0 m c (n + 1) h = _ from outs_start m c ⟨n + 1, h⟩ h8 (Nat.succ_ne_zero n)]
      show Ideal.ofBits .f32 0x00000000#32 + (tileAt m c ⟨n + 1, h⟩).dsSum _ 7 (ixW (y 1) (y 2)) = _
      rw [word_zero, (H ⟨n + 1, h⟩).dsSum _ 7 (by omega), ← EReal.coe_add, h8, zero_add, zero_add, Finset.sum_range_one,
        show 8 * ((n + 1) / 8) + 0 = n + 1 from by omega]
    · rw [show outsAt0 m c (n + 1) h = _ from outs_next m c ⟨n + 1, h⟩ h8]
      show (outsAt0 m c n _).2.2.2.1 y + (tileAt m c ⟨n + 1, h⟩).dsSum _ 7 (ixW (y 1) (y 2)) = _
      rw [ih, (H ⟨n + 1, h⟩).dsSum _ 7 (by omega), ← EReal.coe_add, Finset.sum_range_succ _ ((n + 1) % 8),
        show n % 8 + 1 = (n + 1) % 8 from by omega, show n / 8 = (n + 1) / 8 from by omega,
        show 8 * ((n + 1) / 8) + (n + 1) % 8 = n + 1 from by omega]

/-- The array of the bias gradient. -/
theorem array18 : (dats m 0 c).arrAt 18 cfg0.N = fun i : S8x128x256.Idx =>
    ((∑ s ∈ Finset.range 8, (R (8 * ((i 0).val / 2) + s)).dsSum (decide ((i 0).val % 2 = 1)) 7 (i 1).val (i 2).val : ℝ) : EReal) := by
  refine (dats m 0 c).arrAt_eq_of_covers 18 _ (by decide +kernel) fun t hf y => ?_
  have h7 := (flush0_18 t).mp hf
  blk_simp
  rw [after0_18]
  refine (outs18 H t.val t.isLt y).trans (congrArg _ ?_)
  have h0 : (y 0).val < 2 := (y 0).isLt
  blk_simp [index18 t]
  rw [h7, show (t.val / 8 * 2 + (y 0).val) / 2 = t.val / 8 from by omega, show (t.val / 8 * 2 + (y 0).val) % 2 = (y 0).val from by omega]

/-- What a point leaves in the gain gradients' windows: the sums over all points so far. -/
theorem outs19 : ∀ (n : ℕ) (h : n < cfg0.N) (y : S1x64.Idx), (outsAt0 m c n h).2.2.2.2.1 y =
    ((∑ s ∈ Finset.range (n + 1), ((R s).dqgSum 8 (y 1).val + (R s).dqgSum 8 (64 + (y 1).val)) * (1 / 8) : ℝ) : EReal) := by
  have hp : ∀ (t : Fin cfg0.N) (y : S1x64.Idx), k0_pay1 ((tileAt m c t).dqgSum 8) y =
      ((((R t.val).dqgSum 8 (y 1).val + (R t.val).dqgSum 8 (64 + (y 1).val)) * (1 / 8) : ℝ) : EReal) := fun t y => by
    show fold ((tileAt m c t).dqgSum 8) y * Ideal.ofBits .f32 0x3E000000#32 = _
    rw [((H t).dqgSum 8 le_rfl).fold y, word_eighth, ← EReal.coe_mul]
  intro n
  induction n with
  | zero =>
    intro h y
    rw [show outsAt0 m c 0 h = _ from outs_zero m c ⟨0, h⟩ rfl]
    rw [show (_, _, _, _, k0_pay1 ((tileAt m c ⟨0, h⟩).dqgSum 8), _).2.2.2.2.1 y = _ from hp ⟨0, h⟩ y]
    simp
  | succ n ih =>
    intro h y
    have hs : ∀ q : FVec Ideal S1x64 .f32, q y = (outsAt0 m c n (Nat.lt_of_succ_lt h)).2.2.2.2.1 y →
        k0_pay3 ((tileAt m c ⟨n + 1, h⟩).dqgSum 8) q y =
          ((∑ s ∈ Finset.range (n + 1 + 1), ((R s).dqgSum 8 (y 1).val + (R s).dqgSum 8 (64 + (y 1).val)) * (1 / 8) : ℝ) : EReal) := fun q hq => by
      show shapeCast S1x64 q _ y + k0_pay1 ((tileAt m c ⟨n + 1, h⟩).dqgSum 8) y = _
      rw [shapeCast_id, hp, hq, ih (Nat.lt_of_succ_lt h), ← EReal.coe_add, Finset.sum_range_succ _ (n + 1)]
    by_cases h8 : (n + 1) % 8 = 0
    · rw [show outsAt0 m c (n + 1) h = _ from outs_start m c ⟨n + 1, h⟩ h8 (Nat.succ_ne_zero n)]
      exact hs _ rfl
    · rw [show outsAt0 m c (n + 1) h = _ from outs_next m c ⟨n + 1, h⟩ h8]
      exact hs _ rfl

theorem outs20 : ∀ (n : ℕ) (h : n < cfg0.N) (y : S1x64.Idx), (outsAt0 m c n h).2.2.2.2.2 y =
    ((∑ s ∈ Finset.range (n + 1), ((R s).dkgSum 8 (y 1).val + (R s).dkgSum 8 (64 + (y 1).val)) : ℝ) : EReal) := by
  have hp : ∀ (t : Fin cfg0.N) (y : S1x64.Idx), k0_pay2 ((tileAt m c t).dkgSum 8) y =
      (((R t.val).dkgSum 8 (y 1).val + (R t.val).dkgSum 8 (64 + (y 1).val) : ℝ) : EReal) := fun t y =>
    ((H t).dkgSum 8 le_rfl).fold y
  intro n
  induction n with
  | zero =>
    intro h y
    rw [show outsAt0 m c 0 h = _ from outs_zero m c ⟨0, h⟩ rfl]
    rw [show (_, _, _, _, _, k0_pay2 ((tileAt m c ⟨0, h⟩).dkgSum 8)).2.2.2.2.2 y = _ from hp ⟨0, h⟩ y]
    simp
  | succ n ih =>
    intro h y
    have hs : ∀ q : FVec Ideal S1x64 .f32, q y = (outsAt0 m c n (Nat.lt_of_succ_lt h)).2.2.2.2.2 y →
        k0_pay4 ((tileAt m c ⟨n + 1, h⟩).dkgSum 8) q y =
          ((∑ s ∈ Finset.range (n + 1 + 1), ((R s).dkgSum 8 (y 1).val + (R s).dkgSum 8 (64 + (y 1).val)) : ℝ) : EReal) := fun q hq => by
      show shapeCast S1x64 q _ y + k0_pay2 ((tileAt m c ⟨n + 1, h⟩).dkgSum 8) y = _
      rw [shapeCast_id, hp, hq, ih (Nat.lt_of_succ_lt h), ← EReal.coe_add, Finset.sum_range_succ _ (n + 1)]
    by_cases h8 : (n + 1) % 8 = 0
    · rw [show outsAt0 m c (n + 1) h = _ from outs_start m c ⟨n + 1, h⟩ h8 (Nat.succ_ne_zero n)]
      exact hs _ rfl
    · rw [show outsAt0 m c (n + 1) h = _ from outs_next m c ⟨n + 1, h⟩ h8]
      exact hs _ rfl

omit H in
def lastPoint : Fin cfg0.N := ⟨31, by rw [show cfg0.N = 32 from N_0]; decide⟩

/-- The arrays of the gain gradients. -/
theorem array19 : (dats m 0 c).arrAt 19 cfg0.N = fun i : S1x64.Idx =>
    ((∑ s ∈ Finset.range 32, ((R s).dqgSum 8 (i 1).val + (R s).dqgSum 8 (64 + (i 1).val)) * (1 / 8) : ℝ) : EReal) := by
  refine (dats m 0 c).arrAt_eq_of_after_last 19 lastPoint (by decide +kernel) _ fun j => ?_
  blk_simp
  rw [after0_19]
  exact outs19 H 31 lastPoint.isLt j

theorem array20 : (dats m 0 c).arrAt 20 cfg0.N = fun i : S1x64.Idx =>
    ((∑ s ∈ Finset.range 32, ((R s).dkgSum 8 (i 1).val + (R s).dkgSum 8 (64 + (i 1).val)) : ℝ) : EReal) := by
  refine (dats m 0 c).arrAt_eq_of_after_last 20 lastPoint (by decide +kernel) _ fun j => ?_
  blk_simp
  rw [after0_20]
  exact outs20 H 31 lastPoint.isLt j

end Cert.KernelIdeal.Blk
end
-- ==== Proof.Tiling.lean ====
/-
  The tiles and the whole arrays, over the reals: the inputs of grid point `t = 8 * p + i` are the rows from `1024 * i` on of
  the heads `2 * p` and `2 * p + 1`, and what the tile computes is the mathematics of those rows and heads. The rows that a
  tile reads beyond the array's ends meet weights that are zero.
-/
module

public import proofs.«01_k».proof.Proof.Arrays

@[expose] public section

set_option maxRecDepth 16384

noncomputable section

namespace Cert.KernelIdeal.Blk

open Cert.Attn
open scoped BigOperators

/-- A function of row, head and lane, over two heads' lanes side by side. -/
def heads (p : ℕ) (g : ℕ → ℕ → ℕ → ℝ) (r c : ℕ) : ℝ := g r (2 * p + c / 64) (c % 64)

/-- A head's number within its pair. -/
def hn (a : Bool) : ℕ := if a then 1 else 0

theorem hn_hd {c : ℕ} (hc : c < 128) : hn (hd c) = c / 64 := by
  by_cases h : c < 64
  · rw [hd_low h]; simp [hn]; omega
  · rw [hd_high h]; simp [hn]; omega

theorem heads_off (p : ℕ) (g : ℕ → ℕ → ℕ → ℝ) (a : Bool) (r e : ℕ) (he : e < 64) : heads p g r (off a + e) = g r (2 * p + hn a) e := by
  unfold heads
  cases a
  · rw [show (off false + e) / 64 = 0 from by simp [off]; omega, show (off false + e) % 64 = e from by simp [off]; omega]; rfl
  · rw [show (off true + e) / 64 = 1 from by simp [off]; omega, show (off true + e) % 64 = e from by simp [off]; omega]; rfl

theorem off_lt (a : Bool) (e : ℕ) (he : e < 64) : off a + e < 128 := by cases a <;> simp [off] <;> omega

theorem hd_off (a : Bool) (e : ℕ) (he : e < 64) : hd (off a + e) = a := by
  cases a
  · exact hd_low (by simp [off]; omega)
  · exact hd_high (by simp [off])

theorem hsum_of {X : ℕ → ℕ → ℝ} {p : ℕ} {g : ℕ → ℕ → ℕ → ℝ} {r : ℕ} (h : ∀ c, c < 128 → X r c = heads p g r c) {c : ℕ}
    (hc : c < 128) : hsum X r c = ∑ e : Fin 64, g r (2 * p + c / 64) e := by
  unfold hsum
  refine Finset.sum_congr rfl fun e _ => ?_
  rw [h _ (off_lt _ _ e.isLt), heads_off _ _ _ _ _ e.isLt, hn_hd hc]

theorem rr_of {X : ℕ → ℕ → ℝ} {p : ℕ} {g : ℕ → ℕ → ℕ → ℝ} {r : ℕ} (h : ∀ c, c < 128 → X r c = heads p g r c) {c : ℕ}
    (hc : c < 128) : rr X r c = rinv g r (2 * p + c / 64) := by
  unfold rr rinv mean
  rw [hsum_of (X := fun r c => X r c * X r c) (g := fun r h d => g r h d * g r h d) (p := p)
    (fun c hc => by rw [h c hc]; rfl) hc]

/-- The row of a tile's block `u`, held at the last block. -/
def blockOf (i u : ℕ) : ℕ := min (8 * i + u) 63

variable (D : Data)

/-- The inputs of grid point `t`. -/
def rt (t : ℕ) : RTile where
  q u := heads (t / 8) fun r h d => D.q (128 * blockOf (t % 8) u + r) h d
  k j := heads (t / 8) fun r h d => D.k (128 * (8 * (t % 8) + j - 1) + r) h d
  v j := heads (t / 8) fun r h d => D.v (128 * (8 * (t % 8) + j - 1) + r) h d
  o u := heads (t / 8) fun r h d => D.out (blockOf (t % 8) u) h r d
  l u := heads (t / 8) fun r h d => Real.log (D.tot (blockOf (t % 8) u) h r)
  ct u := heads (t / 8) fun r h d => D.cth (128 * blockOf (t % 8) u + r) h d
  bias a := D.tab (2 * (t / 8) + hn a)
  qg c := D.qg (c % 64)
  kg c := D.kg (c % 64)
  tile := t % 8

/-- Block `u` is one of the array's. -/
def inside (t u : ℕ) : Prop := u < 8 ∨ (u = 8 ∧ t % 8 < 7)

theorem blockOf_inside {t u : ℕ} (h : inside t u) : blockOf (t % 8) u = 8 * (t % 8) + u := by
  unfold blockOf; unfold inside at h; omega

theorem rx_q (t u r c : ℕ) (hu : inside t u) (hc : c < 128) :
    rx ((rt D t).q u) r c = D.qx (128 * (8 * (t % 8) + u) + r) (2 * (t / 8) + c / 64) (c % 64) := by
  unfold rx
  rw [rr_of (X := (rt D t).q u) (p := t / 8) (g := fun r h d => D.q (128 * blockOf (t % 8) u + r) h d) (fun c _ => rfl) hc]
  show D.q (128 * blockOf (t % 8) u + r) _ _ * _ = _
  rw [blockOf_inside hu]
  rfl

theorem rr_q (t u r c : ℕ) (hu : inside t u) (hc : c < 128) :
    rr ((rt D t).q u) r c = D.rq (128 * (8 * (t % 8) + u) + r) (2 * (t / 8) + c / 64) := by
  rw [rr_of (X := (rt D t).q u) (p := t / 8) (g := fun r h d => D.q (128 * blockOf (t % 8) u + r) h d) (fun c _ => rfl) hc]
  rw [blockOf_inside hu]
  rfl

theorem qn_at (t u r c : ℕ) (hu : inside t u) (hc : c < 128) :
    (rt D t).qn u r c = D.qn (128 * (8 * (t % 8) + u) + r) (2 * (t / 8) + c / 64) (c % 64) := by
  show rx ((rt D t).q u) r c * (D.qg (c % 64) * (1 / 8)) = _
  rw [rx_q D t u r c hu hc]; rfl

theorem rr_k (t j r c : ℕ) (hc : c < 128) :
    rr ((rt D t).k j) r c = D.rk (128 * (8 * (t % 8) + j - 1) + r) (2 * (t / 8) + c / 64) :=
  rr_of (X := (rt D t).k j) (p := t / 8) (g := fun r h d => D.k (128 * (8 * (t % 8) + j - 1) + r) h d) (fun c _ => rfl) hc

theorem rx_k (t j r c : ℕ) (hc : c < 128) :
    rx ((rt D t).k j) r c = D.kx (128 * (8 * (t % 8) + j - 1) + r) (2 * (t / 8) + c / 64) (c % 64) := by
  unfold rx; rw [rr_k D t j r c hc]; rfl

theorem kn_at (t j r c : ℕ) (hc : c < 128) :
    (rt D t).kn j r c = D.kn (128 * (8 * (t % 8) + j - 1) + r) (2 * (t / 8) + c / 64) (c % 64) := by
  show rx ((rt D t).k j) r c * D.kg (c % 64) = _
  rw [rx_k D t j r c hc]; rfl

/-- A window of two blocks of keys is the array's window, wherever a query sees it. -/
theorem two_at (f : ℕ → ℕ → ℕ → ℝ) (X : ℕ → ℕ → ℕ → ℝ) (t u z c : ℕ) (hz : z < 256)
    (hX : ∀ j z, X j z c = f (128 * (8 * (t % 8) + j - 1) + z) (2 * (t / 8) + c / 64) (c % 64))
    (hok : 0 < 8 * (t % 8) + u ∨ 128 ≤ z) :
    two (X u) (X (u + 1)) z c = ext f (128 * (8 * (t % 8) + u) + z) (2 * (t / 8) + c / 64) (c % 64) := by
  unfold two ext
  by_cases h : z < 128
  · rw [if_pos h, if_neg (by omega), hX]
    exact congrArg (fun s => f s _ _) (by omega)
  · rw [if_neg h, if_neg (by omega), hX]
    exact congrArg (fun s => f s _ _) (by omega)

theorem ok_iff (t u r z : ℕ) : (rt D t).ok u r z ↔ valid (8 * (t % 8) + u) r z := by
  unfold RTile.ok RTile.band valid
  show _ ∧ (t % 8 ≠ 0 ∨ u ≠ 0 ∨ 128 ≤ z) ↔ _
  omega

theorem dots_at (a : Bool) (t u r z : ℕ) (hu : u < 8) (hz : z < 256) (hok : 0 < 8 * (t % 8) + u ∨ 128 ≤ z) :
    (rt D t).dots a u r z + (rt D t).bias a r z = D.logit (8 * (t % 8) + u) (2 * (t / 8) + hn a) r z := by
  unfold RTile.dots Data.logit
  refine congrArg₂ (· + ·) (Finset.sum_congr rfl fun e _ => ?_) rfl
  have hc := off_lt a e e.isLt
  rw [qn_at D t u r _ (Or.inl hu) hc, two_at D.kn (rt D t).kn t u z _ hz (fun j z => kn_at D t j z _ hc) hok]
  have h1 : (off a + e.val) / 64 = hn a := by rw [← hn_hd hc, hd_off _ _ e.isLt]
  have h2 : (off a + e.val) % 64 = e.val := by have := e.isLt; cases a <;> simp [off] <;> omega
  rw [h1, h2]

theorem weight (x y : ℝ) (hy : 0 < y) : Real.exp (x - Real.log y) = Real.exp x / y := by
  rw [Real.exp_sub, Real.exp_log hy]

theorem l_at (a : Bool) (t u r : ℕ) (hu : inside t u) :
    (rt D t).l u r (off a) = Real.log (D.tot (8 * (t % 8) + u) (2 * (t / 8) + hn a) r) := by
  have := heads_off (t / 8) (fun r h d => Real.log (D.tot (blockOf (t % 8) u) h r)) a r 0 (by omega)
  rw [← blockOf_inside hu]
  exact this

theorem prob_at (a : Bool) (t u r z : ℕ) (hu : u < 8) (hz : z < 256) :
    (rt D t).prob a u r z = D.prob (8 * (t % 8) + u) (2 * (t / 8) + hn a) r z := by
  unfold RTile.prob Data.prob Data.ev
  by_cases h : (rt D t).ok u r z
  · have hv := (ok_iff D t u r z).mp h
    rw [if_pos h, if_pos hv, dots_at D a t u r z hu hz hv.2.2, l_at D a t u r (Or.inl hu), weight _ _ (D.tot_pos _ _ _)]
  · rw [if_neg h, if_neg fun hv => h ((ok_iff D t u r z).mpr hv), zero_div]

theorem delta_at (a : Bool) (t u r : ℕ) (hu : inside t u) :
    (rt D t).delta u r (off a) = D.delta (8 * (t % 8) + u) (2 * (t / 8) + hn a) r := by
  have hc : off a < 128 := off_lt a 0 (by omega)
  unfold RTile.delta
  rw [hsum_of (X := fun r c => (rt D t).ct u r c * (rt D t).o u r c) (r := r) (p := t / 8) (g := fun r h d => D.cth (128 * blockOf (t % 8) u + r) h d * D.out (blockOf (t % 8) u) h r d)
    (fun c _ => rfl) hc, blockOf_inside hu, ← hn_hd hc, show hd (off a) = a from hd_off a 0 (by omega)]
  rfl

theorem v_at (t j r c : ℕ) :
    (rt D t).v j r c = D.v (128 * (8 * (t % 8) + j - 1) + r) (2 * (t / 8) + c / 64) (c % 64) := rfl

theorem ct_at (t u r c : ℕ) (hu : inside t u) :
    (rt D t).ct u r c = D.cth (128 * (8 * (t % 8) + u) + r) (2 * (t / 8) + c / 64) (c % 64) := by
  rw [← blockOf_inside hu]; rfl

theorem head_off (a : Bool) (e : ℕ) (he : e < 64) : (off a + e) / 64 = hn a := by
  rw [← hn_hd (off_lt a e he), hd_off _ _ he]
theorem lane_off (a : Bool) (e : ℕ) (he : e < 64) : (off a + e) % 64 = e := by cases a <;> simp [off] <;> omega

theorem dp_at (a : Bool) (t u r z : ℕ) (hu : u < 8) (hz : z < 256) (hok : 0 < 8 * (t % 8) + u ∨ 128 ≤ z) :
    (rt D t).dp a u r z = D.dp (8 * (t % 8) + u) (2 * (t / 8) + hn a) r z := by
  unfold RTile.dp Data.dp
  refine Finset.sum_congr rfl fun e _ => ?_
  rw [ct_at D t u r _ (Or.inl hu), two_at D.v (rt D t).v t u z _ hz (fun j z => v_at D t j z _) hok,
    head_off _ _ e.isLt, lane_off _ _ e.isLt]

theorem ds_at (a : Bool) (t u r z : ℕ) (hu : u < 8) (hz : z < 256) :
    (rt D t).ds a u r z = D.ds (8 * (t % 8) + u) (2 * (t / 8) + hn a) r z := by
  unfold RTile.ds Data.ds
  rw [prob_at D a t u r z hu hz, delta_at D a t u r (Or.inl hu)]
  by_cases h : valid (8 * (t % 8) + u) r z
  · rw [dp_at D a t u r z hu hz h.2.2]
  · have : D.prob (8 * (t % 8) + u) (2 * (t / 8) + hn a) r z = 0 := by
      unfold Data.prob Data.ev; rw [if_neg h, zero_div]
    rw [this, zero_mul, zero_mul]

theorem probH_at (a : Bool) (t r z : ℕ) (hr : r < 128) (hz : z < 128) : (rt D t).probH a r z =
    if t % 8 < 7 then D.prob (8 * (t % 8) + 8) (2 * (t / 8) + hn a) r z else 0 := by
  unfold RTile.probH
  show (if t % 8 < 7 ∧ r ≤ z then _ else 0) = _
  by_cases ht : t % 8 < 7
  · have hi : inside t 8 := Or.inr ⟨rfl, ht⟩
    rw [if_pos ht]
    unfold Data.prob Data.ev
    by_cases h : r ≤ z
    · rw [if_pos ⟨ht, h⟩, if_pos ⟨by omega, h, Or.inl (by omega)⟩, l_at D a t 8 r hi, weight _ _ (D.tot_pos _ _ _)]
      refine congrArg (fun x => Real.exp x / _) (congrArg₂ (· + ·) (Finset.sum_congr rfl fun e _ => ?_) rfl)
      have hc := off_lt a e e.isLt
      rw [qn_at D t 8 r _ hi hc, kn_at D t 8 z _ hc, head_off _ _ e.isLt, lane_off _ _ e.isLt]
      unfold ext
      rw [if_neg (by omega), show 128 * (8 * (t % 8) + 8) + z - 128 = 128 * (8 * (t % 8) + 8 - 1) + z from by omega]
    · rw [if_neg fun hh => h hh.2, if_neg fun hh => h hh.2.1, zero_div]
  · rw [if_neg ht, if_neg fun hh => ht hh.1]

theorem dsH_at (a : Bool) (t r z : ℕ) (hr : r < 128) (hz : z < 128) : (rt D t).dsH a r z =
    if t % 8 < 7 then D.ds (8 * (t % 8) + 8) (2 * (t / 8) + hn a) r z else 0 := by
  unfold RTile.dsH
  rw [probH_at D a t r z hr hz]
  by_cases ht : t % 8 < 7
  · have hi : inside t 8 := Or.inr ⟨rfl, ht⟩
    rw [if_pos ht, if_pos ht, delta_at D a t 8 r hi]
    unfold Data.ds Data.dp
    refine congrArg (fun x => _ * (x - _)) (Finset.sum_congr rfl fun e _ => ?_)
    rw [ct_at D t 8 r _ hi, v_at, head_off _ _ e.isLt, lane_off _ _ e.isLt]
    unfold ext
    rw [if_neg (by omega), show 128 * (8 * (t % 8) + 8) + z - 128 = 128 * (8 * (t % 8) + 8 - 1) + z from by omega]
  · rw [if_neg ht, if_neg ht, zero_mul]

theorem probB_at (a : Bool) (t u r z : ℕ) (hu : u < 8) (hr : r < 128) (hz : z < 128) : (rt D t).probB a u r z =
    if 8 * (t % 8) + u + 1 < 64 then D.prob (8 * (t % 8) + u + 1) (2 * (t / 8) + hn a) r z else 0 := by
  unfold RTile.probB
  by_cases h : u = 7
  · subst h
    rw [if_pos rfl, probH_at D a t r z hr hz]
    exact if_congr (by omega) rfl rfl
  · rw [if_neg h, if_pos (by omega), prob_at D a t (u + 1) r z (by omega) (by omega)]
    rfl

theorem dsB_at (a : Bool) (t u r z : ℕ) (hu : u < 8) (hr : r < 128) (hz : z < 128) : (rt D t).dsB a u r z =
    if 8 * (t % 8) + u + 1 < 64 then D.ds (8 * (t % 8) + u + 1) (2 * (t / 8) + hn a) r z else 0 := by
  unfold RTile.dsB
  by_cases h : u = 7
  · subst h
    rw [if_pos rfl, dsH_at D a t r z hr hz]
    exact if_congr (by omega) rfl rfl
  · rw [if_neg h, if_pos (by omega), ds_at D a t (u + 1) r z (by omega) (by omega)]
    rfl

theorem inside_next {t u : ℕ} (hu : u < 8) (h : 8 * (t % 8) + u + 1 < 64) : inside t (u + 1) := by
  unfold inside; omega

/-- The gradient with respect to the values: the tile's is the array's. -/
theorem dv_at (t u r c : ℕ) (hu : u < 8) (hr : r < 128) (hc : c < 128) :
    (rt D t).dv u r c = D.dv (8 * (t % 8) + u) (2 * (t / 8) + c / 64) r (c % 64) := by
  unfold RTile.dv Data.dv
  refine congrArg₂ (· + ·) (Finset.sum_congr rfl fun y _ => ?_) ?_
  · rw [prob_at D _ t u y _ hu (by omega), ct_at D t u y c (Or.inl hu), hn_hd hc]
  · by_cases h : 8 * (t % 8) + u + 1 < 64
    · rw [if_pos h]
      refine Finset.sum_congr rfl fun y _ => ?_
      rw [probB_at D _ t u y r hu y.isLt hr, if_pos h, ct_at D t (u + 1) y c (inside_next hu h), hn_hd hc]
      rfl
    · rw [if_neg h]
      refine Finset.sum_eq_zero fun y _ => ?_
      rw [probB_at D _ t u y r hu y.isLt hr, if_neg h, zero_mul]

theorem dkn_at (t u r c : ℕ) (hu : u < 8) (hr : r < 128) (hc : c < 128) :
    (rt D t).dkn u r c = D.dkn (8 * (t % 8) + u) (2 * (t / 8) + c / 64) r (c % 64) := by
  unfold RTile.dkn Data.dkn
  refine congrArg₂ (· + ·) (Finset.sum_congr rfl fun y _ => ?_) ?_
  · rw [ds_at D _ t u y _ hu (by omega), qn_at D t u y c (Or.inl hu) hc, hn_hd hc]
  · by_cases h : 8 * (t % 8) + u + 1 < 64
    · rw [if_pos h]
      refine Finset.sum_congr rfl fun y _ => ?_
      rw [dsB_at D _ t u y r hu y.isLt hr, if_pos h, qn_at D t (u + 1) y c (inside_next hu h) hc, hn_hd hc]
      rfl
    · rw [if_neg h]
      refine Finset.sum_eq_zero fun y _ => ?_
      rw [dsB_at D _ t u y r hu y.isLt hr, if_neg h, zero_mul]

theorem dqn_at (t u r c : ℕ) (hu : u < 8) (hr : r < 128) (hc : c < 128) :
    (rt D t).dqn u r c = D.dqn (8 * (t % 8) + u) (2 * (t / 8) + c / 64) r (c % 64) := by
  unfold RTile.dqn Data.dqn
  refine Finset.sum_congr rfl fun z _ => ?_
  rw [ds_at D _ t u r z hu z.isLt, hn_hd hc]
  by_cases h : valid (8 * (t % 8) + u) r z
  · rw [two_at D.kn (rt D t).kn t u z c z.isLt (fun j z => kn_at D t j z _ hc) h.2.2]
  · have : D.ds (8 * (t % 8) + u) (2 * (t / 8) + c / 64) r z = 0 := by
      unfold Data.ds Data.prob Data.ev; rw [if_neg h, zero_div, zero_mul]
    rw [this, zero_mul, zero_mul]

theorem dq_at (t u r c : ℕ) (hu : u < 8) (hr : r < 128) (hc : c < 128) :
    (rt D t).dq u r c = D.dq (8 * (t % 8) + u) (2 * (t / 8) + c / 64) r (c % 64) := by
  unfold RTile.dq rback mean
  rw [hsum_of (p := t / 8) (g := fun r h d => D.dqn (8 * (t % 8) + u) h r d * (D.qg d * (1 / 8)) * D.qx (128 * (8 * (t % 8) + u) + r) h d)
    (fun c hc => by rw [rx_q D t u r c (Or.inl hu) hc, dqn_at D t u r c hu hr hc]; rfl) hc,
    rr_q D t u r c (Or.inl hu) hc, rx_q D t u r c (Or.inl hu) hc, dqn_at D t u r c hu hr hc]
  rfl

theorem dk_at (t u r c : ℕ) (hu : u < 8) (hr : r < 128) (hc : c < 128) :
    (rt D t).dk u r c = D.dk (8 * (t % 8) + u) (2 * (t / 8) + c / 64) r (c % 64) := by
  unfold RTile.dk rback mean
  rw [hsum_of (p := t / 8) (g := fun r h d => D.dkn (8 * (t % 8) + u) h r d * D.kg d * D.kx (128 * (8 * (t % 8) + u) + r) h d)
    (fun c hc => by rw [rx_k D t (u + 1) r c hc, dkn_at D t u r c hu hr hc]; rfl) hc,
    rr_k D t (u + 1) r c hc, rx_k D t (u + 1) r c hc, dkn_at D t u r c hu hr hc]
  rfl

/-- The arrays of the gradients of the queries, keys and values, element by element. -/
theorem spread_dq (r k : ℕ) (hr : r < 8192) : spreadR (rt D) RTile.dq r k = D.dq (r / 128) (k / 64) (r % 128) (k % 64) := by
  unfold spreadR
  rw [dq_at D _ _ _ _ (by omega) (by omega) (by omega), show 8 * ((k / 128 * 8 + r / 1024) % 8) + r % 1024 / 128 = r / 128 from by omega,
    show 2 * ((k / 128 * 8 + r / 1024) / 8) + k % 128 / 64 = k / 64 from by omega, show k % 128 % 64 = k % 64 from by omega]
theorem spread_dk (r k : ℕ) (hr : r < 8192) : spreadR (rt D) RTile.dk r k = D.dk (r / 128) (k / 64) (r % 128) (k % 64) := by
  unfold spreadR
  rw [dk_at D _ _ _ _ (by omega) (by omega) (by omega), show 8 * ((k / 128 * 8 + r / 1024) % 8) + r % 1024 / 128 = r / 128 from by omega,
    show 2 * ((k / 128 * 8 + r / 1024) / 8) + k % 128 / 64 = k / 64 from by omega, show k % 128 % 64 = k % 64 from by omega]
theorem spread_dv (r k : ℕ) (hr : r < 8192) : spreadR (rt D) RTile.dv r k = D.dv (r / 128) (k / 64) (r % 128) (k % 64) := by
  unfold spreadR
  rw [dv_at D _ _ _ _ (by omega) (by omega) (by omega), show 8 * ((k / 128 * 8 + r / 1024) % 8) + r % 1024 / 128 = r / 128 from by omega,
    show 2 * ((k / 128 * 8 + r / 1024) / 8) + k % 128 / 64 = k / 64 from by omega, show k % 128 % 64 = k % 64 from by omega]

/-- A sum over the tiles and their blocks is a sum over all blocks. -/
theorem sum_blocks (g : ℕ → ℝ) : ∑ s ∈ Finset.range 8, ∑ u ∈ Finset.range 8, g (8 * s + u) = ∑ n : Fin 64, g n := by
  rw [Fin.sum_univ_eq_sum_range g 64]
  simp only [Finset.sum_range_succ, Finset.sum_range_zero]
  norm_num
  ring

/-- The bias gradient: the sum over the points of a head pair. -/
theorem dsSum_at (h y z : ℕ) (hz : z < 256) :
    ∑ s ∈ Finset.range 8, (rt D (8 * (h / 2) + s)).dsSum (decide (h % 2 = 1)) 7 y z = D.dtab h y z := by
  unfold Data.dtab
  rw [← sum_blocks fun n => D.ds n h y z]
  refine Finset.sum_congr rfl fun s hs => ?_
  have hs := Finset.mem_range.mp hs
  unfold RTile.dsSum
  refine Finset.sum_congr rfl fun u hu => ?_
  have hu := Finset.mem_range.mp hu
  rw [ds_at D _ _ u y z (by omega) hz, show 8 * ((8 * (h / 2) + s) % 8) + u = 8 * s + u from by omega]
  refine congrArg (fun k => D.ds (8 * s + u) k y z) ?_
  rcases Nat.mod_two_eq_zero_or_one h with h2 | h2 <;> rw [h2] <;> simp [hn] <;> omega

/-- A sum over all points, of both heads of a pair, is a sum over the blocks and heads. -/
theorem sum_points (g : ℕ → ℕ → ℝ) :
    ∑ t ∈ Finset.range 32, ∑ u ∈ Finset.range 8, (g (8 * (t % 8) + u) (2 * (t / 8)) + g (8 * (t % 8) + u) (2 * (t / 8) + 1))
      = ∑ n : Fin 64, ∑ h : Fin 8, g n h := by
  have hh : ∀ n, ∑ h : Fin 8, g n h = ∑ p ∈ Finset.range 4, (g n (2 * p) + g n (2 * p + 1)) := fun n => by
    rw [Fin.sum_univ_eq_sum_range (g n) 8]
    simp only [Finset.sum_range_succ, Finset.sum_range_zero]
    norm_num
    ring
  simp only [hh]
  rw [show (32 : ℕ) = 4 * 8 from rfl]
  have split : ∀ f : ℕ → ℝ, ∑ t ∈ Finset.range (4 * 8), f t = ∑ p ∈ Finset.range 4, ∑ i ∈ Finset.range 8, f (8 * p + i) := fun f => by
    simp only [Finset.sum_range_succ, Finset.sum_range_zero]
    norm_num
    ring
  rw [split]
  conv_rhs => rw [Finset.sum_comm]
  refine Finset.sum_congr rfl fun p _ => ?_
  rw [← sum_blocks fun n => g n (2 * p) + g n (2 * p + 1)]
  refine Finset.sum_congr rfl fun i hi => Finset.sum_congr rfl fun u _ => ?_
  have hi := Finset.mem_range.mp hi
  rw [show (8 * p + i) % 8 = i from by omega, show (8 * p + i) / 8 = p from by omega]

theorem dqgSum_at (d : ℕ) (hd : d < 64) :
    ∑ s ∈ Finset.range 32, ((rt D s).dqgSum 8 d + (rt D s).dqgSum 8 (64 + d)) * (1 / 8) = D.dqg d := by
  unfold Data.dqg
  rw [← Finset.sum_mul, ← sum_points fun n h => ∑ y : Fin 128, D.dqn n h y d * D.qx (128 * n + y) h d]
  refine congrArg (· * _) (Finset.sum_congr rfl fun t _ => ?_)
  unfold RTile.dqgSum
  rw [← Finset.sum_add_distrib]
  refine Finset.sum_congr rfl fun u hu => ?_
  have hu := Finset.mem_range.mp hu
  refine congrArg₂ (· + ·) (Finset.sum_congr rfl fun y _ => ?_) (Finset.sum_congr rfl fun y _ => ?_)
  · rw [dqn_at D t u y d hu y.isLt (by omega), rx_q D t u y d (Or.inl hu) (by omega), show d / 64 = 0 from by omega,
      show d % 64 = d from by omega]
    rfl
  · rw [dqn_at D t u y (64 + d) hu y.isLt (by omega), rx_q D t u y (64 + d) (Or.inl hu) (by omega),
      show (64 + d) / 64 = 1 from by omega, show (64 + d) % 64 = d from by omega]

theorem dkgSum_at (d : ℕ) (hd : d < 64) :
    ∑ s ∈ Finset.range 32, ((rt D s).dkgSum 8 d + (rt D s).dkgSum 8 (64 + d)) = D.dkg d := by
  unfold Data.dkg
  rw [← sum_points fun n h => ∑ y : Fin 128, D.dkn n h y d * D.kx (128 * n + y) h d]
  refine Finset.sum_congr rfl fun t _ => ?_
  unfold RTile.dkgSum
  rw [← Finset.sum_add_distrib]
  refine Finset.sum_congr rfl fun u hu => ?_
  have hu := Finset.mem_range.mp hu
  refine congrArg₂ (· + ·) (Finset.sum_congr rfl fun y _ => ?_) (Finset.sum_congr rfl fun y _ => ?_)
  · rw [dkn_at D t u y d hu y.isLt (by omega), rx_k D t (u + 1) y d (by omega), show d / 64 = 0 from by omega,
      show d % 64 = d from by omega]
    rfl
  · rw [dkn_at D t u y (64 + d) hu y.isLt (by omega), rx_k D t (u + 1) y (64 + d) (by omega),
      show (64 + d) / 64 = 1 from by omega, show (64 + d) % 64 = d from by omega]
    rfl

end Cert.KernelIdeal.Blk
end
-- ==== Proof.Windows.lean ====
/-
  Every grid point's windows, read at an index, when the call's arrays hold the real data.
-/
module

public import proofs.«01_k».proof.Proof.Arrays
public import proofs.«01_k».proof.Proof.Tiling

@[expose] public section

set_option maxRecDepth 16384
set_option backward.isDefEq.respectTransparency false
set_option maxHeartbeats 200000

noncomputable section

namespace Cert.KernelIdeal.Blk

open Idealize.ShloMosaic Idealize.ShloMosaic.TcCoe Idealize.SL.Sem Cert.KernelIdeal Cert.KernelIdeal.Gen Cert.Attn
open scoped BigOperators Classical

/-- A load of one block of rows of a window. -/
theorem ld_rows (X : Vec Ideal S1024x128 .f32) (f : ℕ → ℕ → ℝ) (hX : ∀ x : S1024x128.Idx, X x = ((f (x 0).val (x 1).val : ℝ) : EReal))
    (u : ℕ) (h : u < 8) : IsN (φ := .f32) (View.ld X (Rect.unit (s := S1024x128) ![128 * u, 0] S128x128.size (inbT u h)))
      (fun r k => f (128 * u + r) k) := fun y => by
  have hy : (y 0).val < 128 := (y 0).isLt
  refine (View.ld_unit_apply_of X _ _ _ y (ix2 ⟨128 * u + (y 0).val, by omega⟩ (y 1)) fun a => ?_).trans ?_
  · fin_cases a
    · rfl
    · exact (Nat.zero_add _).symm
  · exact hX _

/-- A load of a whole window. -/
theorem ld_all (X : Vec Ideal S128x128 .f32) (f : ℕ → ℕ → ℝ) (hX : ∀ x : S128x128.Idx, X x = ((f (x 0).val (x 1).val : ℝ) : EReal)) :
    IsN (φ := .f32) (View.ld X (Rect.unit (s := S128x128) ![0, 0] S128x128.size inb_S128x128_S128x128_0_0)) f := fun y => by
  refine (View.ld_unit_apply_of X _ _ _ y y fun a => ?_).trans (hX y)
  fin_cases a <;> exact (Nat.zero_add _).symm

theorem ld_gain (X : Vec Ideal S1x128 .f32) (f : ℕ → ℝ) (hX : ∀ x : S1x128.Idx, X x = ((f (x 1).val : ℝ) : EReal)) :
    IsG (View.ld X (Rect.unit (s := S1x128) ![0, 0] S1x128.size inb_S1x128_S1x128_0_0)) f := fun y => by
  refine (View.ld_unit_apply_of X _ _ _ y y fun a => ?_).trans (hX y)
  fin_cases a <;> exact (Nat.zero_add _).symm

/-- A load of one head's plane of the bias window, whole. -/
theorem ld_plane (X : Vec Ideal S2x128x256 .f32) (g : ℕ → ℕ → ℕ → EReal) (hX : ∀ x : S2x128x256.Idx, X x = g (x 0).val (x 1).val (x 2).val)
    (p : ℕ) (hp : p < 2) (inb) (sc) (y : S128x256.Idx) :
    shapeCast S128x256 (View.ld X (Rect.unit (s := S2x128x256) ![p, 0, 0] S1x128x256.size inb)) sc y = g p (y 0).val (y 1).val := by
  have h0 : (y 0).val < 128 := (y 0).isLt
  have h1 : (y 1).val < 256 := (y 1).isLt
  refine (shapeCast_dropUnit_apply ![128, 256] _ _ y).trans ?_
  refine (View.ld_unit_apply_of X _ _ _ _ (ix3 ⟨p, hp⟩ (y 0) ⟨(y 1).val, by omega⟩) fun a => ?_).trans (hX _)
  fin_cases a
  · rfl
  · exact (Nat.zero_add _).symm
  · exact (Nat.zero_add _).symm

/-- A load of one head's plane of the bias window, the first half. -/
theorem ld_half (X : Vec Ideal S2x128x256 .f32) (g : ℕ → ℕ → ℕ → EReal) (hX : ∀ x : S2x128x256.Idx, X x = g (x 0).val (x 1).val (x 2).val)
    (p : ℕ) (hp : p < 2) (inb) (sc) (y : S128x128.Idx) :
    shapeCast S128x128 (View.ld X (Rect.unit (s := S2x128x256) ![p, 0, 0] S1x128x128.size inb)) sc y = g p (y 0).val (y 1).val := by
  have h0 : (y 0).val < 128 := (y 0).isLt
  have h1 : (y 1).val < 128 := (y 1).isLt
  refine (shapeCast_dropUnit_apply ![128, 128] _ _ y).trans ?_
  refine (View.ld_unit_apply_of X _ _ _ _ (ix3 ⟨p, hp⟩ (y 0) ⟨(y 1).val, by omega⟩) fun a => ?_).trans (hX _)
  fin_cases a
  · rfl
  · exact (Nat.zero_add _).symm
  · exact (Nat.zero_add _).symm

variable (m : (ℓ : Loc nD τ sig) → Buf (Elt Ideal) ℓ) (c : Dev nD) (D : Data)

/-- The call's arrays hold the real data. -/
structure Given : Prop where
  qkv : ∀ i : S8192x4608.Idx, V m c main_arg0 i = ((D.qkv (i 0).val (i 1).val : ℝ) : EReal)
  ct : ∀ i : S8192x512.Idx, V m c main_arg1 i = ((D.ct (i 0).val (i 1).val : ℝ) : EReal)
  o : ∀ i : S8192x512.Idx, V m c main_v122 i =
    ((D.out ((i 0).val / 128) ((i 1).val / 64) ((i 0).val % 128) ((i 1).val % 64) : ℝ) : EReal)
  l : ∀ i : S8192x512.Idx, V m c main_v126 i = ((Real.log (D.tot ((i 0).val / 128) ((i 1).val / 64) ((i 0).val % 128)) : ℝ) : EReal)
  bias : ∀ i : S8x128x256.Idx, V m c main_v142 i =
    if RTile.band (i 1).val (i 2).val then ((D.tab (i 0).val (i 1).val (i 2).val : ℝ) : EReal) else ⊥
  qg : ∀ i : S1x128.Idx, V m c main_v145 i = ((D.qg ((i 1).val % 64) : ℝ) : EReal)
  kg : ∀ i : S1x128.Idx, V m c main_v148 i = ((D.kg ((i 1).val % 64) : ℝ) : EReal)

theorem index0 : ∀ t : Fin cfg0.N, win0_0.index t = ![t.val % 8, t.val / 8] := (by decide +kernel : ∀ t : Fin grid0.N, _)
theorem index1 : ∀ t : Fin cfg0.N, win0_1.index t = ![min ((t.val % 8 + 1) * 8) 63, t.val / 8] := (by decide +kernel : ∀ t : Fin grid0.N, _)
theorem index2 : ∀ t : Fin cfg0.N, win0_2.index t = ![8 * (t.val % 8) - 1, 12 + t.val / 8] := (by decide +kernel : ∀ t : Fin grid0.N, _)
theorem index3 : ∀ t : Fin cfg0.N, win0_3.index t = ![t.val % 8, 12 + t.val / 8] := (by decide +kernel : ∀ t : Fin grid0.N, _)
theorem index4 : ∀ t : Fin cfg0.N, win0_4.index t = ![8 * (t.val % 8) - 1, 24 + t.val / 8] := (by decide +kernel : ∀ t : Fin grid0.N, _)
theorem index5 : ∀ t : Fin cfg0.N, win0_5.index t = ![t.val % 8, 24 + t.val / 8] := (by decide +kernel : ∀ t : Fin grid0.N, _)
theorem index6 : ∀ t : Fin cfg0.N, win0_6.index t = ![t.val % 8, t.val / 8] := (by decide +kernel : ∀ t : Fin grid0.N, _)
theorem index7 : ∀ t : Fin cfg0.N, win0_7.index t = ![min ((t.val % 8 + 1) * 8) 63, t.val / 8] := (by decide +kernel : ∀ t : Fin grid0.N, _)
theorem index8 : ∀ t : Fin cfg0.N, win0_8.index t = ![t.val % 8, t.val / 8] := (by decide +kernel : ∀ t : Fin grid0.N, _)
theorem index9 : ∀ t : Fin cfg0.N, win0_9.index t = ![min ((t.val % 8 + 1) * 8) 63, t.val / 8] := (by decide +kernel : ∀ t : Fin grid0.N, _)
theorem index10 : ∀ t : Fin cfg0.N, win0_10.index t = ![t.val % 8, t.val / 8] := (by decide +kernel : ∀ t : Fin grid0.N, _)
theorem index11 : ∀ t : Fin cfg0.N, win0_11.index t = ![min ((t.val % 8 + 1) * 8) 63, t.val / 8] := (by decide +kernel : ∀ t : Fin grid0.N, _)
theorem index12 : ∀ t : Fin cfg0.N, win0_12.index t = ![t.val / 8, 0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0] := (by decide +kernel : ∀ t : Fin grid0.N, _)

theorem three {α : Type} (f : ℕ → ℕ → ℕ → α) {a a' r r' z z' : ℕ} (ha : a = a') (hr : r = r') (hz : z = z') : f a r z = f a' r' z' := by
  rw [ha, hr, hz]

/-- A window's block reads what its array holds. -/
theorem blk_of (w : Fin cfg0.W) (t : Fin cfg0.N) (f : Buf (Elt Ideal) ((c : Thread nD τ).loc (Pipeline.arrRef spec0 w)))
    (h : V m c (Pipeline.arrRef spec0 w) = f) (x : ((cfg0.win w).xblock (cfg0.grid.coords t)).Idx) :
    iblk m c w t x = ((cfg0.win w).blk t).view.read (Elt Ideal) f x := by
  rw [← h]
  rfl

variable {m c D} (A : Given m c D)
include A

theorem blk0 (t : Fin cfg0.N) (x : S1024x128.Idx) : iblk m c 0 t x =
    ((D.qkv ((t.val % 8) * 1024 + (x 0).val) ((t.val / 8) * 128 + (x 1).val) : ℝ) : EReal) := by
  refine (blk_of m c 0 t (fun i : S8192x4608.Idx => ((D.qkv (i 0).val (i 1).val : ℝ) : EReal))
    (funext A.qkv) x).trans
    (congrArg₂ (fun r k : ℕ => ((D.qkv r k : ℝ) : EReal)) ?_ ?_) <;> blk_simp [index0 t]

theorem blk1 (t : Fin cfg0.N) (x : S128x128.Idx) : iblk m c 1 t x =
    ((D.qkv ((min ((t.val % 8 + 1) * 8) 63) * 128 + (x 0).val) ((t.val / 8) * 128 + (x 1).val) : ℝ) : EReal) := by
  refine (blk_of m c 1 t (fun i : S8192x4608.Idx => ((D.qkv (i 0).val (i 1).val : ℝ) : EReal))
    (funext A.qkv) x).trans
    (congrArg₂ (fun r k : ℕ => ((D.qkv r k : ℝ) : EReal)) ?_ ?_) <;> blk_simp [index1 t]

theorem blk2 (t : Fin cfg0.N) (x : S128x128.Idx) : iblk m c 2 t x =
    ((D.qkv ((8 * (t.val % 8) - 1) * 128 + (x 0).val) ((12 + t.val / 8) * 128 + (x 1).val) : ℝ) : EReal) := by
  refine (blk_of m c 2 t (fun i : S8192x4608.Idx => ((D.qkv (i 0).val (i 1).val : ℝ) : EReal))
    (funext A.qkv) x).trans
    (congrArg₂ (fun r k : ℕ => ((D.qkv r k : ℝ) : EReal)) ?_ ?_) <;> blk_simp [index2 t]

theorem blk3 (t : Fin cfg0.N) (x : S1024x128.Idx) : iblk m c 3 t x =
    ((D.qkv ((t.val % 8) * 1024 + (x 0).val) ((12 + t.val / 8) * 128 + (x 1).val) : ℝ) : EReal) := by
  refine (blk_of m c 3 t (fun i : S8192x4608.Idx => ((D.qkv (i 0).val (i 1).val : ℝ) : EReal))
    (funext A.qkv) x).trans
    (congrArg₂ (fun r k : ℕ => ((D.qkv r k : ℝ) : EReal)) ?_ ?_) <;> blk_simp [index3 t]

theorem blk4 (t : Fin cfg0.N) (x : S128x128.Idx) : iblk m c 4 t x =
    ((D.qkv ((8 * (t.val % 8) - 1) * 128 + (x 0).val) ((24 + t.val / 8) * 128 + (x 1).val) : ℝ) : EReal) := by
  refine (blk_of m c 4 t (fun i : S8192x4608.Idx => ((D.qkv (i 0).val (i 1).val : ℝ) : EReal))
    (funext A.qkv) x).trans
    (congrArg₂ (fun r k : ℕ => ((D.qkv r k : ℝ) : EReal)) ?_ ?_) <;> blk_simp [index4 t]

theorem blk5 (t : Fin cfg0.N) (x : S1024x128.Idx) : iblk m c 5 t x =
    ((D.qkv ((t.val % 8) * 1024 + (x 0).val) ((24 + t.val / 8) * 128 + (x 1).val) : ℝ) : EReal) := by
  refine (blk_of m c 5 t (fun i : S8192x4608.Idx => ((D.qkv (i 0).val (i 1).val : ℝ) : EReal))
    (funext A.qkv) x).trans
    (congrArg₂ (fun r k : ℕ => ((D.qkv r k : ℝ) : EReal)) ?_ ?_) <;> blk_simp [index5 t]

theorem blk6 (t : Fin cfg0.N) (x : S1024x128.Idx) : iblk m c 6 t x =
    ((D.out (((t.val % 8) * 1024 + (x 0).val) / 128) (((t.val / 8) * 128 + (x 1).val) / 64) (((t.val % 8) * 1024 + (x 0).val) % 128) (((t.val / 8) * 128 + (x 1).val) % 64) : ℝ) : EReal) := by
  refine (blk_of m c 6 t (fun i : S8192x512.Idx => ((D.out ((i 0).val / 128) ((i 1).val / 64) ((i 0).val % 128) ((i 1).val % 64) : ℝ) : EReal))
    (funext A.o) x).trans
    (congrArg₂ (fun r k : ℕ => ((D.out (r / 128) (k / 64) (r % 128) (k % 64) : ℝ) : EReal)) ?_ ?_) <;> blk_simp [index6 t]

theorem blk7 (t : Fin cfg0.N) (x : S128x128.Idx) : iblk m c 7 t x =
    ((D.out (((min ((t.val % 8 + 1) * 8) 63) * 128 + (x 0).val) / 128) (((t.val / 8) * 128 + (x 1).val) / 64) (((min ((t.val % 8 + 1) * 8) 63) * 128 + (x 0).val) % 128) (((t.val / 8) * 128 + (x 1).val) % 64) : ℝ) : EReal) := by
  refine (blk_of m c 7 t (fun i : S8192x512.Idx => ((D.out ((i 0).val / 128) ((i 1).val / 64) ((i 0).val % 128) ((i 1).val % 64) : ℝ) : EReal))
    (funext A.o) x).trans
    (congrArg₂ (fun r k : ℕ => ((D.out (r / 128) (k / 64) (r % 128) (k % 64) : ℝ) : EReal)) ?_ ?_) <;> blk_simp [index7 t]

theorem blk8 (t : Fin cfg0.N) (x : S1024x128.Idx) : iblk m c 8 t x =
    ((Real.log (D.tot (((t.val % 8) * 1024 + (x 0).val) / 128) (((t.val / 8) * 128 + (x 1).val) / 64) (((t.val % 8) * 1024 + (x 0).val) % 128)) : ℝ) : EReal) := by
  refine (blk_of m c 8 t (fun i : S8192x512.Idx => ((Real.log (D.tot ((i 0).val / 128) ((i 1).val / 64) ((i 0).val % 128)) : ℝ) : EReal))
    (funext A.l) x).trans
    (congrArg₂ (fun r k : ℕ => ((Real.log (D.tot (r / 128) (k / 64) (r % 128)) : ℝ) : EReal)) ?_ ?_) <;> blk_simp [index8 t]

theorem blk9 (t : Fin cfg0.N) (x : S128x128.Idx) : iblk m c 9 t x =
    ((Real.log (D.tot (((min ((t.val % 8 + 1) * 8) 63) * 128 + (x 0).val) / 128) (((t.val / 8) * 128 + (x 1).val) / 64) (((min ((t.val % 8 + 1) * 8) 63) * 128 + (x 0).val) % 128)) : ℝ) : EReal) := by
  refine (blk_of m c 9 t (fun i : S8192x512.Idx => ((Real.log (D.tot ((i 0).val / 128) ((i 1).val / 64) ((i 0).val % 128)) : ℝ) : EReal))
    (funext A.l) x).trans
    (congrArg₂ (fun r k : ℕ => ((Real.log (D.tot (r / 128) (k / 64) (r % 128)) : ℝ) : EReal)) ?_ ?_) <;> blk_simp [index9 t]

theorem blk10 (t : Fin cfg0.N) (x : S1024x128.Idx) : iblk m c 10 t x =
    ((D.ct ((t.val % 8) * 1024 + (x 0).val) ((t.val / 8) * 128 + (x 1).val) : ℝ) : EReal) := by
  refine (blk_of m c 10 t (fun i : S8192x512.Idx => ((D.ct (i 0).val (i 1).val : ℝ) : EReal))
    (funext A.ct) x).trans
    (congrArg₂ (fun r k : ℕ => ((D.ct r k : ℝ) : EReal)) ?_ ?_) <;> blk_simp [index10 t]

theorem blk11 (t : Fin cfg0.N) (x : S128x128.Idx) : iblk m c 11 t x =
    ((D.ct ((min ((t.val % 8 + 1) * 8) 63) * 128 + (x 0).val) ((t.val / 8) * 128 + (x 1).val) : ℝ) : EReal) := by
  refine (blk_of m c 11 t (fun i : S8192x512.Idx => ((D.ct (i 0).val (i 1).val : ℝ) : EReal))
    (funext A.ct) x).trans
    (congrArg₂ (fun r k : ℕ => ((D.ct r k : ℝ) : EReal)) ?_ ?_) <;> blk_simp [index11 t]

theorem blk12 (t : Fin cfg0.N) (x : S2x128x256.Idx) : iblk m c 12 t x =
    if RTile.band (x 1).val (x 2).val then ((D.tab (t.val / 8 * 2 + (x 0).val) (x 1).val (x 2).val : ℝ) : EReal) else ⊥ := by
  refine (blk_of m c 12 t (fun i : S8x128x256.Idx =>
    if RTile.band (i 1).val (i 2).val then ((D.tab (i 0).val (i 1).val (i 2).val : ℝ) : EReal) else (⊥ : EReal))
    (funext A.bias) x).trans
    (three (fun a r z => if RTile.band r z then ((D.tab a r z : ℝ) : EReal) else ⊥) ?_ ?_ ?_) <;> blk_simp [index12 t]

theorem blk13 (t : Fin cfg0.N) (x : S1x128.Idx) : iblk m c 13 t x = ((D.qg ((x 1).val % 64) : ℝ) : EReal) := by
  refine (blk_of m c 13 t (fun i : S1x128.Idx => ((D.qg ((i 1).val % 64) : ℝ) : EReal))
    (funext A.qg) x).trans
    (congrArg (fun k : ℕ => ((D.qg (k % 64) : ℝ) : EReal)) ?_)
  blk_simp [index13 t]

theorem blk14 (t : Fin cfg0.N) (x : S1x128.Idx) : iblk m c 14 t x = ((D.kg ((x 1).val % 64) : ℝ) : EReal) := by
  refine (blk_of m c 14 t (fun i : S1x128.Idx => ((D.kg ((i 1).val % 64) : ℝ) : EReal))
    (funext A.kg) x).trans
    (congrArg (fun k : ℕ => ((D.kg (k % 64) : ℝ) : EReal)) ?_)
  blk_simp [index14 t]

end Cert.KernelIdeal.Blk
end
-- ==== Proof.Input.lean ====
/-
  Every grid point's tile over the reals: what its windows read of the call's arrays, when these hold the real data.
-/
module

public import proofs.«01_k».proof.Proof.Windows

@[expose] public section

set_option maxRecDepth 16384
set_option backward.isDefEq.respectTransparency false
set_option maxHeartbeats 1000000

noncomputable section

namespace Cert.KernelIdeal.Blk

open Idealize.ShloMosaic Idealize.ShloMosaic.TcCoe Idealize.SL.Sem Cert.KernelIdeal Cert.KernelIdeal.Gen Cert.Attn
open scoped BigOperators Classical

variable {m : (ℓ : Loc nD τ sig) → Buf (Elt Ideal) ℓ} {c : Dev nD} {D : Data} (A : Given m c D)
include A

theorem tile_q (t : Fin cfg0.N) (u : ℕ) (hu : u ≤ 8) : IsN ((tileAt m c t).q u) ((rt D t.val).q u) := by
  have ht : t.val < 32 := t.isLt.trans_eq N_0
  by_cases h : u < 8
  · intro y
    have h0 : (y 0).val < 128 := (y 0).isLt
    have h1 : (y 1).val < 128 := (y 1).isLt
    refine (congrFun (dif_pos h : (tileAt m c t).q u = _) y).trans ((ld_rows _ (fun r k => D.qkv ((t.val % 8) * 1024 + r) ((t.val / 8) * 128 + k)) (blk0 A t) u h y).trans (congrArg _ ?_))
    show D.qkv (t.val % 8 * 1024 + (128 * u + (y 0).val)) (t.val / 8 * 128 + (y 1).val) = (rt D t.val).q u (y 0).val (y 1).val
    simp only [rt, heads, blockOf, Data.q]
    congr 1 <;> omega
  · intro y
    have h0 : (y 0).val < 128 := (y 0).isLt
    have h1 : (y 1).val < 128 := (y 1).isLt
    refine (congrFun (dif_neg h : (tileAt m c t).q u = _) y).trans ((ld_all _ (fun r k => D.qkv ((min ((t.val % 8 + 1) * 8) 63) * 128 + r) ((t.val / 8) * 128 + k)) (blk1 A t) y).trans (congrArg _ ?_))
    show D.qkv (min ((t.val % 8 + 1) * 8) 63 * 128 + (y 0).val) (t.val / 8 * 128 + (y 1).val) = (rt D t.val).q u (y 0).val (y 1).val
    simp only [rt, heads, blockOf, Data.q]
    congr 1 <;> omega

theorem tile_o (t : Fin cfg0.N) (u : ℕ) (hu : u ≤ 8) : IsN ((tileAt m c t).o u) ((rt D t.val).o u) := by
  have ht : t.val < 32 := t.isLt.trans_eq N_0
  by_cases h : u < 8
  · intro y
    have h0 : (y 0).val < 128 := (y 0).isLt
    have h1 : (y 1).val < 128 := (y 1).isLt
    refine (congrFun (dif_pos h : (tileAt m c t).o u = _) y).trans ((ld_rows _ (fun r k => D.out (((t.val % 8) * 1024 + r) / 128) (((t.val / 8) * 128 + k) / 64) (((t.val % 8) * 1024 + r) % 128) (((t.val / 8) * 128 + k) % 64)) (blk6 A t) u h y).trans (congrArg _ ?_))
    show D.out ((t.val % 8 * 1024 + (128 * u + (y 0).val)) / 128) ((t.val / 8 * 128 + (y 1).val) / 64) ((t.val % 8 * 1024 + (128 * u + (y 0).val)) % 128) ((t.val / 8 * 128 + (y 1).val) % 64) = (rt D t.val).o u (y 0).val (y 1).val
    simp only [rt, heads, blockOf]
    congr 1 <;> omega
  · intro y
    have h0 : (y 0).val < 128 := (y 0).isLt
    have h1 : (y 1).val < 128 := (y 1).isLt
    refine (congrFun (dif_neg h : (tileAt m c t).o u = _) y).trans ((ld_all _ (fun r k => D.out (((min ((t.val % 8 + 1) * 8) 63) * 128 + r) / 128) (((t.val / 8) * 128 + k) / 64) (((min ((t.val % 8 + 1) * 8) 63) * 128 + r) % 128) (((t.val / 8) * 128 + k) % 64)) (blk7 A t) y).trans (congrArg _ ?_))
    show D.out ((min ((t.val % 8 + 1) * 8) 63 * 128 + (y 0).val) / 128) ((t.val / 8 * 128 + (y 1).val) / 64) ((min ((t.val % 8 + 1) * 8) 63 * 128 + (y 0).val) % 128) ((t.val / 8 * 128 + (y 1).val) % 64) = (rt D t.val).o u (y 0).val (y 1).val
    simp only [rt, heads, blockOf]
    congr 1 <;> omega

theorem tile_l (t : Fin cfg0.N) (u : ℕ) (hu : u ≤ 8) : IsN ((tileAt m c t).l u) ((rt D t.val).l u) := by
  have ht : t.val < 32 := t.isLt.trans_eq N_0
  by_cases h : u < 8
  · intro y
    have h0 : (y 0).val < 128 := (y 0).isLt
    have h1 : (y 1).val < 128 := (y 1).isLt
    refine (congrFun (dif_pos h : (tileAt m c t).l u = _) y).trans ((ld_rows _ (fun r k => Real.log (D.tot (((t.val % 8) * 1024 + r) / 128) (((t.val / 8) * 128 + k) / 64) (((t.val % 8) * 1024 + r) % 128))) (blk8 A t) u h y).trans (congrArg _ ?_))
    show Real.log (D.tot ((t.val % 8 * 1024 + (128 * u + (y 0).val)) / 128) ((t.val / 8 * 128 + (y 1).val) / 64) ((t.val % 8 * 1024 + (128 * u + (y 0).val)) % 128)) = (rt D t.val).l u (y 0).val (y 1).val
    simp only [rt, heads, blockOf]
    congr 2 <;> omega
  · intro y
    have h0 : (y 0).val < 128 := (y 0).isLt
    have h1 : (y 1).val < 128 := (y 1).isLt
    refine (congrFun (dif_neg h : (tileAt m c t).l u = _) y).trans ((ld_all _ (fun r k => Real.log (D.tot (((min ((t.val % 8 + 1) * 8) 63) * 128 + r) / 128) (((t.val / 8) * 128 + k) / 64) (((min ((t.val % 8 + 1) * 8) 63) * 128 + r) % 128))) (blk9 A t) y).trans (congrArg _ ?_))
    show Real.log (D.tot ((min ((t.val % 8 + 1) * 8) 63 * 128 + (y 0).val) / 128) ((t.val / 8 * 128 + (y 1).val) / 64) ((min ((t.val % 8 + 1) * 8) 63 * 128 + (y 0).val) % 128)) = (rt D t.val).l u (y 0).val (y 1).val
    simp only [rt, heads, blockOf]
    congr 2 <;> omega

theorem tile_ct (t : Fin cfg0.N) (u : ℕ) (hu : u ≤ 8) : IsN ((tileAt m c t).ct u) ((rt D t.val).ct u) := by
  have ht : t.val < 32 := t.isLt.trans_eq N_0
  by_cases h : u < 8
  · intro y
    have h0 : (y 0).val < 128 := (y 0).isLt
    have h1 : (y 1).val < 128 := (y 1).isLt
    refine (congrFun (dif_pos h : (tileAt m c t).ct u = _) y).trans ((ld_rows _ (fun r k => D.ct ((t.val % 8) * 1024 + r) ((t.val / 8) * 128 + k)) (blk10 A t) u h y).trans (congrArg _ ?_))
    show D.ct (t.val % 8 * 1024 + (128 * u + (y 0).val)) (t.val / 8 * 128 + (y 1).val) = (rt D t.val).ct u (y 0).val (y 1).val
    simp only [rt, heads, blockOf, Data.cth]
    congr 1 <;> omega
  · intro y
    have h0 : (y 0).val < 128 := (y 0).isLt
    have h1 : (y 1).val < 128 := (y 1).isLt
    refine (congrFun (dif_neg h : (tileAt m c t).ct u = _) y).trans ((ld_all _ (fun r k => D.ct ((min ((t.val % 8 + 1) * 8) 63) * 128 + r) ((t.val / 8) * 128 + k)) (blk11 A t) y).trans (congrArg _ ?_))
    show D.ct (min ((t.val % 8 + 1) * 8) 63 * 128 + (y 0).val) (t.val / 8 * 128 + (y 1).val) = (rt D t.val).ct u (y 0).val (y 1).val
    simp only [rt, heads, blockOf, Data.cth]
    congr 1 <;> omega

theorem tile_k (t : Fin cfg0.N) (j : ℕ) (hj : j ≤ 8) : IsN ((tileAt m c t).k j) ((rt D t.val).k j) := by
  have ht : t.val < 32 := t.isLt.trans_eq N_0
  cases j with
  | zero =>
    intro y
    have h0 : (y 0).val < 128 := (y 0).isLt
    have h1 : (y 1).val < 128 := (y 1).isLt
    refine (ld_all _ (fun r k => D.qkv ((8 * (t.val % 8) - 1) * 128 + r) ((12 + t.val / 8) * 128 + k)) (blk2 A t) y).trans (congrArg _ ?_)
    show D.qkv ((8 * (t.val % 8) - 1) * 128 + (y 0).val) ((12 + t.val / 8) * 128 + (y 1).val) = (rt D t.val).k 0 (y 0).val (y 1).val
    simp only [rt, heads, blockOf, Data.k]
    congr 1 <;> omega
  | succ u =>
    intro y
    have h : u < 8 := by omega
    have h0 : (y 0).val < 128 := (y 0).isLt
    have h1 : (y 1).val < 128 := (y 1).isLt
    refine (congrFun (dif_pos h : (tileAt m c t).k (u + 1) = _) y).trans ((ld_rows _ (fun r k => D.qkv ((t.val % 8) * 1024 + r) ((12 + t.val / 8) * 128 + k)) (blk3 A t) u h y).trans (congrArg _ ?_))
    show D.qkv (t.val % 8 * 1024 + (128 * u + (y 0).val)) ((12 + t.val / 8) * 128 + (y 1).val) = (rt D t.val).k (u + 1) (y 0).val (y 1).val
    simp only [rt, heads, blockOf, Data.k]
    congr 1 <;> omega

theorem tile_v (t : Fin cfg0.N) (j : ℕ) (hj : j ≤ 8) : IsN ((tileAt m c t).v j) ((rt D t.val).v j) := by
  have ht : t.val < 32 := t.isLt.trans_eq N_0
  cases j with
  | zero =>
    intro y
    have h0 : (y 0).val < 128 := (y 0).isLt
    have h1 : (y 1).val < 128 := (y 1).isLt
    refine (ld_all _ (fun r k => D.qkv ((8 * (t.val % 8) - 1) * 128 + r) ((24 + t.val / 8) * 128 + k)) (blk4 A t) y).trans (congrArg _ ?_)
    show D.qkv ((8 * (t.val % 8) - 1) * 128 + (y 0).val) ((24 + t.val / 8) * 128 + (y 1).val) = (rt D t.val).v 0 (y 0).val (y 1).val
    simp only [rt, heads, blockOf, Data.v]
    congr 1 <;> omega
  | succ u =>
    intro y
    have h : u < 8 := by omega
    have h0 : (y 0).val < 128 := (y 0).isLt
    have h1 : (y 1).val < 128 := (y 1).isLt
    refine (congrFun (dif_pos h : (tileAt m c t).v (u + 1) = _) y).trans ((ld_rows _ (fun r k => D.qkv ((t.val % 8) * 1024 + r) ((24 + t.val / 8) * 128 + k)) (blk5 A t) u h y).trans (congrArg _ ?_))
    show D.qkv (t.val % 8 * 1024 + (128 * u + (y 0).val)) ((24 + t.val / 8) * 128 + (y 1).val) = (rt D t.val).v (u + 1) (y 0).val (y 1).val
    simp only [rt, heads, blockOf, Data.v]
    congr 1 <;> omega

omit A in
theorem coords1 : ∀ t : Fin cfg0.N, (grid0.coords t 1).val = t.val % 8 := (by decide +kernel : ∀ t : Fin grid0.N, _)

theorem tile_bias (t : Fin cfg0.N) (a : Bool) (y : S128x256.Idx) : (tileAt m c t).bias a y =
    if RTile.band (y 0).val (y 1).val then (((rt D t.val).bias a (y 0).val (y 1).val : ℝ) : EReal) else ⊥ := by
  cases a with
  | false =>
    refine (ld_plane _ (fun a r z => if RTile.band r z then ((D.tab (t.val / 8 * 2 + a) r z : ℝ) : EReal) else ⊥)
      (blk12 A t) 0 (by norm_num) _ _ y).trans ?_
    show (if _ then ((D.tab (t.val / 8 * 2 + 0) _ _ : ℝ) : EReal) else ⊥) = if _ then ((D.tab (2 * (t.val / 8) + 0) _ _ : ℝ) : EReal) else ⊥
    rw [Nat.mul_comm]
  | true =>
    refine (ld_plane _ (fun a r z => if RTile.band r z then ((D.tab (t.val / 8 * 2 + a) r z : ℝ) : EReal) else ⊥)
      (blk12 A t) 1 (by norm_num) _ _ y).trans ?_
    show (if _ then ((D.tab (t.val / 8 * 2 + 1) _ _ : ℝ) : EReal) else ⊥) = if _ then ((D.tab (2 * (t.val / 8) + 1) _ _ : ℝ) : EReal) else ⊥
    rw [Nat.mul_comm]

omit A in
theorem band_half {r z : ℕ} (hz : z < 128) (p q : EReal) : (if RTile.band r z then p else q) = if r ≤ z then p else q :=
  if_congr ⟨fun h => h.2, fun h => ⟨by omega, h⟩⟩ rfl rfl

omit A in
theorem tile_number (t : Fin cfg0.N) : (tileAt m c t).tile = BitVec.ofNat 32 (t.val % 8) := congrArg (BitVec.ofNat 32) (coords1 t)

theorem tile_biasH (t : Fin cfg0.N) (a : Bool) (y : S128x128.Idx) : (tileAt m c t).biasH a y =
    if (y 0).val ≤ (y 1).val then (((rt D t.val).bias a (y 0).val (y 1).val : ℝ) : EReal) else ⊥ := by
  have hz : (y 1).val < 128 := (y 1).isLt
  cases a with
  | false =>
    refine (ld_half _ (fun a r z => if RTile.band r z then ((D.tab (t.val / 8 * 2 + a) r z : ℝ) : EReal) else ⊥)
      (blk12 A t) 0 (by norm_num) _ _ y).trans (Eq.trans ?_ (band_half hz _ _))
    show (if _ then ((D.tab (t.val / 8 * 2 + 0) _ _ : ℝ) : EReal) else ⊥) = if _ then ((D.tab (2 * (t.val / 8) + 0) _ _ : ℝ) : EReal) else ⊥
    rw [Nat.mul_comm]
  | true =>
    refine (ld_half _ (fun a r z => if RTile.band r z then ((D.tab (t.val / 8 * 2 + a) r z : ℝ) : EReal) else ⊥)
      (blk12 A t) 1 (by norm_num) _ _ y).trans (Eq.trans ?_ (band_half hz _ _))
    show (if _ then ((D.tab (t.val / 8 * 2 + 1) _ _ : ℝ) : EReal) else ⊥) = if _ then ((D.tab (2 * (t.val / 8) + 1) _ _ : ℝ) : EReal) else ⊥
    rw [Nat.mul_comm]

theorem allR : AllR m c (rt D) := fun t =>
  { q := tile_q A t
    k := tile_k A t
    v := tile_v A t
    o := tile_o A t
    l := tile_l A t
    ct := tile_ct A t
    bias := tile_bias A t
    biasH := tile_biasH A t
    qg := ld_gain _ (fun k => D.qg (k % 64)) (blk13 A t)
    kg := ld_gain _ (fun k => D.kg (k % 64)) (blk14 A t)
    tile := tile_number t
    lt := Nat.mod_lt _ (by norm_num) }

end Cert.KernelIdeal.Blk
end
-- ==== Proof.RefSoft.lean ====
/-
  The reference's softmaxes over the reals: the maxima are real numbers, and what is computed against them does not
  depend on them.
-/
module

public import proofs.«01_k».proof.Proof.RefFwd

@[expose] public section

set_option maxRecDepth 16384
set_option backward.isDefEq.respectTransparency false

noncomputable section

namespace Cert.ReferenceIdeal.Ref

open Idealize.ShloMosaic Idealize.ShloMosaic.TcCoe Idealize.SL.Sem Idealize.ShloMosaic.StableHlo
open Cert.ReferenceIdeal Cert.ReferenceIdeal.Gen Cert.ReferenceIdeal.Read Cert.Attn
open scoped BigOperators

/-- A maximum of real numbers and `-∞`, one of them real, is a real number that is attained. -/
theorem max_real {n : ℕ} (f : Fin n → EReal) (h : ∀ x, f x = ⊥ ∨ ∃ r : ℝ, f x = ((r : ℝ) : EReal))
    (x0 : Fin n) (h0 : f x0 ≠ ⊥) :
    ∃ r : ℝ, Finset.fold max ⊥ f Finset.univ = ((r : ℝ) : EReal) ∧ ∃ x, f x = ((r : ℝ) : EReal) := by
  have hle : ∀ x, f x ≤ Finset.fold max ⊥ f Finset.univ := fun x =>
    (Finset.le_fold_max (f x)).mpr (Or.inr ⟨x, Finset.mem_univ x, le_refl _⟩)
  rcases (Finset.le_fold_max (b := (⊥ : EReal)) (f := f) (s := Finset.univ) _).mp (le_refl _) with hb | ⟨x, _, hx⟩
  · exact absurd (le_bot_iff.mp ((hle x0).trans hb)) h0
  · have e : Finset.fold max ⊥ f Finset.univ = f x := le_antisymm hx (hle x)
    rcases h x with hb | ⟨r, hr⟩
    · rw [hb] at e
      exact absurd (le_bot_iff.mp (e ▸ hle x0)) h0
    · exact ⟨r, e.trans hr, x, hr⟩

variable {x0 : (⟨S8192x4608, .f32⟩ : BufTy).Contents (Elt Ideal)} {x1 : (⟨S8192x512, .f32⟩ : BufTy).Contents (Elt Ideal)}
  {x2 : (⟨S8x128x256, .f32⟩ : BufTy).Contents (Elt Ideal)} {x3 x4 : (⟨S1x64, .f32⟩ : BufTy).Contents (Elt Ideal)}
  {x5 x7 : (⟨S8192x8x64, .f32⟩ : BufTy).Contents (Elt Ideal)} {x6 x8 : (⟨S8192x8, .f32⟩ : BufTy).Contents (Elt Ideal)}
variable {D : Data} (H : Holds D x0 x1 x2 x3 x4 x5 x6 x7 x8)
include H

/-- The row maximum is a real number that one of the row's logits attains. -/
theorem rowmax_real (i : S64x8x128.Idx) : ∃ r : ℝ, val_main_v89 (F := Ideal) x0 x2 x3 x4 i = ((r : ℝ) : EReal) ∧
    ∃ z : Fin 256, val_main_v88_0 (F := Ideal) x0 x2 x3 x4 (ix4 (i 0) (i 1) (i 2) z) = ((r : ℝ) : EReal) := by
  pointwise [val_main_v89, val_main_cst_17]
  rw [word_bot]
  refine max_real _ (fun z => ?_) ⟨(i 2).val + 128, by have : (i 2).val < 128 := (i 2).isLt; omega⟩ ?_
  · beta_reduce
    rw [masked_at H]
    split
    · exact Or.inr ⟨_, rfl⟩
    · exact Or.inl rfl
  · beta_reduce
    rw [masked_at H, if_pos ⟨by simp, by simp, Or.inr (by simp)⟩]
    exact EReal.coe_ne_bot _

/-- The row maxima, as a function of block, head and row. -/
theorem exists_rowmax : ∃ M : ℕ → ℕ → ℕ → ℝ, ∀ i : S64x8x128.Idx,
    val_main_v89 (F := Ideal) x0 x2 x3 x4 i = ((M (i 0).val (i 1).val (i 2).val : ℝ) : EReal) := by
  refine ⟨fun n h y => if hh : n < 64 ∧ h < 8 ∧ y < 128 then
    (val_main_v89 (F := Ideal) x0 x2 x3 x4 (ix3 ⟨n, hh.1⟩ ⟨h, hh.2.1⟩ ⟨y, hh.2.2⟩)).toReal else 0, fun i => ?_⟩
  beta_reduce
  rw [dif_pos ⟨(i 0).isLt, (i 1).isLt, (i 2).isLt⟩]
  have e : (ix3 ⟨(i 0).val, (i 0).isLt⟩ ⟨(i 1).val, (i 1).isLt⟩ ⟨(i 2).val, (i 2).isLt⟩ : S64x8x128.Idx) = i := by
    funext a; fin_cases a <;> rfl
  rw [e]
  obtain ⟨r, hr, _⟩ := rowmax_real H i
  rw [hr, EReal.toReal_coe]

variable {M : ℕ → ℕ → ℕ → ℝ}
variable (hM : ∀ i : S64x8x128.Idx, val_main_v89 (F := Ideal) x0 x2 x3 x4 i = ((M (i 0).val (i 1).val (i 2).val : ℝ) : EReal))
include hM

theorem p_at (i : S64x8x128x256.Idx) : val_main_v98 (F := Ideal) x0 x2 x3 x4 i =
    ((D.ev (i 0).val (i 1).val (i 2).val (i 3).val * Real.exp (-M (i 0).val (i 1).val (i 2).val) : ℝ) : EReal) := by
  pointwise [val_main_v98, val_main_v97, val_main_v96, val_main_v95]
  rw [masked_at H, hM]
  unfold Data.ev
  by_cases h : valid (i 0).val (i 2).val (i 3).val
  · rw [if_pos h, if_pos h, ← Real.exp_add, ← sub_eq_add_neg]; rfl
  · rw [if_neg h, if_neg h, zero_mul, EReal.bot_sub]; rfl

theorem l_at (i : S64x8x128.Idx) : val_main_v99 (F := Ideal) x0 x2 x3 x4 i =
    ((D.sumE (i 0).val (i 1).val (i 2).val * Real.exp (-M (i 0).val (i 1).val (i 2).val) : ℝ) : EReal) := by
  pointwise [val_main_v99, val_main_cst_19]
  rw [sum_coe _ (fun z : Fin 256 => D.ev (i 0).val (i 1).val (i 2).val z * Real.exp (-M (i 0).val (i 1).val (i 2).val))
    (fun z => by rw [p_at H hM]; rfl), shift_sum]
  rfl

omit H hM in
theorem l_pos (D : Data) (M : ℕ → ℕ → ℕ → ℝ) (n h y : ℕ) (hy : y < 128) : 0 < D.sumE n h y * Real.exp (-M n h y) :=
  mul_pos (D.sumE_pos n h y hy) (Real.exp_pos _)

theorem pn_at (i : S64x8x128x256.Idx) : val_main_v102 (F := Ideal) x0 x2 x3 x4 i =
    ((D.ev (i 0).val (i 1).val (i 2).val (i 3).val / D.sumE (i 0).val (i 1).val (i 2).val : ℝ) : EReal) := by
  pointwise [val_main_v102, val_main_v101, val_main_v100]
  rw [p_at H hM, l_at H hM]
  simp only [ix3_0, ix3_1, ix3_2]
  rw [div_coe _ _ (l_pos D M _ _ _ (i 2).isLt).ne']
  congr 1
  exact mul_div_mul_right _ _ (Real.exp_pos _).ne'

/-- This group's own output, before the merge. -/
def _root_.Cert.Attn.Data.own (D : Data) (n h y d : ℕ) : ℝ :=
  ∑ z : Fin 256, ext D.v (128 * n + z) h d * (D.ev n h y z / D.sumE n h y)

theorem own_at (i : S8192x8x64.Idx) : val_main_v111 (F := Ideal) x0 x2 x3 x4 i =
    ((D.own ((i 0).val / 128) (i 1).val ((i 0).val % 128) (i 2).val : ℝ) : EReal) := by
  pointwise [val_main_v111, val_main_v107, val_main_v106]
  rw [sum_coe _ (fun z : Fin 256 => ext D.v (128 * ((i 0).val / 128) + z) (i 1).val (i 2).val
    * (D.ev ((i 0).val / 128) (i 1).val ((i 0).val % 128) z / D.sumE ((i 0).val / 128) (i 1).val ((i 0).val % 128)))
    (fun z => by rw [vb_at H, pn_at H hM, ← EReal.coe_mul]; rfl)]
  rfl

omit H hM in
theorem lse_real (D : Data) (M : ℕ → ℕ → ℕ → ℝ) (n h y : ℕ) (hy : y < 128) :
    ((M n h y : ℝ) : EReal) + Ideal.log ((D.sumE n h y * Real.exp (-M n h y) : ℝ) : EReal) = ((Real.log (D.sumE n h y) : ℝ) : EReal) := by
  rw [log_coe _ (l_pos D M _ _ _ hy), ← EReal.coe_add]
  congr 1
  rw [Real.log_mul (D.sumE_pos _ _ _ hy).ne' (Real.exp_pos _).ne', Real.log_exp]
  ring

theorem lseb_at (i : S64x8x128x1.Idx) : val_main_v109 (F := Ideal) x0 x2 x3 x4 i =
    ((Real.log (D.sumE (i 0).val (i 1).val (i 2).val) : ℝ) : EReal) := by
  rw [val_main_v109_apply, val_main_v95_apply, val_main_v108_apply, val_main_v100_apply, l_at H hM, hM]
  exact lse_real D M (i 0).val (i 1).val (i 2).val (i 2).isLt

theorem lse_at (i : S8192x8.Idx) : val_main_v113 (F := Ideal) x0 x2 x3 x4 i =
    ((Real.log (D.sumE ((i 0).val / 128) (i 1).val ((i 0).val % 128)) : ℝ) : EReal) := by
  pointwise [val_main_v113, val_main_v112, val_main_v110]
  rw [lseb_at H hM]
  rfl

/-! ### The merge of the three groups -/

/-- The three log-sums of a row. -/
def _root_.Cert.Attn.Data.lses (D : Data) (g s h : ℕ) : ℝ :=
  if g < 1 then Real.log (D.sumE (s / 128) h (s % 128)) else if g - 1 < 1 then D.l1 s h else D.l2 s h

/-- The three outputs of a row. -/
def _root_.Cert.Attn.Data.outs (D : Data) (g s h d : ℕ) : ℝ :=
  if g < 1 then D.own (s / 128) h (s % 128) d else if g - 1 < 1 then D.o1 s h d else D.o2 s h d

theorem lses_at (i : S3x8192x8.Idx) : val_main_v117 (F := Ideal) x0 x2 x3 x4 x6 x8 i =
    ((D.lses (i 0).val (i 1).val (i 2).val : ℝ) : EReal) := by
  pointwise [val_main_v117, val_main_v116, val_main_v115, val_main_v114]
  unfold Data.lses
  by_cases h : (i 0).val < 1
  · rw [dif_pos h, if_pos h, lse_at H hM]; rfl
  · rw [dif_neg h, if_neg h]
    by_cases h' : (i 0).val - 1 < 1
    · rw [dif_pos h', if_pos h', H.l1]; rfl
    · rw [dif_neg h', if_neg h', H.l2]; rfl

theorem outs_at (i : S3x8192x8x64.Idx) : val_main_v152 (F := Ideal) x0 x2 x3 x4 x5 x7 i =
    ((D.outs (i 0).val (i 1).val (i 2).val (i 3).val : ℝ) : EReal) := by
  pointwise [val_main_v152, val_main_v151, val_main_v150, val_main_v149]
  unfold Data.outs
  by_cases h : (i 0).val < 1
  · rw [dif_pos h, if_pos h, own_at H hM]; rfl
  · rw [dif_neg h, if_neg h]
    by_cases h' : (i 0).val - 1 < 1
    · rw [dif_pos h', if_pos h', H.o1]; rfl
    · rw [dif_neg h', if_neg h', H.o2]; rfl

theorem groupmax_real (i : S8192x8.Idx) : ∃ r : ℝ, val_main_v120 (F := Ideal) x0 x2 x3 x4 x6 x8 i = ((r : ℝ) : EReal) := by
  pointwise [val_main_v120, val_main_cst_23]
  rw [word_bot]
  obtain ⟨r, hr, _⟩ := max_real (fun x : Fin 3 => val_main_v117 (F := Ideal) x0 x2 x3 x4 x6 x8 (ix3 x (i 0) (i 1)))
    (fun x => Or.inr ⟨_, lses_at H hM _⟩) 0 (by beta_reduce; rw [lses_at H hM]; exact EReal.coe_ne_bot _)
  exact ⟨r, hr⟩

/-- The maxima over the groups, as a function of row and head. -/
theorem exists_groupmax : ∃ G : ℕ → ℕ → ℝ, ∀ i : S8192x8.Idx,
    val_main_v120 (F := Ideal) x0 x2 x3 x4 x6 x8 i = ((G (i 0).val (i 1).val : ℝ) : EReal) := by
  refine ⟨fun s h => if hh : s < 8192 ∧ h < 8 then
    (val_main_v120 (F := Ideal) x0 x2 x3 x4 x6 x8 (ix2 ⟨s, hh.1⟩ ⟨h, hh.2⟩)).toReal else 0, fun i => ?_⟩
  beta_reduce
  rw [dif_pos ⟨(i 0).isLt, (i 1).isLt⟩]
  have e : (ix2 ⟨(i 0).val, (i 0).isLt⟩ ⟨(i 1).val, (i 1).isLt⟩ : S8192x8.Idx) = i := by
    funext a; fin_cases a <;> rfl
  rw [e]
  obtain ⟨r, hr⟩ := groupmax_real H hM i
  rw [hr, EReal.toReal_coe]

end Cert.ReferenceIdeal.Ref
end
-- ==== Proof.RefMerge.lean ====
/-
  The reference's merge of the three groups over the reals, forward and backward.
-/
module

public import proofs.«01_k».proof.Proof.RefSoft

@[expose] public section

set_option maxRecDepth 16384
set_option backward.isDefEq.respectTransparency false

noncomputable section

namespace Cert.Attn

open scoped BigOperators

namespace Data

/-- The three groups' sum of weights of a row. -/
def gtot (D : Data) (s h : ℕ) : ℝ := ∑ g : Fin 3, Real.exp (D.lses g s h)

theorem gtot_pos (D : Data) (s h : ℕ) : 0 < D.gtot s h :=
  Finset.sum_pos (fun g _ => Real.exp_pos _) ⟨0, Finset.mem_univ _⟩

/-- The inner product of a row's cotangent with one group's output. -/
def cdot (D : Data) (g s h : ℕ) : ℝ := ∑ d : Fin 64, D.cth s h d * D.outs g s h d

theorem exp_lse (D : Data) (s h : ℕ) : Real.exp (D.lses 0 s h) = D.sumE (s / 128) h (s % 128) := by
  unfold lses
  rw [if_pos (by norm_num), Real.exp_log (D.sumE_pos _ _ _ (Nat.mod_lt _ (by norm_num)))]

theorem row_eq (s : ℕ) : 128 * (s / 128) + s % 128 = s := Nat.div_add_mod s 128

theorem gtot_eq (D : Data) (s h : ℕ) : D.gtot s h = D.tot (s / 128) h (s % 128) := by
  unfold gtot tot
  rw [Fin.sum_univ_three, row_eq, ← D.exp_lse s h]
  rfl

theorem own_mul (D : Data) (n h y d : ℕ) (hy : y < 128) :
    D.sumE n h y * D.own n h y d = ∑ z : Fin 256, D.ev n h y z * ext D.v (128 * n + z) h d := by
  unfold own
  rw [Finset.mul_sum]
  refine Finset.sum_congr rfl fun z _ => ?_
  have := (D.sumE_pos n h y hy).ne'
  field_simp

/-- The merged output, from the three groups' outputs. -/
theorem merge (D : Data) (s h d : ℕ) :
    (∑ g : Fin 3, Real.exp (D.lses g s h) * D.outs g s h d) / D.gtot s h = D.out (s / 128) h (s % 128) d := by
  unfold out
  rw [gtot_eq, Fin.sum_univ_three, row_eq, ← D.own_mul _ _ _ _ (Nat.mod_lt _ (by norm_num)), ← D.exp_lse s h]
  rfl

/-- The row's inner product of cotangent and output, from the groups' inner products. -/
theorem cdot_sum (D : Data) (s h : ℕ) :
    (∑ g : Fin 3, D.cdot g s h * Real.exp (D.lses g s h)) / D.gtot s h = D.delta (s / 128) h (s % 128) := by
  unfold delta
  rw [row_eq]
  have e : ∑ g : Fin 3, D.cdot g s h * Real.exp (D.lses g s h)
      = ∑ d : Fin 64, D.cth s h d * ∑ g : Fin 3, Real.exp (D.lses g s h) * D.outs g s h d := by
    unfold cdot
    simp only [Finset.sum_mul, Finset.mul_sum]
    rw [Finset.sum_comm]
    exact Finset.sum_congr rfl fun d _ => Finset.sum_congr rfl fun g _ => by ring
  rw [e, Finset.sum_div]
  refine Finset.sum_congr rfl fun d _ => ?_
  rw [← D.merge s h d, mul_div_assoc]

end Data

/-- The gradient of one of three log-sums through the groups' softmax. -/
theorem group_back (c a : Fin 3 → ℝ) (S e : ℝ) (hS : S ≠ 0) (he : e ≠ 0) (g : Fin 3) :
    (c g / (S * e) + -∑ g', c g' * (1 / ((S * e) * (S * e))) * (a g' * e)) * (a g * e)
      = a g / S * (c g - (∑ g', c g' * a g') / S) := by
  have : ∑ g', c g' * (1 / ((S * e) * (S * e))) * (a g' * e) = (∑ g', c g' * a g') / (S * (S * e)) := by
    rw [Finset.sum_div]
    refine Finset.sum_congr rfl fun g' _ => ?_
    field_simp
  rw [this]
  field_simp
  ring

end Cert.Attn

namespace Cert.ReferenceIdeal.Ref

open Idealize.ShloMosaic Idealize.ShloMosaic.TcCoe Idealize.SL.Sem Idealize.ShloMosaic.StableHlo
open Cert.ReferenceIdeal Cert.ReferenceIdeal.Gen Cert.ReferenceIdeal.Read Cert.Attn
open scoped BigOperators

variable {x0 : (⟨S8192x4608, .f32⟩ : BufTy).Contents (Elt Ideal)} {x1 : (⟨S8192x512, .f32⟩ : BufTy).Contents (Elt Ideal)}
  {x2 : (⟨S8x128x256, .f32⟩ : BufTy).Contents (Elt Ideal)} {x3 x4 : (⟨S1x64, .f32⟩ : BufTy).Contents (Elt Ideal)}
  {x5 x7 : (⟨S8192x8x64, .f32⟩ : BufTy).Contents (Elt Ideal)} {x6 x8 : (⟨S8192x8, .f32⟩ : BufTy).Contents (Elt Ideal)}
variable {D : Data} (H : Holds D x0 x1 x2 x3 x4 x5 x6 x7 x8)
variable {M : ℕ → ℕ → ℕ → ℝ}
variable (hM : ∀ i : S64x8x128.Idx, val_main_v89 (F := Ideal) x0 x2 x3 x4 i = ((M (i 0).val (i 1).val (i 2).val : ℝ) : EReal))
variable {G : ℕ → ℕ → ℝ}
variable (hG : ∀ i : S8192x8.Idx, val_main_v120 (F := Ideal) x0 x2 x3 x4 x6 x8 i = ((G (i 0).val (i 1).val : ℝ) : EReal))
include H hM hG

theorem e_at (i : S3x8192x8.Idx) : val_main_v140 (F := Ideal) x0 x2 x3 x4 x6 x8 i =
    ((Real.exp (D.lses (i 0).val (i 1).val (i 2).val) * Real.exp (-G (i 1).val (i 2).val) : ℝ) : EReal) := by
  rw [val_main_v140_apply, val_main_v139_apply, val_main_v138_apply, val_main_v137_apply, val_main_v127_apply,
    val_main_v126_apply, lses_at H hM, hG]
  show Ideal.exp ((((D.lses (i 0).val (i 1).val (i 2).val) : ℝ) : EReal)
    - max (Ideal.ofBits .f32 0xFF800000#32) ((G (i 1).val (i 2).val : ℝ) : EReal)) = _
  rw [word_bot, max_eq_right bot_le, ← EReal.coe_sub, exp_coe, sub_eq_add_neg, Real.exp_add]

theorem den_at (i : S8192x8.Idx) : val_main_v141 (F := Ideal) x0 x2 x3 x4 x6 x8 i =
    ((D.gtot (i 0).val (i 1).val * Real.exp (-G (i 0).val (i 1).val) : ℝ) : EReal) := by
  rw [val_main_v141_apply, sum_coe _ (fun g : Fin 3 => Real.exp (D.lses g (i 0).val (i 1).val) * Real.exp (-G (i 0).val (i 1).val))
    (fun g => e_at H hM hG _), shift_sum]
  show Ideal.ofBits .f32 0x00000000#32 + _ = _
  rw [word_zero, EReal.coe_zero, zero_add]
  rfl

omit H hM hG in
theorem den_pos (D : Data) (G : ℕ → ℕ → ℝ) (s h : ℕ) : 0 < D.gtot s h * Real.exp (-G s h) :=
  mul_pos (D.gtot_pos s h) (Real.exp_pos _)

theorem w_at (i : S3x8192x8.Idx) : val_main_v144 (F := Ideal) x0 x2 x3 x4 x6 x8 i =
    ((Real.exp (D.lses (i 0).val (i 1).val (i 2).val) / D.gtot (i 1).val (i 2).val : ℝ) : EReal) := by
  rw [val_main_v144_apply, val_main_v143_apply, val_main_v142_apply, e_at H hM hG, den_at H hM hG]
  show Ideal.div _ ((D.gtot (i 1).val (i 2).val * Real.exp (-G (i 1).val (i 2).val) : ℝ) : EReal) = _
  rw [div_coe _ _ (den_pos D G _ _).ne', mul_div_mul_right _ _ (Real.exp_pos _).ne']

theorem inv2_at (i : S1x8192x8.Idx) : val_main_v147 (F := Ideal) x0 x2 x3 x4 x6 x8 i =
    ((1 / ((D.gtot (i 1).val (i 2).val * Real.exp (-G (i 1).val (i 2).val))
      * (D.gtot (i 1).val (i 2).val * Real.exp (-G (i 1).val (i 2).val))) : ℝ) : EReal) := by
  rw [val_main_v147_apply, val_main_v146_apply, val_main_v145_apply, val_main_v142_apply, den_at H hM hG]
  show Ideal.div (Ideal.ofBits .f32 0x3F800000#32) (((D.gtot (i 1).val (i 2).val * Real.exp (-G (i 1).val (i 2).val) : ℝ) : EReal)
    * ((D.gtot (i 1).val (i 2).val * Real.exp (-G (i 1).val (i 2).val) : ℝ) : EReal)) = _
  rw [← EReal.coe_mul, word_one, div_coe _ _ (mul_pos (den_pos D G _ _) (den_pos D G _ _)).ne']

omit hM hG in
theorem ct_at (i : S8192x8x64.Idx) : val_main_v159 (F := Ideal) x1 i = ((D.cth (i 0).val (i 1).val (i 2).val : ℝ) : EReal) := by
  pointwise [val_main_v159]
  rw [H.ct]
  show ((D.ct (i 0).val ((i 1).val * 64 + (i 2).val) : ℝ) : EReal) = _
  rw [Nat.mul_comm]; rfl

omit hM hG in
theorem ct3_at (i : S3x8192x8x64.Idx) : val_main_v160 (F := Ideal) x1 i =
    ((D.cth (i 1).val (i 2).val (i 3).val : ℝ) : EReal) := by
  rw [val_main_v160_apply, ct_at H]

/-- The weighted cotangents. -/
theorem wct_at (i : S3x8192x8x64.Idx) : val_main_v162 (F := Ideal) x0 x1 x2 x3 x4 x6 x8 i =
    ((Real.exp (D.lses (i 0).val (i 1).val (i 2).val) / D.gtot (i 1).val (i 2).val * D.cth (i 1).val (i 2).val (i 3).val : ℝ) : EReal) := by
  rw [val_main_v162_apply, val_main_v161_apply, val_main_v148_apply, w_at H hM hG, ct3_at H]
  show (_ : EReal) * _ = _
  rw [← EReal.coe_mul]

theorem cdot_at (i : S3x8192x8x1.Idx) : val_main_v165 (F := Ideal) x0 x1 x2 x3 x4 x5 x7 i =
    ((D.cdot (i 0).val (i 1).val (i 2).val : ℝ) : EReal) := by
  pointwise [val_main_v165, val_main_v164, val_main_cst_36, val_main_v163]
  rw [sum_coe _ (fun d : Fin 64 => D.cth (i 1).val (i 2).val d * D.outs (i 0).val (i 1).val (i 2).val d)
    (fun d => by rw [ct3_at H, outs_at H hM, ← EReal.coe_mul]; rfl)]
  rfl

theorem cdot2_at (i : S3x8192x8.Idx) : val_main_v172 (F := Ideal) x0 x1 x2 x3 x4 x5 x7 i =
    ((D.cdot (i 0).val (i 1).val (i 2).val : ℝ) : EReal) := by
  rw [val_main_v172_apply, sum_coe _ (fun k : Fin 1 => D.cdot (i 0).val (i 1).val (i 2).val) (fun k => cdot_at H hM hG _)]
  show Ideal.ofBits .f32 0x00000000#32 + _ = _
  rw [word_zero, EReal.coe_zero, zero_add, Fin.sum_univ_one]

theorem gsum_at (i : S8192x8.Idx) : val_main_v176 (F := Ideal) x0 x1 x2 x3 x4 x5 x6 x7 x8 i =
    ((∑ g : Fin 3, D.cdot g (i 0).val (i 1).val * (1 / ((D.gtot (i 0).val (i 1).val * Real.exp (-G (i 0).val (i 1).val))
      * (D.gtot (i 0).val (i 1).val * Real.exp (-G (i 0).val (i 1).val))))
      * (Real.exp (D.lses g (i 0).val (i 1).val) * Real.exp (-G (i 0).val (i 1).val)) : ℝ) : EReal) := by
  rw [val_main_v176_apply, sum_coe _ (fun g : Fin 3 => D.cdot g (i 0).val (i 1).val * (1 / ((D.gtot (i 0).val (i 1).val * Real.exp (-G (i 0).val (i 1).val))
      * (D.gtot (i 0).val (i 1).val * Real.exp (-G (i 0).val (i 1).val))))
      * (Real.exp (D.lses g (i 0).val (i 1).val) * Real.exp (-G (i 0).val (i 1).val)))
    (fun g => by
      rw [val_main_v175_apply, val_main_v174_apply, val_main_v173_apply, cdot2_at H hM hG, inv2_at H hM hG, e_at H hM hG]
      show (_ : EReal) * _ * _ = _
      rw [← EReal.coe_mul, ← EReal.coe_mul])]
  show Ideal.ofBits .f32 0x00000000#32 + _ = _
  rw [word_zero, EReal.coe_zero, zero_add]

theorem neg_at (i : S8192x8.Idx) : val_main_v181 (F := Ideal) x0 x1 x2 x3 x4 x5 x6 x7 x8 i =
    ((-∑ g : Fin 3, D.cdot g (i 0).val (i 1).val * (1 / ((D.gtot (i 0).val (i 1).val * Real.exp (-G (i 0).val (i 1).val))
      * (D.gtot (i 0).val (i 1).val * Real.exp (-G (i 0).val (i 1).val))))
      * (Real.exp (D.lses g (i 0).val (i 1).val) * Real.exp (-G (i 0).val (i 1).val)) : ℝ) : EReal) := by
  pointwise [val_main_v181, val_main_cst_39, val_main_v178, val_main_v177]
  rw [Fin.sum_univ_one, gsum_at H hM hG, ← EReal.coe_neg]

/-- The cotangents of the groups' log-sums. -/
theorem dlse_at (i : S3x8192x8.Idx) : val_main_v184 (F := Ideal) x0 x1 x2 x3 x4 x5 x6 x7 x8 i =
    ((Real.exp (D.lses (i 0).val (i 1).val (i 2).val) / D.gtot (i 1).val (i 2).val
      * (D.cdot (i 0).val (i 1).val (i 2).val - D.delta ((i 1).val / 128) (i 2).val ((i 1).val % 128)) : ℝ) : EReal) := by
  rw [val_main_v184_apply, val_main_v183_apply, val_main_v182_apply, val_main_v180_apply, val_main_v179_apply,
    val_main_v142_apply, den_at H hM hG, neg_at H hM hG, cdot2_at H hM hG, e_at H hM hG]
  show (Ideal.div _ ((D.gtot (i 1).val (i 2).val * Real.exp (-G (i 1).val (i 2).val) : ℝ) : EReal) + _) * _ = _
  rw [div_coe _ _ (den_pos D G _ _).ne', ← EReal.coe_add, ← EReal.coe_mul]
  congr 1
  rw [← D.cdot_sum]
  exact group_back (fun g => D.cdot g (i 1).val (i 2).val) (fun g => Real.exp (D.lses g (i 1).val (i 2).val)) _ _
    (D.gtot_pos _ _).ne' (Real.exp_pos _).ne' ⟨(i 0).val, (i 0).isLt⟩

/-- The share of this group in a row's merge. -/
def _root_.Cert.Attn.Data.share (D : Data) (n h y : ℕ) : ℝ := D.sumE n h y / D.tot n h y

omit H hM hG in
theorem share_eq (D : Data) (s h : ℕ) : Real.exp (D.lses 0 s h) / D.gtot s h = D.share (s / 128) h (s % 128) := by
  rw [D.exp_lse, D.gtot_eq]; rfl

omit H hM hG in
theorem share_row (D : Data) (n h y : ℕ) (hy : y < 128) :
    Real.exp (D.lses 0 (n * 128 + y) h) / D.gtot (n * 128 + y) h = D.share n h y := by
  rw [share_eq, show (n * 128 + y) / 128 = n by omega, show (n * 128 + y) % 128 = y by omega]

/-- The cotangent of this group's row log-sums. -/
theorem dlse0_at (i : S64x8x128.Idx) : val_main_v192 (F := Ideal) x0 x1 x2 x3 x4 x5 x6 x7 x8 i =
    ((D.share (i 0).val (i 1).val (i 2).val * (D.cdot 0 (128 * (i 0).val + (i 2).val) (i 1).val
      - D.delta (i 0).val (i 1).val (i 2).val) : ℝ) : EReal) := by
  pointwise [val_main_v192, val_main_v191, val_main_v186, val_main_v185]
  rw [dlse_at H hM hG]
  have hy : (i 2).val < 128 := (i 2).isLt
  rw [← share_row D (i 0).val (i 1).val (i 2).val hy, show 128 * (i 0).val + (i 2).val = (i 0).val * 128 + (i 2).val by omega,
    show D.delta (i 0).val (i 1).val (i 2).val
      = D.delta (((i 0).val * 128 + (i 2).val) / 128) (i 1).val (((i 0).val * 128 + (i 2).val) % 128) by
      rw [show ((i 0).val * 128 + (i 2).val) / 128 = (i 0).val by omega,
        show ((i 0).val * 128 + (i 2).val) % 128 = (i 2).val by omega]]
  rfl

/-- The cotangent of this group's own output, by blocks. -/
theorem wct0_at (i : S64x8x64x128.Idx) : val_main_v196 (F := Ideal) x0 x1 x2 x3 x4 x6 x8 i =
    ((D.share (i 0).val (i 1).val (i 3).val * D.cth (128 * (i 0).val + (i 3).val) (i 1).val (i 2).val : ℝ) : EReal) := by
  pointwise [val_main_v196, val_main_v193, val_main_v167, val_main_v166]
  rw [wct_at H hM hG]
  have hy : (i 3).val < 128 := (i 3).isLt
  rw [← share_row D (i 0).val (i 1).val (i 3).val hy, show 128 * (i 0).val + (i 3).val = (i 0).val * 128 + (i 3).val by omega]
  rfl

end Cert.ReferenceIdeal.Ref
end
-- ==== Proof.RefBack.lean ====
/-
  The reference's gradient of the logits over the reals: the two softmaxes together give `P (dP - δ)`, and the cotangent of
  the row maximum is zero.
-/
module

public import proofs.«01_k».proof.Proof.RefMerge

@[expose] public section

set_option maxRecDepth 16384
set_option backward.isDefEq.respectTransparency false

noncomputable section

namespace Cert.Attn

open scoped BigOperators

/-- The gradient of a logit through its softmax, with the weights scaled by `x`. -/
theorem soft_back (p dp : Fin 256 → ℝ) (E x W c δ : ℝ) (hE : E ≠ 0) (hx : x ≠ 0) (hc : c = (∑ z, p z * dp z) / E)
    (z : Fin 256) :
    (W * dp z / (E * x) + (W * (c - δ) / (E * x) + -∑ z', W * dp z' * (1 / ((E * x) * (E * x))) * (p z' * x))) * (p z * x)
      = W / E * p z * (dp z - δ) := by
  have : ∑ z', W * dp z' * (1 / ((E * x) * (E * x))) * (p z' * x) = W * c / (E * x) := by
    rw [hc, mul_div_assoc', div_div, Finset.mul_sum, Finset.sum_div]
    refine Finset.sum_congr rfl fun z' _ => ?_
    field_simp
  rw [this]
  field_simp
  ring

/-- What is left for the row maximum: nothing. -/
theorem soft_rest (p dp : Fin 256 → ℝ) (E W c δ : ℝ) (hE : E ≠ 0) (hp : ∑ z, p z = E) (hc : c = (∑ z, p z * dp z) / E) :
    W * (c - δ) + ∑ z, -(W / E * p z * (dp z - δ)) = 0 := by
  have : ∑ z, -(W / E * p z * (dp z - δ)) = -(W / E * (∑ z, p z * dp z)) + W / E * δ * ∑ z, p z := by
    rw [Finset.mul_sum, Finset.mul_sum, ← Finset.sum_neg_distrib, ← Finset.sum_add_distrib]
    exact Finset.sum_congr rfl fun z _ => by ring
  rw [this, hp, hc]
  field_simp
  ring

namespace Data

variable (D : Data)

theorem cdot_own (n h y : ℕ) (hy : y < 128) :
    D.cdot 0 (128 * n + y) h = (∑ z : Fin 256, D.ev n h y z * D.dp n h y z) / D.sumE n h y := by
  unfold cdot outs dp own
  rw [show (128 * n + y) / 128 = n by omega, show (128 * n + y) % 128 = y by omega]
  simp only [if_pos (show 0 < 1 by norm_num), Finset.mul_sum, Finset.sum_div]
  rw [Finset.sum_comm]
  refine Finset.sum_congr rfl fun z _ => Finset.sum_congr rfl fun d _ => ?_
  ring

theorem prob_eq (n h y z : ℕ) (hy : y < 128) : D.share n h y / D.sumE n h y * D.ev n h y z = D.prob n h y z := by
  unfold share prob
  have h1 := (D.sumE_pos n h y hy).ne'
  have h2 := (D.tot_pos n h y).ne'
  field_simp

theorem ds_invalid (n h y z : ℕ) (hv : ¬valid n y z) : D.ds n h y z = 0 := by
  unfold ds prob ev
  rw [if_neg hv, zero_div, zero_mul]

end Data

end Cert.Attn

namespace Cert.ReferenceIdeal.Ref

open Idealize.ShloMosaic Idealize.ShloMosaic.TcCoe Idealize.SL.Sem Idealize.ShloMosaic.StableHlo
open Cert.ReferenceIdeal Cert.ReferenceIdeal.Gen Cert.ReferenceIdeal.Read Cert.Attn
open scoped BigOperators

variable {x0 : (⟨S8192x4608, .f32⟩ : BufTy).Contents (Elt Ideal)} {x1 : (⟨S8192x512, .f32⟩ : BufTy).Contents (Elt Ideal)}
  {x2 : (⟨S8x128x256, .f32⟩ : BufTy).Contents (Elt Ideal)} {x3 x4 : (⟨S1x64, .f32⟩ : BufTy).Contents (Elt Ideal)}
  {x5 x7 : (⟨S8192x8x64, .f32⟩ : BufTy).Contents (Elt Ideal)} {x6 x8 : (⟨S8192x8, .f32⟩ : BufTy).Contents (Elt Ideal)}
variable {D : Data} (H : Holds D x0 x1 x2 x3 x4 x5 x6 x7 x8)
variable {M : ℕ → ℕ → ℕ → ℝ}
variable (hM : ∀ i : S64x8x128.Idx, val_main_v89 (F := Ideal) x0 x2 x3 x4 i = ((M (i 0).val (i 1).val (i 2).val : ℝ) : EReal))
variable {G : ℕ → ℕ → ℝ}
variable (hG : ∀ i : S8192x8.Idx, val_main_v120 (F := Ideal) x0 x2 x3 x4 x6 x8 i = ((G (i 0).val (i 1).val : ℝ) : EReal))
include H

/-- The indicator of the row maximum. -/
theorem hit_at (i : S64x8x128x256.Idx) : ∃ b : Bool, val_main_v93 (F := Ideal) x0 x2 x3 x4 i = (((if b then 1 else 0 : ℝ)) : EReal) ∧
    (val_main_v88_0 (F := Ideal) x0 x2 x3 x4 i = val_main_v89 (F := Ideal) x0 x2 x3 x4 (ix3 (i 0) (i 1) (i 2)) → b = true) := by
  pointwise [val_main_v93, val_main_v92, val_main_v91, val_main_v90]
  refine ⟨decide (val_main_v88_0 (F := Ideal) x0 x2 x3 x4 i = val_main_v89 (F := Ideal) x0 x2 x3 x4 (ix3 (i 0) (i 1) (i 2))), ?_, fun h => by simpa using h⟩
  generalize decide (val_main_v88_0 (F := Ideal) x0 x2 x3 x4 i = val_main_v89 (F := Ideal) x0 x2 x3 x4 (ix3 (i 0) (i 1) (i 2))) = b
  show (((BitVec.ofBool b).toNat : ℝ) : EReal) = _
  cases b <;> simp

/-- The number of positions that attain the row maximum is not zero. -/
theorem count_at (i : S64x8x128.Idx) : ∃ r : ℝ, r ≠ 0 ∧ val_main_v94 (F := Ideal) x0 x2 x3 x4 i = ((r : ℝ) : EReal) := by
  obtain ⟨r, hr, z, hz⟩ := rowmax_real H i
  have hb := fun z : Fin 256 => hit_at H (ix4 (i 0) (i 1) (i 2) z)
  choose b hb1 hb2 using hb
  refine ⟨∑ z, (if b z then 1 else 0), ?_, ?_⟩
  · refine (Finset.sum_pos' (fun z _ => by split <;> norm_num) ⟨z, Finset.mem_univ _, ?_⟩).ne'
    rw [if_pos (hb2 z ?_)]
    · norm_num
    · rw [hz]
      refine hr.symm.trans (congrArg _ ?_)
      exact eq_ix3 i
  · rw [val_main_v94_apply, sum_coe _ (fun z : Fin 256 => (if b z then 1 else 0 : ℝ)) (fun z => by
      refine Eq.trans (congrArg _ ?_) (hb1 z)
      funext a; fin_cases a <;> rfl)]
    show Ideal.ofBits .f32 0x00000000#32 + _ = _
    rw [word_zero, EReal.coe_zero, zero_add]

include hM hG

theorem wdp_at (i : S64x8x128x256.Idx) : val_main_v197 (F := Ideal) x0 x1 x2 x3 x4 x6 x8 i =
    ((D.share (i 0).val (i 1).val (i 2).val * D.dp (i 0).val (i 1).val (i 2).val (i 3).val : ℝ) : EReal) := by
  rw [val_main_v197_apply, sum_coe _ (fun d : Fin 64 => D.share (i 0).val (i 1).val (i 2).val *
    (D.cth (128 * (i 0).val + (i 2).val) (i 1).val d * ext D.v (128 * (i 0).val + (i 3).val) (i 1).val d))
    (fun d => by rw [wct0_at H hM hG, vb_at H, ← EReal.coe_mul, mul_assoc]), ← Finset.mul_sum]
  rfl

theorem inv_at (i : S64x8x128x1.Idx) : val_main_v105 (F := Ideal) x0 x2 x3 x4 i =
    ((1 / ((D.sumE (i 0).val (i 1).val (i 2).val * Real.exp (-M (i 0).val (i 1).val (i 2).val))
      * (D.sumE (i 0).val (i 1).val (i 2).val * Real.exp (-M (i 0).val (i 1).val (i 2).val))) : ℝ) : EReal) := by
  rw [val_main_v105_apply, val_main_v104_apply, val_main_v103_apply, val_main_v100_apply, l_at H hM]
  show Ideal.div (Ideal.ofBits .f32 0x3F800000#32) (((D.sumE (i 0).val (i 1).val (i 2).val * Real.exp (-M (i 0).val (i 1).val (i 2).val) : ℝ) : EReal)
    * ((D.sumE (i 0).val (i 1).val (i 2).val * Real.exp (-M (i 0).val (i 1).val (i 2).val) : ℝ) : EReal)) = _
  have := l_pos D M (i 0).val (i 1).val (i 2).val (i 2).isLt
  rw [← EReal.coe_mul, word_one, div_coe _ _ (mul_pos this this).ne']

/-- The two contributions to a row's sum. -/
theorem dl_at (i : S64x8x128x1.Idx) : val_main_v206 (F := Ideal) x0 x1 x2 x3 x4 x5 x6 x7 x8 i =
    ((D.share (i 0).val (i 1).val (i 2).val * (D.cdot 0 (128 * (i 0).val + (i 2).val) (i 1).val
      - D.delta (i 0).val (i 1).val (i 2).val) / (D.sumE (i 0).val (i 1).val (i 2).val * Real.exp (-M (i 0).val (i 1).val (i 2).val))
      + -∑ z : Fin 256, D.share (i 0).val (i 1).val (i 2).val * D.dp (i 0).val (i 1).val (i 2).val z
        * (1 / ((D.sumE (i 0).val (i 1).val (i 2).val * Real.exp (-M (i 0).val (i 1).val (i 2).val))
      * (D.sumE (i 0).val (i 1).val (i 2).val * Real.exp (-M (i 0).val (i 1).val (i 2).val))))
        * (D.ev (i 0).val (i 1).val (i 2).val z * Real.exp (-M (i 0).val (i 1).val (i 2).val)) : ℝ) : EReal) := by
  have e : val_main_v204 (F := Ideal) x0 x1 x2 x3 x4 x6 x8 i = ((∑ z : Fin 256, D.share (i 0).val (i 1).val (i 2).val * D.dp (i 0).val (i 1).val (i 2).val z
        * (1 / ((D.sumE (i 0).val (i 1).val (i 2).val * Real.exp (-M (i 0).val (i 1).val (i 2).val))
      * (D.sumE (i 0).val (i 1).val (i 2).val * Real.exp (-M (i 0).val (i 1).val (i 2).val))))
        * (D.ev (i 0).val (i 1).val (i 2).val z * Real.exp (-M (i 0).val (i 1).val (i 2).val)) : ℝ) : EReal) := by
    pointwise [val_main_v204, val_main_v203, val_main_cst_40]
    refine sum_coe _ _ fun z => ?_
    rw [val_main_v202_apply, val_main_v201_apply, val_main_v200_apply, wdp_at H hM hG, inv_at H hM hG, p_at H hM]
    show (_ : EReal) * _ * _ = _
    rw [← EReal.coe_mul, ← EReal.coe_mul]
    rfl
  rw [val_main_v206_apply, val_main_v205_apply, val_main_v195_apply, val_main_v194_apply, val_main_v100_apply, e, dlse0_at H hM hG, l_at H hM]
  show Ideal.div _ ((D.sumE (i 0).val (i 1).val (i 2).val * Real.exp (-M (i 0).val (i 1).val (i 2).val) : ℝ) : EReal) + -_ = _
  rw [div_coe _ _ (l_pos D M _ _ _ (i 2).isLt).ne', ← EReal.coe_neg, ← EReal.coe_add]

theorem ds0_at (i : S64x8x128x256.Idx) : val_main_v212 (F := Ideal) x0 x1 x2 x3 x4 x5 x6 x7 x8 i =
    ((D.ds (i 0).val (i 1).val (i 2).val (i 3).val : ℝ) : EReal) := by
  have hy : (i 2).val < 128 := (i 2).isLt
  rw [val_main_v212_apply, val_main_v211_apply, val_main_v210_apply, val_main_v209_apply, val_main_v208_apply, val_main_v207_apply,
    val_main_v100_apply, Fin.sum_univ_one, dl_at H hM hG, wdp_at H hM hG, l_at H hM, p_at H hM]
  show (Ideal.div _ ((D.sumE (i 0).val (i 1).val (i 2).val * Real.exp (-M (i 0).val (i 1).val (i 2).val) : ℝ) : EReal)
    + (Ideal.ofBits .f32 0x00000000#32 + _)) * _ = _
  rw [word_zero, EReal.coe_zero, zero_add, div_coe _ _ (l_pos D M _ _ _ hy).ne', ← EReal.coe_add, ← EReal.coe_mul]
  congr 1
  unfold Data.ds
  rw [← D.prob_eq _ _ _ _ hy]
  exact soft_back (fun z => D.ev (i 0).val (i 1).val (i 2).val z) (fun z => D.dp (i 0).val (i 1).val (i 2).val z) _ _ _ _ _
    (D.sumE_pos _ _ _ hy).ne' (Real.exp_pos _).ne' (D.cdot_own _ _ _ hy) ⟨(i 3).val, (i 3).isLt⟩

/-- The cotangent of the row maximum is zero. -/
theorem rest_at (i : S64x8x128.Idx) : val_main_v217 (F := Ideal) x0 x1 x2 x3 x4 x5 x6 x7 x8 i = ((0 : ℝ) : EReal) := by
  have hy : (i 2).val < 128 := (i 2).isLt
  pointwise [val_main_v217, val_main_v216, val_main_v215, val_main_v214, val_main_v213, val_main_v194, val_main_cst_42, val_main_cst_43]
  rw [Fin.sum_univ_one, dlse0_at H hM hG, sum_coe _ (fun z : Fin 256 => -(D.share (i 0).val (i 1).val (i 2).val / D.sumE (i 0).val (i 1).val (i 2).val
      * D.ev (i 0).val (i 1).val (i 2).val z * (D.dp (i 0).val (i 1).val (i 2).val z - D.delta (i 0).val (i 1).val (i 2).val)))
    (fun z => by
      rw [ds0_at H hM hG, ← EReal.coe_neg, D.prob_eq _ _ _ _ hy]
      rfl), ← EReal.coe_add]
  exact congrArg _ (soft_rest (fun z => D.ev (i 0).val (i 1).val (i 2).val z) (fun z => D.dp (i 0).val (i 1).val (i 2).val z) _ _ _ _
    (D.sumE_pos _ _ _ hy).ne' rfl (D.cdot_own _ _ _ hy))

/-- The gradient of the logits. -/
theorem ds_at (i : S64x8x128x256.Idx) : val_main_v222 (F := Ideal) x0 x1 x2 x3 x4 x5 x6 x7 x8 i =
    ((D.ds (i 0).val (i 1).val (i 2).val (i 3).val : ℝ) : EReal) := by
  have e : val_main_v221 (F := Ideal) x0 x1 x2 x3 x4 x5 x6 x7 x8 i = ((D.ds (i 0).val (i 1).val (i 2).val (i 3).val : ℝ) : EReal) := by
    rw [val_main_v221_apply, val_main_v220_apply, val_main_v219_apply, val_main_v218_apply, rest_at H hM hG, ds0_at H hM hG]
    obtain ⟨r, hr, hc⟩ := count_at H (idx_main_v219 i)
    obtain ⟨b, hb, _⟩ := hit_at H i
    rw [hc, hb]
    show (_ : EReal) + Ideal.div _ _ * _ = _
    rw [div_coe _ _ hr, zero_div, ← EReal.coe_mul, zero_mul, ← EReal.coe_add, add_zero]
  rw [val_main_v222_apply, e, val_main_v88_1_apply, val_main_v87_apply, mask_at, select_word, val_main_call1_v0_apply]
  by_cases hv : valid (i 0).val (i 2).val (i 3).val
  · exact if_pos hv
  · refine (if_neg hv).trans ?_
    rw [D.ds_invalid _ _ _ _ hv]
    exact word_zero

end Cert.ReferenceIdeal.Ref
end
-- ==== Proof.RefProd.lean ====
/-
  The reference's products of the logits' gradient and of the weights over the reals: the gradients of the values, of the
  normalised keys and queries, and of the bias table.
-/
module

public import proofs.«01_k».proof.Proof.RefBack

@[expose] public section

set_option maxRecDepth 16384
set_option backward.isDefEq.respectTransparency false

noncomputable section

namespace Cert.Attn

/-- A block's own share and the next block's, where there is one. -/
theorem window_sum (f : ℕ → ℕ → ℝ) (n z : ℕ) (hz : z < 128) (X0 X : EReal) (R : ℝ)
    (hR : R = f n (128 + z) + (if n + 1 < 64 then f (n + 1) z else 0)) (c : X0 = ((f n (128 + z) : ℝ) : EReal))
    (a : n < 63 ∧ z < 128 → X = ((f (1 + n) z : ℝ) : EReal)) (b : ¬(n < 63 ∧ z < 128) → X = 0) :
    X0 + X = ((R : ℝ) : EReal) := by
  rw [hR, c, EReal.coe_add]
  congr 1
  by_cases h : n < 63
  · rw [a ⟨h, hz⟩, if_pos (by omega), Nat.add_comm]
  · rw [b (fun c => h c.1), if_neg (by omega), EReal.coe_zero]

end Cert.Attn

namespace Cert.ReferenceIdeal.Ref

open Idealize.ShloMosaic Idealize.ShloMosaic.TcCoe Idealize.SL.Sem Idealize.ShloMosaic.StableHlo
open Cert.ReferenceIdeal Cert.ReferenceIdeal.Gen Cert.ReferenceIdeal.Read Cert.Attn
open scoped BigOperators

variable {x0 : (⟨S8192x4608, .f32⟩ : BufTy).Contents (Elt Ideal)} {x1 : (⟨S8192x512, .f32⟩ : BufTy).Contents (Elt Ideal)}
  {x2 : (⟨S8x128x256, .f32⟩ : BufTy).Contents (Elt Ideal)} {x3 x4 : (⟨S1x64, .f32⟩ : BufTy).Contents (Elt Ideal)}
  {x5 x7 : (⟨S8192x8x64, .f32⟩ : BufTy).Contents (Elt Ideal)} {x6 x8 : (⟨S8192x8, .f32⟩ : BufTy).Contents (Elt Ideal)}
variable {D : Data} (H : Holds D x0 x1 x2 x3 x4 x5 x6 x7 x8)
variable {M : ℕ → ℕ → ℕ → ℝ}
variable (hM : ∀ i : S64x8x128.Idx, val_main_v89 (F := Ideal) x0 x2 x3 x4 i = ((M (i 0).val (i 1).val (i 2).val : ℝ) : EReal))
variable {G : ℕ → ℕ → ℝ}
variable (hG : ∀ i : S8192x8.Idx, val_main_v120 (F := Ideal) x0 x2 x3 x4 x6 x8 i = ((G (i 0).val (i 1).val : ℝ) : EReal))
include H hM hG

/-- The bias table's gradient. -/
theorem dtab_at (i : S8x128x256.Idx) : val_main_v225 (F := Ideal) x0 x1 x2 x3 x4 x5 x6 x7 x8 i =
    ((D.dtab (i 0).val (i 1).val (i 2).val : ℝ) : EReal) := by
  pointwise [val_main_v225, val_main_v224, val_main_v223, val_main_cst_44, val_main_cst_45]
  rw [Fin.sum_univ_one]
  refine sum_coe (ι := Fin 64) _ _ fun n => ?_
  exact ds_at H hM hG _

/-- The gradient of a window's values. -/
theorem dvw_at (i : S64x256x8x64.Idx) : val_main_v199 (F := Ideal) x0 x1 x2 x3 x4 x6 x8 i =
    ((∑ y : Fin 128, D.prob (i 0).val (i 2).val y (i 1).val * D.cth (128 * (i 0).val + y) (i 2).val (i 3).val : ℝ) : EReal) := by
  rw [val_main_v199_apply, val_main_v198_apply]
  refine sum_coe _ _ fun y => ?_
  rw [wct0_at H hM hG, pn_at H hM, ← EReal.coe_mul, ← D.prob_eq _ _ _ _ y.isLt]
  congr 1
  show D.share (i 0).val (i 2).val y * D.cth (128 * (i 0).val + y) (i 2).val (i 3).val
    * (D.ev (i 0).val (i 2).val y (i 1).val / D.sumE (i 0).val (i 2).val y) = _
  ring

/-- The gradient of a window's keys. -/
theorem dkw_at (i : S64x256x8x64.Idx) : val_main_v227 (F := Ideal) x0 x1 x2 x3 x4 x5 x6 x7 x8 i =
    ((∑ y : Fin 128, D.ds (i 0).val (i 2).val y (i 1).val * D.qn (128 * (i 0).val + y) (i 2).val (i 3).val : ℝ) : EReal) := by
  rw [val_main_v227_apply, val_main_v226_apply]
  refine sum_coe _ _ fun y => ?_
  rw [ds_at H hM hG, qb_at H, ← EReal.coe_mul]

/-- The gradient of the normalised queries. -/
theorem dqn_at (i : S8192x8x64.Idx) : val_main_v244 (F := Ideal) x0 x1 x2 x3 x4 x5 x6 x7 x8 i =
    ((D.dqn ((i 0).val / 128) (i 1).val ((i 0).val % 128) (i 2).val : ℝ) : EReal) := by
  pointwise [val_main_v244, val_main_v229]
  rw [val_main_v228_apply]
  refine sum_coe _ _ fun z => ?_
  rw [ds_at H hM hG, kb_at H, ← EReal.coe_mul]
  rfl

/-- The gradient of the values. -/
theorem dv_at (i : S8192x8x64.Idx) : val_main_v242 (F := Ideal) x0 x1 x2 x3 x4 x6 x8 i =
    ((D.dv ((i 0).val / 128) (i 1).val ((i 0).val % 128) (i 2).val : ℝ) : EReal) := by
  pointwise [val_main_v242, val_main_v235, val_main_v234, val_main_v233, val_main_v231, val_main_v230, val_main_cst_46]
  refine window_sum (fun n z => ∑ y : Fin 128, D.prob n (i 1).val y z * D.cth (128 * n + y) (i 1).val (i 2).val)
    ((i 0).val / 128) ((i 0).val % 128) (Nat.mod_lt _ (by norm_num)) _ _ _ ?_ ?_ (fun h => ?_) (fun h => ?_)
  · unfold Data.dv; rfl
  · exact dvw_at H hM hG _
  · rw [dif_pos h]; exact dvw_at H hM hG _
  · rw [dif_neg h]

/-- The gradient of the normalised keys. -/
theorem dkn_at (i : S8192x8x64.Idx) : val_main_v243 (F := Ideal) x0 x1 x2 x3 x4 x5 x6 x7 x8 i =
    ((D.dkn ((i 0).val / 128) (i 1).val ((i 0).val % 128) (i 2).val : ℝ) : EReal) := by
  pointwise [val_main_v243, val_main_v241, val_main_v240, val_main_v239, val_main_v237, val_main_v236, val_main_cst_47]
  refine window_sum (fun n z => ∑ y : Fin 128, D.ds n (i 1).val y z * D.qn (128 * n + y) (i 1).val (i 2).val)
    ((i 0).val / 128) ((i 0).val % 128) (Nat.mod_lt _ (by norm_num)) _ _ _ ?_ ?_ (fun h => ?_) (fun h => ?_)
  · unfold Data.dkn; rfl
  · exact dkw_at H hM hG _
  · rw [dif_pos h]; exact dkw_at H hM hG _
  · rw [dif_neg h]

end Cert.ReferenceIdeal.Ref
end
-- ==== Proof.RefNorm.lean ====
/-
  The reference's gradients through the root-mean-square norms over the reals: of the projected queries and keys, and of
  their gains.
-/
module

public import proofs.«01_k».proof.Proof.RefProd

@[expose] public section

set_option maxRecDepth 16384
set_option backward.isDefEq.respectTransparency false

noncomputable section

namespace Cert.Attn

open Idealize.ShloMosaic
open scoped BigOperators

theorem word_neg_half : Ideal.ofBits .f32 0xBF000000#32 = ((-(1 / 2) : ℝ) : EReal) := by
  simp [Ideal.ofBits, Ideal.ieee, -EReal.coe_mul]; norm_num

/-- The two uses of the mean square are twice one. -/
theorem rms_real (x g : ℕ → ℝ) (r ms : ℝ) (hm : 0 < ms) (hr : r = (Real.sqrt ms)⁻¹) (d : ℕ) :
    g d * r + x d * ((∑ e : Fin 64, x e * g e) * (-(1 / 2) * (r / ms)) / 64)
      + ((∑ e : Fin 64, x e * g e) * (-(1 / 2) * (r / ms)) / 64) * x d = rmsBwd (fun e => x e * r) g r d := by
  unfold rmsBwd
  have e1 : r / ms = r * (r * r) := by
    rw [hr, ← mul_inv, Real.mul_self_sqrt hm.le, div_eq_mul_inv]
  have e2 : (∑ e : Fin 64, g e * (x e * r)) = (∑ e : Fin 64, x e * g e) * r := by
    rw [Finset.sum_mul]
    exact Finset.sum_congr rfl fun e _ => by ring
  rw [e1, e2]
  ring

/-- A sum over the rows is one over the blocks and the rows of a block. -/
theorem rows_split (f : ℕ → ℝ) : ∑ s : Fin 8192, f s = ∑ n : Fin 64, ∑ y : Fin 128, f (128 * n + y) := by
  rw [← Fintype.sum_prod_type', ← (finProdFinEquiv (m := 64) (n := 128)).sum_comp]
  refine Finset.sum_congr rfl fun p _ => congrArg f ?_
  show p.2.val + 128 * p.1.val = _
  omega

theorem mul_comm_eighth (a b : ℝ) : a * (b * (1 / 8)) = b * a * (1 / 8) := by ring

/-- The rows of a block by heads. -/
theorem gain_rows (f : ℕ → ℕ → ℕ → ℝ) (g : ℕ → ℕ → ℝ) :
    ∑ n : Fin 64, ∑ y : Fin 128, ∑ h : Fin 8, f ((128 * n + y) / 128) h ((128 * n + y) % 128) * g (128 * n + y) h
      = ∑ n : Fin 64, ∑ h : Fin 8, ∑ y : Fin 128, f n h y * g (128 * n + y) h := by
  refine Finset.sum_congr rfl fun n _ => ?_
  rw [Finset.sum_comm]
  refine Finset.sum_congr rfl fun h _ => Finset.sum_congr rfl fun y _ => ?_
  have := y.isLt
  rw [show (128 * n.val + y.val) / 128 = n by omega, show (128 * n.val + y.val) % 128 = y by omega]

/-- A sum over the first two of three axes at a result index. -/
theorem reduce_two {a b c : ℕ} (h : (⟨3, ![a, b, c]⟩ : Shape).ReducesTo [0, 1] ⟨1, ![c]⟩)
    (v : (⟨3, ![a, b, c]⟩ : Shape).Idx → EReal) (z : EReal) (j : (⟨1, ![c]⟩ : Shape).Idx) :
    Ideal.hostReduceAdd h v z j = z + ∑ x : Fin a, ∑ y : Fin b, v (ix3 x y (j 0)) := by
  unfold Ideal.hostReduceAdd
  congr 1
  rw [← Fintype.sum_prod_type']
  have hd : ∀ i : (⟨3, ![a, b, c]⟩ : Shape).Idx, h.drop i = j ↔ i 2 = j 0 := fun i => by
    have e : ((h.drop i 0 : Fin _) : ℕ) = (i 2 : Fin _) := h.drop_apply_val_of_eq i 0 2 Nat.zero_lt_one rfl
    constructor
    · intro q; apply Fin.ext; rw [← q]; exact e.symm
    · intro q; funext x
      have hx : x = 0 := Subsingleton.elim (α := Fin 1) _ _
      subst hx
      apply Fin.ext
      exact e.trans (congrArg Fin.val q)
  refine Finset.sum_nbij' (fun i => ((i 0, i 1) : Fin a × Fin b)) (fun p => ix3 p.1 p.2 (j 0)) (fun _ _ => Finset.mem_univ _)
    (fun p _ => Finset.mem_filter.mpr ⟨Finset.mem_univ _, (hd _).mpr rfl⟩) (fun i hi => ?_) (fun p _ => rfl) (fun i hi => ?_)
  · have := (hd i).mp (Finset.mem_filter.mp hi).2
    rw [← this]; exact (eq_ix3 i).symm
  · have := (hd i).mp (Finset.mem_filter.mp hi).2
    rw [← this]; exact congrArg v (eq_ix3 i)

end Cert.Attn

namespace Cert.ReferenceIdeal.Ref

open Idealize.ShloMosaic Idealize.ShloMosaic.TcCoe Idealize.SL.Sem Idealize.ShloMosaic.StableHlo
open Cert.ReferenceIdeal Cert.ReferenceIdeal.Gen Cert.ReferenceIdeal.Read Cert.Attn
open scoped BigOperators

variable {x0 : (⟨S8192x4608, .f32⟩ : BufTy).Contents (Elt Ideal)} {x1 : (⟨S8192x512, .f32⟩ : BufTy).Contents (Elt Ideal)}
  {x2 : (⟨S8x128x256, .f32⟩ : BufTy).Contents (Elt Ideal)} {x3 x4 : (⟨S1x64, .f32⟩ : BufTy).Contents (Elt Ideal)}
  {x5 x7 : (⟨S8192x8x64, .f32⟩ : BufTy).Contents (Elt Ideal)} {x6 x8 : (⟨S8192x8, .f32⟩ : BufTy).Contents (Elt Ideal)}
variable {D : Data} (H : Holds D x0 x1 x2 x3 x4 x5 x6 x7 x8)
variable {M : ℕ → ℕ → ℕ → ℝ}
variable (hM : ∀ i : S64x8x128.Idx, val_main_v89 (F := Ideal) x0 x2 x3 x4 i = ((M (i 0).val (i 1).val (i 2).val : ℝ) : EReal))
variable {G : ℕ → ℕ → ℝ}
variable (hG : ∀ i : S8192x8.Idx, val_main_v120 (F := Ideal) x0 x2 x3 x4 x6 x8 i = ((G (i 0).val (i 1).val : ℝ) : EReal))
include H

theorem rq3_at (i : S8192x8x1.Idx) : val_main_v16 (F := Ideal) x0 i = ((-(1 / 2) * (D.rq (i 0).val (i 1).val
    / ((∑ d : Fin 64, D.q (i 0).val (i 1).val d * D.q (i 0).val (i 1).val d) / 64 + eps)) : ℝ) : EReal) := by
  rw [val_main_v16_apply, val_main_v15_apply, val_main_v14_apply, rq_at H, msq_at H]
  show Ideal.ofBits .f32 0xBF000000#32 * Ideal.div _ _ = _
  rw [word_neg_half, div_coe _ _ (ms_pos _).ne', ← EReal.coe_mul]

theorem rk3_at (i : S8192x8x1.Idx) : val_main_v34 (F := Ideal) x0 i = ((-(1 / 2) * (D.rk (i 0).val (i 1).val
    / ((∑ d : Fin 64, D.k (i 0).val (i 1).val d * D.k (i 0).val (i 1).val d) / 64 + eps)) : ℝ) : EReal) := by
  rw [val_main_v34_apply, val_main_v33_apply, val_main_v32_apply, rk_at H, msk_at H]
  show Ideal.ofBits .f32 0xBF000000#32 * Ideal.div _ _ = _
  rw [word_neg_half, div_coe _ _ (ms_pos _).ne', ← EReal.coe_mul]

include hM hG

/-- The gradient of the key's gain. -/
theorem dkg_at (i : S1x64.Idx) : val_main_v251 (F := Ideal) x0 x1 x2 x3 x4 x5 x6 x7 x8 i =
    ((D.dkg (i 1).val : ℝ) : EReal) := by
  have e : ∀ j : S64.Idx, val_main_v246 (F := Ideal) x0 x1 x2 x3 x4 x5 x6 x7 x8 j = ((D.dkg (j 0).val : ℝ) : EReal) := fun j => by
    refine (reduce_two _ _ _ j).trans ?_
    rw [sum_coe _ (fun s : Fin 8192 => ∑ h : Fin 8, D.dkn (s / 128) h (s % 128) (j 0).val * D.kx s h (j 0).val) (fun s =>
      sum_coe _ _ fun h => by
        rw [val_main_v245_apply, kx_at H, dkn_at H hM hG]
        show (_ : EReal) * _ = _
        rw [← EReal.coe_mul, mul_comm]
        rfl)]
    show Ideal.ofBits .f32 0x00000000#32 + _ = _
    rw [word_zero, EReal.coe_zero, zero_add, rows_split (fun s => ∑ h : Fin 8, D.dkn (s / 128) h (s % 128) (j 0).val * D.kx s h (j 0).val)]
    exact congrArg _ (gain_rows (fun n h y => D.dkn n h y (j 0).val) (fun s h => D.kx s h (j 0).val))
  rw [val_main_v251_apply]
  refine (reduce_two _ _ _ _).trans ?_
  rw [Fin.sum_univ_one, Fin.sum_univ_one]
  show Ideal.ofBits .f32 0x00000000#32 + _ = _
  rw [word_zero, EReal.coe_zero, zero_add]
  pointwise [val_main_v247]
  rw [e]

/-- The gradient of the query's gain. -/
theorem dqg_at (i : S1x64.Idx) : val_main_v274 (F := Ideal) x0 x1 x2 x3 x4 x5 x6 x7 x8 i =
    ((D.dqg (i 1).val : ℝ) : EReal) := by
  have e : ∀ j : S64.Idx, val_main_v269 (F := Ideal) x0 x1 x2 x3 x4 x5 x6 x7 x8 j = ((D.dqg (j 0).val : ℝ) : EReal) := fun j => by
    refine (reduce_two _ _ _ j).trans ?_
    rw [sum_coe _ (fun s : Fin 8192 => ∑ h : Fin 8, D.dqn (s / 128) h (s % 128) (j 0).val * D.qx s h (j 0).val * (1 / 8)) (fun s =>
      sum_coe _ _ fun h => by
        rw [val_main_v268_apply, val_main_v267_apply, val_main_v266_apply, qx_at H, dqn_at H hM hG]
        show (_ : EReal) * (_ * Ideal.ofBits .f32 0x3E000000#32) = _
        rw [word_eighth, ← EReal.coe_mul, ← EReal.coe_mul]
        simp only [ix3_0, ix3_1, ix3_2]
        exact congrArg _ (mul_comm_eighth _ _))]
    show Ideal.ofBits .f32 0x00000000#32 + _ = _
    rw [word_zero, EReal.coe_zero, zero_add, rows_split (fun s => ∑ h : Fin 8, D.dqn (s / 128) h (s % 128) (j 0).val * D.qx s h (j 0).val * (1 / 8))]
    refine congrArg _ ?_
    unfold Data.dqg
    rw [← gain_rows (fun n h y => D.dqn n h y (j 0).val) (fun s h => D.qx s h (j 0).val)]
    rw [Finset.sum_mul]
    refine Finset.sum_congr rfl fun n _ => ?_
    rw [Finset.sum_mul]
    refine Finset.sum_congr rfl fun y _ => ?_
    rw [Finset.sum_mul]
  rw [val_main_v274_apply]
  refine (reduce_two _ _ _ _).trans ?_
  rw [Fin.sum_univ_one, Fin.sum_univ_one]
  show Ideal.ofBits .f32 0x00000000#32 + _ = _
  rw [word_zero, EReal.coe_zero, zero_add]
  pointwise [val_main_v270]
  rw [e]

/-- The gradient of the normalised key before its gain. -/
theorem dkx_at (i : S8192x8x64.Idx) : val_main_v249 (F := Ideal) x0 x1 x2 x3 x4 x5 x6 x7 x8 i =
    ((D.dkn ((i 0).val / 128) (i 1).val ((i 0).val % 128) (i 2).val * D.kg (i 2).val : ℝ) : EReal) := by
  rw [val_main_v249_apply, dkn_at H hM hG]
  pointwise [val_main_v248, val_main_v37]
  rw [H.kg, ← EReal.coe_mul]
  rfl

/-- The gradient of the normalised query before its gain. -/
theorem dqx_at (i : S8192x8x64.Idx) : val_main_v272 (F := Ideal) x0 x1 x2 x3 x4 x5 x6 x7 x8 i =
    ((D.dqn ((i 0).val / 128) (i 1).val ((i 0).val % 128) (i 2).val * (D.qg (i 2).val * (1 / 8)) : ℝ) : EReal) := by
  rw [val_main_v272_apply, val_main_v267_apply, dqn_at H hM hG, val_main_v266_apply]
  pointwise [val_main_v271, val_main_v19, val_main_cst_53]
  rw [H.qg, word_eighth, ← EReal.coe_mul, ← EReal.coe_mul]
  congr 1
  show _ * D.qg (i 2).val = _
  ring

/-- The gradient of the projected key. -/
theorem dk_at (i : S8192x8x64.Idx) : val_main_v265 (F := Ideal) x0 x1 x2 x3 x4 x5 x6 x7 x8 i =
    ((D.dk ((i 0).val / 128) (i 1).val ((i 0).val % 128) (i 2).val : ℝ) : EReal) := by
  have e : val_main_v261 (F := Ideal) x0 x1 x2 x3 x4 x5 x6 x7 x8 i =
      (((∑ e : Fin 64, D.k (i 0).val (i 1).val e * (D.dkn ((i 0).val / 128) (i 1).val ((i 0).val % 128) e * D.kg e))
        * (-(1 / 2) * (D.rk (i 0).val (i 1).val
    / ((∑ d : Fin 64, D.k (i 0).val (i 1).val d * D.k (i 0).val (i 1).val d) / 64 + eps))) / 64 : ℝ) : EReal) := by
    rw [val_main_v261_apply, val_main_v260_apply, Fin.sum_univ_one, val_main_v259_apply, val_main_v257_apply, rk3_at H]
    pointwise [val_main_v254, val_main_v253, val_main_v252, val_main_v258, val_main_cst_50, val_main_cst_51, val_main_cst_52]
    rw [sum_coe (ι := Fin 64) _ (fun e => D.k (i 0).val (i 1).val e * (D.dkn ((i 0).val / 128) (i 1).val ((i 0).val % 128) e * D.kg e))
      (fun e => by rw [k_at H, dkx_at H hM hG, ← EReal.coe_mul]; rfl), word_64, ← EReal.coe_mul, div_coe _ _ (by norm_num)]
  rw [val_main_v265_apply, val_main_v264_apply, val_main_v263_apply, val_main_v262_apply, val_main_v256_apply, val_main_v255_apply, e, dkx_at H hM hG, rk_at H, k_at H]
  show (_ : EReal) * _ + _ * _ + _ * _ = _
  rw [← EReal.coe_mul, ← EReal.coe_mul, ← EReal.coe_mul, ← EReal.coe_add, ← EReal.coe_add]
  congr 1
  unfold Data.dk
  rw [Nat.div_add_mod]
  exact rms_real (fun e => D.k (i 0).val (i 1).val e) (fun e => D.dkn ((i 0).val / 128) (i 1).val ((i 0).val % 128) e * D.kg e) _ _ (ms_pos _) rfl _

/-- The gradient of the projected query. -/
theorem dq_at (i : S8192x8x64.Idx) : val_main_v288 (F := Ideal) x0 x1 x2 x3 x4 x5 x6 x7 x8 i =
    ((D.dq ((i 0).val / 128) (i 1).val ((i 0).val % 128) (i 2).val : ℝ) : EReal) := by
  have e : val_main_v284 (F := Ideal) x0 x1 x2 x3 x4 x5 x6 x7 x8 i =
      (((∑ e : Fin 64, D.q (i 0).val (i 1).val e * (D.dqn ((i 0).val / 128) (i 1).val ((i 0).val % 128) e * (D.qg e * (1 / 8))))
        * (-(1 / 2) * (D.rq (i 0).val (i 1).val
    / ((∑ d : Fin 64, D.q (i 0).val (i 1).val d * D.q (i 0).val (i 1).val d) / 64 + eps))) / 64 : ℝ) : EReal) := by
    rw [val_main_v284_apply, val_main_v283_apply, Fin.sum_univ_one, val_main_v282_apply, val_main_v280_apply, rq3_at H]
    pointwise [val_main_v277, val_main_v276, val_main_v275, val_main_v281, val_main_cst_56, val_main_cst_57, val_main_cst_58]
    rw [sum_coe (ι := Fin 64) _ (fun e => D.q (i 0).val (i 1).val e * (D.dqn ((i 0).val / 128) (i 1).val ((i 0).val % 128) e * (D.qg e * (1 / 8))))
      (fun e => by rw [q_at H, dqx_at H hM hG, ← EReal.coe_mul]; rfl), word_64, ← EReal.coe_mul, div_coe _ _ (by norm_num)]
  rw [val_main_v288_apply, val_main_v287_apply, val_main_v286_apply, val_main_v285_apply, val_main_v279_apply, val_main_v278_apply, e, dqx_at H hM hG, rq_at H, q_at H]
  show (_ : EReal) * _ + _ * _ + _ * _ = _
  rw [← EReal.coe_mul, ← EReal.coe_mul, ← EReal.coe_mul, ← EReal.coe_add, ← EReal.coe_add]
  congr 1
  unfold Data.dq
  rw [Nat.div_add_mod]
  exact rms_real (fun e => D.q (i 0).val (i 1).val e) (fun e => D.dqn ((i 0).val / 128) (i 1).val ((i 0).val % 128) e * (D.qg e * (1 / 8))) _ _ (ms_pos _) rfl _

/-- The result of the queries, in the group's columns. -/
theorem dq_wide (i : S8192x1536.Idx) (h : (i 1).val < 512) : val_main_v291 (F := Ideal) x0 x1 x2 x3 x4 x5 x6 x7 x8 i =
    ((D.dq ((i 0).val / 128) ((i 1).val / 64) ((i 0).val % 128) ((i 1).val % 64) : ℝ) : EReal) := by
  pointwise [val_main_v291, val_main_v289]
  rw [dif_pos h, dq_at H hM hG]
  rfl

/-- The result of the keys, in the group's columns. -/
theorem dk_wide (i : S8192x1536.Idx) (h : (i 1).val < 512) : val_main_v294 (F := Ideal) x0 x1 x2 x3 x4 x5 x6 x7 x8 i =
    ((D.dk ((i 0).val / 128) ((i 1).val / 64) ((i 0).val % 128) ((i 1).val % 64) : ℝ) : EReal) := by
  pointwise [val_main_v294, val_main_v292]
  rw [dif_pos h, dk_at H hM hG]
  rfl

/-- The result of the values, in the group's columns. -/
theorem dv_wide (i : S8192x1536.Idx) (h : (i 1).val < 512) : val_main_v297 (F := Ideal) x0 x1 x2 x3 x4 x6 x8 i =
    ((D.dv ((i 0).val / 128) ((i 1).val / 64) ((i 0).val % 128) ((i 1).val % 64) : ℝ) : EReal) := by
  pointwise [val_main_v297, val_main_v295]
  rw [dif_pos h, dv_at H hM hG]
  rfl

end Cert.ReferenceIdeal.Ref
end
-- ==== Proof.HostText.lean ====
/-
  The kernel's host lines and their values over the reals: the merged output, the merged log-sum, the masked bias table
  and the gains of a head pair.
-/
module

public import proofs.«01_k».proof.Proof.RefNorm
public import proofs.«01_k».proof.Proof.RealTile

@[expose] public section

set_option maxRecDepth 16384
set_option backward.isDefEq.respectTransparency false

noncomputable section

namespace Cert.KernelIdeal.Blk

open Idealize.ShloMosaic Idealize.ShloMosaic.TcCoe Idealize.SL.Sem Cert.KernelIdeal Cert.KernelIdeal.Gen

section Text

variable {F : FTy → Type} [FloatOps F]

/-- The largest of the three groups' log-sums. -/
def top (L l1 l2 : FVec F S8192x8 .f32) : FVec F S8192x8 .f32 := maximumf (maximumf L l1) l2

/-- The three groups' sums of weights over the largest. -/
def den (L l1 l2 : FVec F S8192x8 .f32) : FVec F S8192x8 .f32 :=
  addf (addf (Host.exp (subf L (top L l1 l2))) (Host.exp (subf l1 (top L l1 l2)))) (Host.exp (subf l2 (top L l1 l2)))

/-- A row's factor over its lanes. -/
def lanes (x : FVec F S8192x8 .f32) : FVec F S8192x8x64 .f32 :=
  broadcastInDim S8192x8x64 ![0, 1, 2] bcast_S8192x8x1_S8192x8x64_0_1_2 (broadcastInDim S8192x8x1 ![0, 1] bcast_S8192x8_S8192x8x1_0_1 x)

/-- The merged output. -/
def outH (L l1 l2 : FVec F S8192x8 .f32) (A o1 o2 : FVec F S8192x8x64 .f32) : FVec F S8192x512 .f32 :=
  shapeCast S8192x512 (Host.divf (addf (addf (mulf (lanes (Host.exp (subf L (top L l1 l2)))) A)
    (mulf (lanes (Host.exp (subf l1 (top L l1 l2)))) o1)) (mulf (lanes (Host.exp (subf l2 (top L l1 l2)))) o2)) (lanes (den L l1 l2)))
    shapeCasts_S8192x8x64_S8192x512

/-- The merged log-sum over its head's lanes. -/
def lseH (L l1 l2 : FVec F S8192x8 .f32) : FVec F S8192x512 .f32 :=
  shapeCast S8192x512 (broadcastInDim S8192x8x64 ![0, 1] bcast_S8192x8_S8192x8x64_0_1 (addf (top L l1 l2) (Host.log (den L l1 l2))))
    shapeCasts_S8192x8x64_S8192x512

/-- The band of a block's window. -/
def bandH : IVec S128x256 1 :=
  andi (cmpi .sge (subi (broadcastInDim S128x256 ![0, 1] bcast_S128x1_S128x256_0_1 (addi (broadcastInDim S128x1 ![0] bcast_S128_S128x1_0 (iotaInDim S128 32 0))
      (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0))))
    (broadcastInDim S128x256 ![] bcast_S_S128x256 (constantI S_ 32 0#32)))
   (cmpi .sle (subi (broadcastInDim S128x256 ![0, 1] bcast_S128x1_S128x256_0_1 (addi (broadcastInDim S128x1 ![0] bcast_S128_S128x1_0 (iotaInDim S128 32 0))
      (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0))))
    (broadcastInDim S128x256 ![] bcast_S_S128x256 (constantI S_ 32 128#32)))

/-- The bias table in the band, `-∞` elsewhere. -/
def biasH (x2 : FVec F S8x128x256 .f32) : FVec F S8x128x256 .f32 :=
  select (broadcastInDim S8x128x256 ![0, 1, 2] bcast_S1x128x256_S8x128x256_0_1_2 (broadcastInDim S1x128x256 ![1, 2] bcast_S128x256_S1x128x256_1_2 bandH))
    x2 (broadcastInDim S8x128x256 ![] bcast_S_S8x128x256 (constant S_ .f32 0xFF800000#32))

/-- A gain for the two heads of a pair. -/
def gainH (x : FVec F S1x64 .f32) : FVec F S1x128 .f32 :=
  shapeCast S1x128 (broadcastInDim S1x1x2x64 ![0, 1, 2, 3] bcast_S1x1x1x64_S1x1x2x64_0_1_2_3 (shapeCast S1x1x1x64 x shapeCasts_S1x64_S1x1x1x64))
    shapeCasts_S1x1x2x64_S1x128

end Text

open Cert.Attn
open scoped BigOperators

/-- The largest of three reals is a real. -/
theorem top_real (a b d : ℝ) : max (max (a : EReal) b) d = ((max (max a b) d : ℝ) : EReal) := by
  have h : ∀ x y : ℝ, max (x : EReal) y = ((max x y : ℝ) : EReal) := fun x y => (EReal.coe_strictMono.monotone.map_max).symm
  rw [h, h]

/-- The weighted mean over the groups does not depend on the reference point. -/
theorem merge_real (E w1 w2 a o1 o2 m : ℝ) (hE : 0 < E) :
    (Real.exp (Real.log E - m) * (a / E) + Real.exp (w1 - m) * o1 + Real.exp (w2 - m) * o2)
      / (Real.exp (Real.log E - m) + Real.exp (w1 - m) + Real.exp (w2 - m))
      = (a + Real.exp w1 * o1 + Real.exp w2 * o2) / (E + Real.exp w1 + Real.exp w2) := by
  rw [Real.exp_sub, Real.exp_sub, Real.exp_sub, Real.exp_log hE]
  have h1 := Real.exp_pos w1
  have h2 := Real.exp_pos w2
  have h3 := Real.exp_pos m
  have h4 : E + Real.exp w1 + Real.exp w2 ≠ 0 := by positivity
  have h5 : E / Real.exp m + Real.exp w1 / Real.exp m + Real.exp w2 / Real.exp m ≠ 0 := by positivity
  rw [div_eq_div_iff h5 h4]
  field_simp

/-- The log of the sum likewise. -/
theorem lse_merge (E w1 w2 m : ℝ) (hE : 0 < E) :
    m + Real.log (Real.exp (Real.log E - m) + Real.exp (w1 - m) + Real.exp (w2 - m)) = Real.log (E + Real.exp w1 + Real.exp w2) := by
  have h1 := Real.exp_pos w1
  have h2 := Real.exp_pos w2
  have h3 := Real.exp_pos m
  have h4 : 0 < E + Real.exp w1 + Real.exp w2 := by positivity
  rw [Real.exp_sub, Real.exp_sub, Real.exp_sub, Real.exp_log hE, ← add_div, ← add_div, Real.log_div h4.ne' h3.ne', Real.log_exp]
  ring

theorem cast_rows (Z : FVec Ideal S8192x8 .f32) (i : S8192x512.Idx) :
    shapeCast S8192x512 (broadcastInDim S8192x8x64 ![0, 1] bcast_S8192x8_S8192x8x64_0_1 Z) shapeCasts_S8192x8x64_S8192x512 i
      = Z (ix2 (i 0) ⟨(i 1).val / 64, by have : (i 1).val < 512 := (i 1).isLt; omega⟩) := by
  pointwise

theorem cast_lanes (Z : FVec Ideal S8192x8x64 .f32) (i : S8192x512.Idx) :
    shapeCast S8192x512 Z shapeCasts_S8192x8x64_S8192x512 i
      = Z (ix3 (i 0) ⟨(i 1).val / 64, by have : (i 1).val < 512 := (i 1).isLt; omega⟩ ⟨(i 1).val % 64, by omega⟩) := by
  pointwise

theorem _root_.Cert.Attn.Data.own_div (D : Data) (n h y d : ℕ) :
    D.own n h y d = (∑ z : Fin 256, D.ev n h y z * ext D.v (128 * n + z) h d) / D.sumE n h y := by
  unfold Data.own
  rw [Finset.sum_div]
  exact Finset.sum_congr rfl fun z _ => by ring

section Values

variable {L l1 l2 : FVec Ideal S8192x8 .f32} {A o1 o2 : FVec Ideal S8192x8x64 .f32} {D : Data}
  (hL : ∀ i : S8192x8.Idx, L i = ((Real.log (D.sumE ((i 0).val / 128) (i 1).val ((i 0).val % 128)) : ℝ) : EReal))
  (h1 : ∀ i : S8192x8.Idx, l1 i = ((D.l1 (i 0).val (i 1).val : ℝ) : EReal))
  (h2 : ∀ i : S8192x8.Idx, l2 i = ((D.l2 (i 0).val (i 1).val : ℝ) : EReal))
include hL h1 h2

theorem top_at : ∃ M : ℕ → ℕ → ℝ, ∀ i, top L l1 l2 i = ((M (i 0).val (i 1).val : ℝ) : EReal) := by
  refine ⟨fun s h => max (max (Real.log (D.sumE (s / 128) h (s % 128))) (D.l1 s h)) (D.l2 s h), fun i => ?_⟩
  rw [← top_real, ← hL i, ← h1 i, ← h2 i]
  rfl

theorem den_at {M : ℕ → ℕ → ℝ} (hM : ∀ i, top L l1 l2 i = ((M (i 0).val (i 1).val : ℝ) : EReal)) (i : S8192x8.Idx) :
    den L l1 l2 i = ((Real.exp (Real.log (D.sumE ((i 0).val / 128) (i 1).val ((i 0).val % 128)) - M (i 0).val (i 1).val)
      + Real.exp (D.l1 (i 0).val (i 1).val - M (i 0).val (i 1).val) + Real.exp (D.l2 (i 0).val (i 1).val - M (i 0).val (i 1).val) : ℝ) : EReal) := by
  show Ideal.exp (L i - top L l1 l2 i) + Ideal.exp (l1 i - top L l1 l2 i) + Ideal.exp (l2 i - top L l1 l2 i) = _
  rw [hL, h1, h2, hM, ← EReal.coe_sub, ← EReal.coe_sub, ← EReal.coe_sub, exp_coe, exp_coe, exp_coe, ← EReal.coe_add, ← EReal.coe_add]

/-- The merged log-sum. -/
theorem lseH_at (i : S8192x512.Idx) : lseH L l1 l2 i =
    ((Real.log (D.tot ((i 0).val / 128) ((i 1).val / 64) ((i 0).val % 128)) : ℝ) : EReal) := by
  obtain ⟨M, hM⟩ := top_at hL h1 h2
  have key : ∀ j : S8192x8.Idx, addf (top L l1 l2) (Host.log (den L l1 l2)) j =
      ((Real.log (D.tot ((j 0).val / 128) (j 1).val ((j 0).val % 128)) : ℝ) : EReal) := fun j => by
    show top L l1 l2 j + Ideal.log (den L l1 l2 j) = _
    rw [hM, den_at hL h1 h2 hM, log_coe _ (by positivity), ← EReal.coe_add, lse_merge _ _ _ _ (D.sumE_pos _ _ _ (Nat.mod_lt _ (by norm_num)))]
    unfold Data.tot
    rw [Nat.div_add_mod]
  exact (cast_rows _ i).trans (key _)

/-- The merged output. -/
theorem outH_at (hA : ∀ i : S8192x8x64.Idx, A i = ((D.own ((i 0).val / 128) (i 1).val ((i 0).val % 128) (i 2).val : ℝ) : EReal))
    (ho1 : ∀ i : S8192x8x64.Idx, o1 i = ((D.o1 (i 0).val (i 1).val (i 2).val : ℝ) : EReal))
    (ho2 : ∀ i : S8192x8x64.Idx, o2 i = ((D.o2 (i 0).val (i 1).val (i 2).val : ℝ) : EReal)) (i : S8192x512.Idx) :
    outH L l1 l2 A o1 o2 i = ((D.out ((i 0).val / 128) ((i 1).val / 64) ((i 0).val % 128) ((i 1).val % 64) : ℝ) : EReal) := by
  obtain ⟨M, hM⟩ := top_at hL h1 h2
  have hl : ∀ (x : FVec Ideal S8192x8 .f32) (j : S8192x8x64.Idx), lanes x j = x (ix2 (j 0) (j 1)) := fun x j => by
    unfold lanes
    pointwise
  have key : ∀ j : S8192x8x64.Idx, Host.divf (addf (addf (mulf (lanes (Host.exp (subf L (top L l1 l2)))) A)
    (mulf (lanes (Host.exp (subf l1 (top L l1 l2)))) o1)) (mulf (lanes (Host.exp (subf l2 (top L l1 l2)))) o2)) (lanes (den L l1 l2)) j =
      ((D.out ((j 0).val / 128) (j 1).val ((j 0).val % 128) (j 2).val : ℝ) : EReal) := fun j => by
    show Ideal.div (lanes (Host.exp (subf L (top L l1 l2))) j * A j + lanes (Host.exp (subf l1 (top L l1 l2))) j * o1 j
      + lanes (Host.exp (subf l2 (top L l1 l2))) j * o2 j) (lanes (den L l1 l2) j) = _
    rw [hl, hl, hl, hl, den_at hL h1 h2 hM, hA, ho1, ho2]
    show Ideal.div (Ideal.exp (L (ix2 (j 0) (j 1)) - top L l1 l2 (ix2 (j 0) (j 1))) * _ + Ideal.exp (l1 (ix2 (j 0) (j 1)) - top L l1 l2 (ix2 (j 0) (j 1))) * _
      + Ideal.exp (l2 (ix2 (j 0) (j 1)) - top L l1 l2 (ix2 (j 0) (j 1))) * _) _ = _
    rw [hL, h1, h2, hM, ← EReal.coe_sub, ← EReal.coe_sub, ← EReal.coe_sub, exp_coe, exp_coe, exp_coe, ← EReal.coe_mul, ← EReal.coe_mul,
      ← EReal.coe_mul, ← EReal.coe_add, ← EReal.coe_add, div_coe _ _ (by positivity)]
    simp only [ix2_0, ix2_1]
    refine congrArg _ ?_
    rw [D.own_div, merge_real _ _ _ _ _ _ _ (D.sumE_pos _ _ _ (Nat.mod_lt _ (by norm_num)))]
    unfold Data.out Data.tot
    rw [Nat.div_add_mod]
  exact (cast_lanes _ i).trans (key _)

end Values

/-- The band's word. -/
theorem bandH_at (i : S128x256.Idx) : bandH i = BitVec.ofBool (decide ((i 1).val ≤ (i 0).val + 128 ∧ (i 0).val ≤ (i 1).val)) := by
  unfold bandH
  pointwise
  exact band_word _ _ (i 0).isLt (i 1).isLt

open Classical in
theorem biasH_at {x2 : FVec Ideal S8x128x256 .f32} {D : Data}
    (h : ∀ i : S8x128x256.Idx, x2 i = ((D.tab (i 0).val (i 1).val (i 2).val : ℝ) : EReal)) (i : S8x128x256.Idx) :
    biasH x2 i = if RTile.band (i 1).val (i 2).val then ((D.tab (i 0).val (i 1).val (i 2).val : ℝ) : EReal) else ⊥ := by
  rw [← h i, ← word_bot]
  refine Eq.trans ?_ ((select_word (((i 2).val ≤ (i 1).val + 128 ∧ (i 1).val ≤ (i 2).val)) _ _).trans (if_congr Iff.rfl rfl rfl))
  unfold biasH
  have e : ∀ z : IVec S128x256 1, broadcastInDim S8x128x256 ![0, 1, 2] bcast_S1x128x256_S8x128x256_0_1_2
    (broadcastInDim S1x128x256 ![1, 2] bcast_S128x256_S1x128x256_1_2 z) i = z (ix2 (i 1) (i 2)) := fun z => by
    pointwise
  show Scalar.select (broadcastInDim S8x128x256 ![0, 1, 2] bcast_S1x128x256_S8x128x256_0_1_2
    (broadcastInDim S1x128x256 ![1, 2] bcast_S128x256_S1x128x256_1_2 bandH) i) _ _ = _
  rw [e, bandH_at]
  rfl

theorem gainH_at {x : FVec Ideal S1x64 .f32} {f : ℕ → ℝ} (h : ∀ i : S1x64.Idx, x i = ((f (i 1).val : ℝ) : EReal)) (i : S1x128.Idx) :
    gainH x i = ((f ((i 1).val % 64) : ℝ) : EReal) := by
  unfold gainH
  pointwise
  exact h _

end Cert.KernelIdeal.Blk
end
-- ==== Proof.Host.lean ====
/-
  What the call is given by the kernel's host lines, from the arguments.
-/
module

public import proofs.«01_k».proof.Proof.HostText
public import proofs.«01_k».proof.Proof.Gen.KernelIdeal.Frame
public import Idealize.ShloMosaic.Lib.StableHlo.RunRead

@[expose] public section

set_option maxRecDepth 16384
set_option backward.isDefEq.respectTransparency false
set_option maxHeartbeats 2000000

noncomputable section

namespace Cert.KernelIdeal.Blk

open Idealize.ShloMosaic Idealize.ShloMosaic.TcCoe Idealize.SL.Sem Cert.KernelIdeal Cert.KernelIdeal.Gen

section Text

variable {F : FTy → Type} [FloatOps F]
variable [Named F] (m : (ℓ : Loc nD τ sig) → Buf (Elt F) ℓ) (c : Dev nD)

theorem V122 : V m c main_v122 = outH (F := F)
    (Cert.ReferenceIdeal.Read.val_main_v113 (F := F) (m ((c : Thread nD τ).loc main_arg0)) (m ((c : Thread nD τ).loc main_arg2)) (m ((c : Thread nD τ).loc main_arg3)) (m ((c : Thread nD τ).loc main_arg4)))
    (m ((c : Thread nD τ).loc main_arg6)) (m ((c : Thread nD τ).loc main_arg8))
    (Cert.ReferenceIdeal.Read.val_main_v111 (F := F) (m ((c : Thread nD τ).loc main_arg0)) (m ((c : Thread nD τ).loc main_arg2)) (m ((c : Thread nD τ).loc main_arg3)) (m ((c : Thread nD τ).loc main_arg4)))
    (m ((c : Thread nD τ).loc main_arg5)) (m ((c : Thread nD τ).loc main_arg7)) := by
  after_reads_simp
  rfl

theorem V126 : V m c main_v126 = lseH (F := F)
    (Cert.ReferenceIdeal.Read.val_main_v113 (F := F) (m ((c : Thread nD τ).loc main_arg0)) (m ((c : Thread nD τ).loc main_arg2)) (m ((c : Thread nD τ).loc main_arg3)) (m ((c : Thread nD τ).loc main_arg4)))
    (m ((c : Thread nD τ).loc main_arg6)) (m ((c : Thread nD τ).loc main_arg8)) := by
  after_reads_simp
  rfl

theorem V142 : V m c main_v142 = biasH (F := F) (m ((c : Thread nD τ).loc main_arg2)) := by
  after_reads_simp
  rfl

theorem V145 : V m c main_v145 = gainH (F := F) (m ((c : Thread nD τ).loc main_arg3)) := by
  after_reads_simp
  rfl

theorem V148 : V m c main_v148 = gainH (F := F) (m ((c : Thread nD τ).loc main_arg4)) := by
  after_reads_simp
  rfl

theorem Vin0 : V m c main_arg0 = m ((c : Thread nD τ).loc main_arg0) := by
  after_reads_simp

theorem Vin1 : V m c main_arg1 = m ((c : Thread nD τ).loc main_arg1) := by
  after_reads_simp

end Text

end Cert.KernelIdeal.Blk
end
-- ==== Proof.Result.lean ====
/-
  The two programs' results over the reals, when their arguments hold real data.
-/
module

public import proofs.«01_k».proof.Proof.Input
public import proofs.«01_k».proof.Proof.Host
public import proofs.«01_k».proof.Proof.RefNorm
public import proofs.«01_k».proof.Proof.Gen.ReferenceIdeal.Run
public import proofs.«01_k».proof.Proof.Gen.KernelIdeal.Value

@[expose] public section

set_option maxRecDepth 16384
set_option backward.isDefEq.respectTransparency false
set_option maxHeartbeats 1000000

noncomputable section

namespace Cert.KernelIdeal.Blk

open Idealize.ShloMosaic Idealize.ShloMosaic.TcCoe Idealize.SL.Sem Cert.KernelIdeal Cert.KernelIdeal.Gen Cert.Attn
open Cert.ReferenceIdeal.Ref (Holds lse_at own_at exists_rowmax)

variable {m : (ℓ : Loc nD τ sig) → Buf (Elt Ideal) ℓ} {c : Dev nD} {D : Data}

/-- The kernel's arguments hold the data. -/
abbrev KHolds (D : Data) (m : (ℓ : Loc nD τ sig) → Buf (Elt Ideal) ℓ) (c : Dev nD) : Prop :=
  Holds D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The host's lines give the call the real data. -/
theorem given_of (H : KHolds D m c) : Given m c D := by
  obtain ⟨M, hM⟩ := exists_rowmax H
  exact
    { qkv := fun i => (congrFun (Vin0 m c) i).trans (H.qkv i)
      ct := fun i => (congrFun (Vin1 m c) i).trans (H.ct i)
      o := fun i => (congrFun (V122 m c) i).trans (outH_at (lse_at H hM) H.l1 H.l2 (own_at H hM) H.o1 H.o2 i)
      l := fun i => (congrFun (V126 m c) i).trans (lseH_at (lse_at H hM) H.l1 H.l2 i)
      bias := fun i => (congrFun (V142 m c) i).trans (biasH_at H.tab i)
      qg := fun i => (congrFun (V145 m c) i).trans (gainH_at H.qg i)
      kg := fun i => (congrFun (V148 m c) i).trans (gainH_at H.kg i) }

variable (H : KHolds D m c)
include H

theorem out_dq (i : S8192x1536.Idx) (h : (i 1).val < 512) : (dats m 0 c).arrAt 15 cfg0.N i =
    ((D.dq ((i 0).val / 128) ((i 1).val / 64) ((i 0).val % 128) ((i 1).val % 64) : ℝ) : EReal) :=
  (congrFun (array15 (allR (given_of H))) i).trans ((if_pos h).trans (congrArg _ (spread_dq D _ _ (i 0).isLt)))

theorem out_dk (i : S8192x1536.Idx) (h : (i 1).val < 512) : (dats m 0 c).arrAt 16 cfg0.N i =
    ((D.dk ((i 0).val / 128) ((i 1).val / 64) ((i 0).val % 128) ((i 1).val % 64) : ℝ) : EReal) :=
  (congrFun (array16 (allR (given_of H))) i).trans ((if_pos h).trans (congrArg _ (spread_dk D _ _ (i 0).isLt)))

theorem out_dv (i : S8192x1536.Idx) (h : (i 1).val < 512) : (dats m 0 c).arrAt 17 cfg0.N i =
    ((D.dv ((i 0).val / 128) ((i 1).val / 64) ((i 0).val % 128) ((i 1).val % 64) : ℝ) : EReal) :=
  (congrFun (array17 (allR (given_of H))) i).trans ((if_pos h).trans (congrArg _ (spread_dv D _ _ (i 0).isLt)))

theorem out_dtab (i : S8x128x256.Idx) : (dats m 0 c).arrAt 18 cfg0.N i = ((D.dtab (i 0).val (i 1).val (i 2).val : ℝ) : EReal) :=
  (congrFun (array18 (allR (given_of H))) i).trans (congrArg _ (dsSum_at D _ _ _ (i 2).isLt))

theorem out_dqg (i : S1x64.Idx) : (dats m 0 c).arrAt 19 cfg0.N i = ((D.dqg (i 1).val : ℝ) : EReal) :=
  (congrFun (array19 (allR (given_of H))) i).trans (congrArg _ (dqgSum_at D _ (i 1).isLt))

theorem out_dkg (i : S1x64.Idx) : (dats m 0 c).arrAt 20 cfg0.N i = ((D.dkg (i 1).val : ℝ) : EReal) :=
  (congrFun (array20 (allR (given_of H))) i).trans (congrArg _ (dkgSum_at D _ (i 1).isLt))

end Cert.KernelIdeal.Blk
end
-- ==== Proof.RefRun.lean ====
/-
  The reference's run: its six results hold the real gradients.
-/
module

public import proofs.«01_k».proof.Proof.RefNorm
public import proofs.«01_k».proof.Proof.Gen.ReferenceIdeal.Run
public import Idealize.ShloMosaic.Lib.Claim

@[expose] public section

set_option maxRecDepth 16384
set_option backward.isDefEq.respectTransparency false

noncomputable section

namespace Cert.ReferenceIdeal.Ref

open Idealize.ShloMosaic Idealize.ShloMosaic.TcCoe Idealize.SL.Sem Idealize.ShloMosaic.StableHlo
open Cert.ReferenceIdeal Cert.ReferenceIdeal.Gen Cert.ReferenceIdeal.Read Cert.Attn

variable (m : (ℓ : Loc nD τ sig) → Buf (Elt Ideal) ℓ) (ρ : Dev nD → PrngReg)

/-- Every run of the reference ends with its results at the stages that were read, and its arguments unchanged. -/
theorem run_stages : θ_run defs (onTc (τ := τ) (main (F := Ideal))) ⟨m, fun _ => 0, ρ⟩ fun r => ∀ c : Dev nD,
      r.2.mem ((c.tc : Thread nD τ).loc main_v291) = val_main_v291 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v294) = val_main_v294 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v297) = val_main_v297 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg8))
      ∧ r.2.mem ((c.tc : Thread nD τ).loc main_v225) = val_main_v225 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v274) = val_main_v274 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v251) = val_main_v251 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (val_main_v291_eq (launchContents m c)),
    (h c).2.1.trans (val_main_v294_eq (launchContents m c)),
    (h c).2.2.1.trans (val_main_v297_eq (launchContents m c)),
    (h c).2.2.2.1.trans (val_main_v225_eq (launchContents m c)),
    (h c).2.2.2.2.1.trans (val_main_v274_eq (launchContents m c)),
    (h c).2.2.2.2.2.1.trans (val_main_v251_eq (launchContents m c)),
    (h c).2.2.2.2.2.2⟩)
    (Cert.ReferenceIdeal.Value.run m ρ)

end Cert.ReferenceIdeal.Ref
end
-- ==== Proof.Value.lean ====
/-
  The claims about the ideal kernel and the reference: their frames; the
  ideal kernel is the kernel with its mask's −1e30 named −∞; and, on finite arguments, the kernel's six gradients are the
  derivative of the forward lines (of the three wide arrays, the columns of group 0).
-/
module

public import proofs.«01_k».proof.Defs
public import proofs.«01_k».proof.Proof.Finite
public import proofs.«01_k».proof.Proof.Result
public import proofs.«01_k».proof.Proof.RefRun
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.On_claimed
public import proofs.«01_k».proof.Proof.Gen.Pre_finite
public import Idealize.ShloMosaic.Lib.Quiescent
public import Idealize.ShloMosaic.Adequacy
public import Idealize.ShloMosaic.Init

@[expose] public section

set_option maxRecDepth 16384
set_option backward.isDefEq.respectTransparency false

noncomputable section

namespace Cert.On_claimed

open Idealize.ShloMosaic Idealize.SL.Sem

/-- The word that the mask computes at column r. -/
private theorem mask_word : ∀ r < 1536, IntOp.andi (IntOp.cmpi .slt (BitVec.ofNat 32 r) 512#32) 1#1 = 1#1 → r < 512 := by
  decide +kernel

variable {x0 : FVec Ideal S8192x4608 .f32} {x1 : FVec Ideal S8192x512 .f32} {x2 : FVec Ideal S8x128x256 .f32}
  {x3 x4 : FVec Ideal S1x64 .f32} {x5 : FVec Ideal S8192x8x64 .f32} {x6 : FVec Ideal S8192x8 .f32}
  {x7 : FVec Ideal S8192x8x64 .f32} {x8 : FVec Ideal S8192x8 .f32}

/-- The mask of the gradient of q: a column below 512, one of group 0's. -/
theorem wide_q (i : S8192x1536.Idx) (e : (fn (F := Ideal) x0 x1 x2 x3 x4 x5 x6 x7 x8).1 i = 1#1) : (i 1).val < 512 :=
  mask_word _ (i 1).isLt e

/-- The same of the gradient of k. -/
theorem wide_k (i : S8192x1536.Idx) (e : (fn (F := Ideal) x0 x1 x2 x3 x4 x5 x6 x7 x8).2.1 i = 1#1) : (i 1).val < 512 :=
  mask_word _ (i 1).isLt e

/-- The same of the gradient of v. -/
theorem wide_v (i : S8192x1536.Idx) (e : (fn (F := Ideal) x0 x1 x2 x3 x4 x5 x6 x7 x8).2.2.1 i = 1#1) : (i 1).val < 512 :=
  mask_word _ (i 1).isLt e

end Cert.On_claimed

namespace Cert.Proof

open Idealize.ShloMosaic Idealize.ShloMosaic.TcCoe Idealize.SL.Sem
open Cert.KernelIdeal.Blk Cert.Attn

/-- A device's real data. -/
def data (m : (ℓ : Loc Cert.KernelIdeal.nD Cert.KernelIdeal.τ Cert.KernelIdeal.sig) → Buf (Elt Ideal) ℓ) (c : Dev Cert.KernelIdeal.nD) : Data :=
  Cert.ReferenceIdeal.Ref.dataOf (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8))

theorem kholds (m : (ℓ : Loc Cert.KernelIdeal.nD Cert.KernelIdeal.τ Cert.KernelIdeal.sig) → Buf (Elt Ideal) ℓ)
    (h : Cert.Pre_KernelIdeal_finite m) (c : Dev Cert.KernelIdeal.nD) : KHolds (data m c) m c :=
  Cert.ReferenceIdeal.Ref.holds_of _ _ _ _ _ _ _ _ _ fun j => congrFun (h c) j

variable {m : (ℓ : Loc Cert.KernelIdeal.nD Cert.KernelIdeal.τ Cert.KernelIdeal.sig) → Buf (Elt Ideal) ℓ} {c : Dev Cert.KernelIdeal.nD}

/-- The gradient of q: the reference's value is what the kernel's call returns. -/
theorem same_q (H : KHolds (data m c) m c) (i : (⟨2, ![8192, 1536]⟩ : Shape).Idx) (hi : (i 1).val < 512) :
    Cert.ReferenceIdeal.Read.val_main_v291 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) i
      = (Cert.KernelIdeal.Gen.dats m 0 c).arrAt 15 Cert.KernelIdeal.cfg0.N i := by
  obtain ⟨M, hM⟩ := Cert.ReferenceIdeal.Ref.exists_rowmax H
  obtain ⟨G, hG⟩ := Cert.ReferenceIdeal.Ref.exists_groupmax H hM
  exact (Cert.ReferenceIdeal.Ref.dq_wide H hM hG i hi).trans (out_dq H i hi).symm

/-- The gradient of k: the reference's value is what the kernel's call returns. -/
theorem same_k (H : KHolds (data m c) m c) (i : (⟨2, ![8192, 1536]⟩ : Shape).Idx) (hi : (i 1).val < 512) :
    Cert.ReferenceIdeal.Read.val_main_v294 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) i
      = (Cert.KernelIdeal.Gen.dats m 0 c).arrAt 16 Cert.KernelIdeal.cfg0.N i := by
  obtain ⟨M, hM⟩ := Cert.ReferenceIdeal.Ref.exists_rowmax H
  obtain ⟨G, hG⟩ := Cert.ReferenceIdeal.Ref.exists_groupmax H hM
  exact (Cert.ReferenceIdeal.Ref.dk_wide H hM hG i hi).trans (out_dk H i hi).symm

/-- The gradient of v: the reference's value is what the kernel's call returns. -/
theorem same_v (H : KHolds (data m c) m c) (i : (⟨2, ![8192, 1536]⟩ : Shape).Idx) (hi : (i 1).val < 512) :
    Cert.ReferenceIdeal.Read.val_main_v297 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg6)) (m ((c : Thread Cert.KernelIdeal.nD Cert.KernelIdeal.τ).loc Cert.KernelIdeal.main_arg8)) i
      = (Cert.KernelIdeal.Gen.dats m 0 c).arrAt 17 Cert.KernelIdeal.cfg0.N i := by
  obtain ⟨M, hM⟩ := Cert.ReferenceIdeal.Ref.exists_rowmax H
  obtain ⟨G, hG⟩ := Cert.ReferenceIdeal.Ref.exists_groupmax H hM
  exact (Cert.ReferenceIdeal.Ref.dv_wide H hM hG i hi).trans (out_dv H i hi).symm

/-- The gradient of the bias table: the reference's value is what the kernel's call returns. -/
theorem same_tab (H : KHolds (data m c) m c) (i : (⟨3, ![8, 128, 256]⟩ : Shape).Idx) :
    Cert.ReferenceIdeal.Read.val_main_v225 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) i
      = (Cert.KernelIdeal.Gen.dats m 0 c).arrAt 18 Cert.KernelIdeal.cfg0.N i := by
  obtain ⟨M, hM⟩ := Cert.ReferenceIdeal.Ref.exists_rowmax H
  obtain ⟨G, hG⟩ := Cert.ReferenceIdeal.Ref.exists_groupmax H hM
  exact (Cert.ReferenceIdeal.Ref.dtab_at H hM hG i).trans (out_dtab H i).symm

/-- The gradient of q's gain: the reference's value is what the kernel's call returns. -/
theorem same_qg (H : KHolds (data m c) m c) (i : (⟨2, ![1, 64]⟩ : Shape).Idx) :
    Cert.ReferenceIdeal.Read.val_main_v274 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) i
      = (Cert.KernelIdeal.Gen.dats m 0 c).arrAt 19 Cert.KernelIdeal.cfg0.N i := by
  obtain ⟨M, hM⟩ := Cert.ReferenceIdeal.Ref.exists_rowmax H
  obtain ⟨G, hG⟩ := Cert.ReferenceIdeal.Ref.exists_groupmax H hM
  exact (Cert.ReferenceIdeal.Ref.dqg_at H hM hG i).trans (out_dqg H i).symm

/-- The gradient of k's gain: the reference's value is what the kernel's call returns. -/
theorem same_kg (H : KHolds (data m c) m c) (i : (⟨2, ![1, 64]⟩ : Shape).Idx) :
    Cert.ReferenceIdeal.Read.val_main_v251 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) i
      = (Cert.KernelIdeal.Gen.dats m 0 c).arrAt 20 Cert.KernelIdeal.cfg0.N i := by
  obtain ⟨M, hM⟩ := Cert.ReferenceIdeal.Ref.exists_rowmax H
  obtain ⟨G, hG⟩ := Cert.ReferenceIdeal.Ref.exists_groupmax H hM
  exact (Cert.ReferenceIdeal.Ref.dkg_at H hM hG i).trans (out_dkg H i).symm

/-- The value claim: the kernel's gradients are the reference's. -/
theorem algebraic : Cert.algebraic_KernelIdeal_ReferenceIdeal_on_claimed_pre_finite := by
  intro m ρ m' ρ' hp hag
  refine ⟨fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N, fun c => (Cert.KernelIdeal.Gen.dats m 0 c).arrAt 20 Cert.KernelIdeal.cfg0.N, ?_, ?_⟩
  · refine (θ_run _ _ _).mono (fun r h c => ?_) (Cert.KernelIdeal.Value.run_blocks m ρ)
    obtain ⟨h0, h1, h2, h3, h4, h5, hk⟩ := h c
    exact ⟨fun i _ => congrFun h0 i, fun i _ => congrFun h1 i, fun i _ => congrFun h2 i, fun i _ => congrFun h3 i,
      fun i _ => congrFun h4 i, fun i _ => congrFun h5 i, hk⟩
  · refine (θ_run _ _ _).mono (fun r h c => ?_) (Cert.ReferenceIdeal.Ref.run_stages m' ρ')
    obtain ⟨h0, h1, h2, h3, h4, h5, hk⟩ := h c
    have H := kholds m hp c
    obtain ⟨a0, a1, a2, a3, a4, a5, a6, a7, a8⟩ := hag c
    rw [a0, a1, a2, a3, a4, a5, a6, a7, a8] at h0 h1 h3 h4 h5
    rw [a0, a1, a2, a3, a4, a6, a8] at h2
    refine ⟨fun i hi => ?_, fun i hi => ?_, fun i hi => ?_, fun i _ => ?_, fun i _ => ?_, fun i _ => ?_, hk⟩
    · exact (congrFun h0 i).trans (same_q H i (Cert.On_claimed.wide_q i hi))
    · exact (congrFun h1 i).trans (same_k H i (Cert.On_claimed.wide_k i hi))
    · exact (congrFun h2 i).trans (same_v H i (Cert.On_claimed.wide_v i hi))
    · exact (congrFun h3 i).trans (same_tab H i)
    · exact (congrFun h4 i).trans (same_qg H i)
    · exact (congrFun h5 i).trans (same_kg H i)

theorem frame_ideal : Cert.quiescent_KernelIdeal := fun m ρ _ => Cert.KernelIdeal.Gen.frame m ρ

theorem frame_ideal_pre : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Ref.run_stages m ρ)

theorem frame_reference_pre : Cert.quiescent_ReferenceIdeal_pre_finite := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Ref.run_stages m ρ)

/-- The mask's word stands for −∞. -/
theorem preserves : Cert.preserves_Kernel_KernelIdeal :=
  IdealRules.named_const.statement Cert.KernelIdeal.κ "mask" .f32 0xF149F2CA#32 ⊥ rfl

end Cert.Proof

end
-- ==== Proof.FfnSpec.lean ====
/-
  The gradients of SwiGLU's gate and up branches over the real numbers: the output's gradient goes back through the residual
  gain and the output projection, and from there through the gate.
-/
module

public import proofs.«01_k».proof.Proof.Kit

@[expose] public section

set_option maxRecDepth 16384
set_option backward.isDefEq.respectTransparency false

noncomputable section

namespace Cert.Ffn

open Idealize.ShloMosaic Cert.Attn
open scoped BigOperators

/-- The call's arguments over the reals, zero outside the arrays. -/
structure Data where
  dy : ℕ → ℕ → ℝ
  w : ℕ → ℕ → ℝ
  g : ℕ → ℝ
  gate : ℕ → ℕ → ℝ
  up : ℕ → ℕ → ℝ

/-- The logistic function. -/
def logi (x : ℝ) : ℝ := 1 / (1 + Real.exp (-x))

namespace Data
variable (D : Data)

/-- The gradient of the gated activations: the scaled gradient of the output times the projection's rows. -/
def dact (r f : ℕ) : ℝ := ∑ k : Fin 1024, D.dy r k * D.g k * D.w f k

/-- The gradient of the gate branch. -/
def dgate (r f : ℕ) : ℝ :=
  D.dact r f * D.up r f * (logi (D.gate r f) * (1 + D.gate r f * (1 - logi (D.gate r f))))

/-- The gradient of the up branch. -/
def dup (r f : ℕ) : ℝ := D.dact r f * (D.gate r f * logi (D.gate r f))

end Data

theorem den_ne (x : ℝ) : (1 + Real.exp (-x) : ℝ) ≠ 0 := by positivity

/-- The logistic function of the extended reals, at a real number. -/
theorem sig_coe (x : ℝ) : Ideal.div 1 (1 + Ideal.exp ((-x : ℝ) : EReal)) = ((logi x : ℝ) : EReal) := by
  rw [exp_coe, ← EReal.coe_one, ← EReal.coe_add, div_coe _ _ (den_ne x)]
  rfl

end Cert.Ffn
end
-- ==== Proof.FfnTile.lean ====
/-
  What the call's body computes at one grid step, over real blocks.
-/
module

public import proofs.«01_k».proof.Proof.FfnSpec
public import proofs.«01_k».proof.Proof.Gen.Kernel2Ideal.Frame
public import Idealize.ShloMosaic.Lib.Pointwise
public import Idealize.ShloMosaic.Lib.Pipeline.Value
public import Idealize.ShloMosaic.Lib.Pipeline.ValueKit

@[expose] public section

set_option maxRecDepth 16384
set_option backward.isDefEq.respectTransparency false

noncomputable section

namespace Cert.Ffn

open Idealize.ShloMosaic Idealize.SL.Sem Cert.Kernel2Ideal Cert.Kernel2Ideal.Gen Cert.Attn
open scoped BigOperators

/-- A block of blocks' real numbers: row and column. -/
abbrev Holds {s : Shape} (x : s.Idx → EReal) (f : s.Idx → ℝ) : Prop := ∀ i, x i = ((f i : ℝ) : EReal)

variable {x0 : Vec Ideal S1024x1024 .f32} {x1 : Vec Ideal S1408x1024 .bf16} {x2 : Vec Ideal S1x1024 .f32}
  {x3 x4 : Vec Ideal S1024x1408 .bf16} {D : Data}
variable (h0 : Holds x0 fun i => D.dy (i 0).val (i 1).val) (h1 : Holds x1 fun i => D.w (i 0).val (i 1).val)
  (h2 : Holds x2 fun i => D.g (i 1).val) (h3 : Holds x3 fun i => D.gate (i 0).val (i 1).val)
  (h4 : Holds x4 fun i => D.up (i 0).val (i 1).val)

include h0 h1 h2 in
/-- The product with the projection's rows. -/
theorem dact_at : Holds (k0_pay1 (F := Ideal) x0 x2 x1) fun i => D.dact (i 0).val (i 1).val := fun y => by
  pointwise [k0_pay1]
  refine sum_coe _ _ fun k => ?_
  rw [h0, h1, h2, ← EReal.coe_mul, ← EReal.coe_mul]
  rfl

include h3 in
/-- The gate's logistic function. -/
theorem sig_at : Holds (k0_pay3 (F := Ideal) x3) fun i => logi (D.gate (i 0).val (i 1).val) := fun y => by
  pointwise [k0_pay3, k0_pay2]
  rw [h3, zero_sub, ← EReal.coe_neg, sig_coe]

include h0 h1 h2 h3 h4 in
/-- The block of the gate's gradient. -/
theorem gate_at : Holds (k0_pay4 (F := Ideal) x0 x2 x1 x3 x4) fun i => D.dgate (i 0).val (i 1).val := fun y => by
  pointwise [k0_pay4, k0_pay2]
  rw [dact_at h0 h1 h2, sig_at h3, h3, h4, ← EReal.coe_one, ← EReal.coe_sub, ← EReal.coe_mul, ← EReal.coe_mul, ← EReal.coe_add,
    ← EReal.coe_mul, ← EReal.coe_mul]
  rfl

include h0 h1 h2 h3 in
/-- The block of the up branch's gradient. -/
theorem up_at : Holds (k0_pay5 (F := Ideal) x0 x2 x1 x3) fun i => D.dup (i 0).val (i 1).val := fun y => by
  pointwise [k0_pay5, k0_pay2]
  rw [dact_at h0 h1 h2, sig_at h3, h3, ← EReal.coe_mul, ← EReal.coe_mul]
  rfl

/-- The first output window's buffer is the payload of the blocks. -/
theorem out5_eq (x0 : Vec Ideal S1024x1024 .f32) (x1 : Vec Ideal S1408x1024 .bf16) (x2 : Vec Ideal S1x1024 .f32)
    (x3 x4 : Vec Ideal S1024x1408 .bf16) : out0_5 x0 x1 x2 x3 x4 = k0_pay4 x0 x2 x1 x3 x4 := by
  frame_out

/-- The second's likewise. -/
theorem out6_eq (x0 : Vec Ideal S1024x1024 .f32) (x1 : Vec Ideal S1408x1024 .bf16) (x2 : Vec Ideal S1x1024 .f32)
    (x3 x4 : Vec Ideal S1024x1408 .bf16) : out0_6 x0 x1 x2 x3 x4 = k0_pay5 x0 x2 x1 x3 := by
  frame_out

end Cert.Ffn
end
-- ==== Proof.FfnArrays.lean ====
/-
  The arrays after the run, when the arguments hold real data: every entry is the real gradient there.
-/
module

public import proofs.«01_k».proof.Proof.FfnTile
public import proofs.«01_k».proof.Proof.Gen.Kernel2Ideal.Value
public import Idealize.ShloMosaic.Lib.Pipeline.ValueKit.Partial

@[expose] public section

set_option maxRecDepth 16384
set_option backward.isDefEq.respectTransparency false

noncomputable section

namespace Cert.Ffn

open Idealize.ShloMosaic Idealize.ShloMosaic.TcCoe Idealize.SL.Sem Cert.Kernel2Ideal Cert.Kernel2Ideal.Gen Cert.Attn
open scoped BigOperators

/-- The data of the tile at row block a and column block b. -/
def Data.tile (D : Data) (a b : ℕ) : Data where
  dy r k := D.dy (a * 1024 + r) k
  w f k := D.w (b * 1408 + f) k
  g := D.g
  gate r f := D.gate (a * 1024 + r) (b * 1408 + f)
  up r f := D.up (a * 1024 + r) (b * 1408 + f)

variable (m : (ℓ : Loc nD τ sig) → Buf (Elt Ideal) ℓ) (c : Dev nD) (D : Data)

/-- The arguments hold the real data. -/
structure Given : Prop where
  dy : ∀ i : S8192x1024.Idx, m ((c : Thread nD τ).loc main_arg0) i = ((D.dy (i 0).val (i 1).val : ℝ) : EReal)
  w : ∀ i : S2816x1024.Idx, m ((c : Thread nD τ).loc main_arg1) i = ((D.w (i 0).val (i 1).val : ℝ) : EReal)
  g : ∀ i : S1x1024.Idx, m ((c : Thread nD τ).loc main_arg2) i = ((D.g (i 1).val : ℝ) : EReal)
  gate : ∀ i : S8192x2816.Idx, m ((c : Thread nD τ).loc main_arg3) i = ((D.gate (i 0).val (i 1).val : ℝ) : EReal)
  up : ∀ i : S8192x2816.Idx, m ((c : Thread nD τ).loc main_arg4) i = ((D.up (i 0).val (i 1).val : ℝ) : EReal)

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val / 2, t.val % 2] := (by decide +kernel : ∀ t : Fin grid0.N, _)
theorem index4 : ∀ t : Fin cfg0.N, win0_4.index t = ![t.val / 2, t.val % 2] := (by decide +kernel : ∀ t : Fin grid0.N, _)
theorem index5 : ∀ t : Fin cfg0.N, win0_5.index t = ![t.val / 2, t.val % 2] := (by decide +kernel : ∀ t : Fin grid0.N, _)
theorem index6 : ∀ t : Fin cfg0.N, win0_6.index t = ![t.val / 2, t.val % 2] := (by decide +kernel : ∀ t : Fin grid0.N, _)

/-- A window's block reads what its array holds. -/
theorem read_blk (w : Fin cfg0.W) (t : Fin cfg0.N) (f : Buf (Elt Ideal) ((c : Thread nD τ).loc (Pipeline.arrRef spec0 w)))
    (h : V m c (Pipeline.arrRef spec0 w) = f) (x : ((cfg0.win w).xblock (cfg0.grid.coords t)).Idx) :
    iblk m c w t x = ((cfg0.win w).blk t).view.read (Elt Ideal) f x := by
  subst h
  rfl

variable {m c D} (A : Given m c D)
include A

theorem blk0 (t : Fin cfg0.N) : Holds (s := S1024x1024) (iblk m c 0 t) fun x => (D.tile (t.val / 2) (t.val % 2)).dy (x 0).val (x 1).val := fun x => by
  refine (read_blk m c 0 t (fun i : S8192x1024.Idx => ((D.dy (i 0).val (i 1).val : ℝ) : EReal)) (funext A.dy) x).trans
    (congrArg₂ (fun r k : ℕ => ((D.dy r k : ℝ) : EReal)) ?_ ?_) <;> blk_simp [index0 t]

theorem blk1 (t : Fin cfg0.N) : Holds (s := S1408x1024) (iblk m c 1 t) fun x => (D.tile (t.val / 2) (t.val % 2)).w (x 0).val (x 1).val := fun x => by
  refine (read_blk m c 1 t (fun i : S2816x1024.Idx => ((D.w (i 0).val (i 1).val : ℝ) : EReal)) (funext A.w) x).trans
    (congrArg₂ (fun r k : ℕ => ((D.w r k : ℝ) : EReal)) ?_ ?_) <;> blk_simp [index1 t]

theorem blk2 (t : Fin cfg0.N) : Holds (s := S1x1024) (iblk m c 2 t) fun x => (D.tile (t.val / 2) (t.val % 2)).g (x 1).val := fun x => by
  refine (read_blk m c 2 t (fun i : S1x1024.Idx => ((D.g (i 1).val : ℝ) : EReal)) (funext A.g) x).trans
    (congrArg (fun k : ℕ => ((D.g k : ℝ) : EReal)) ?_)
  blk_simp [index2 t]

theorem blk3 (t : Fin cfg0.N) : Holds (s := S1024x1408) (iblk m c 3 t) fun x => (D.tile (t.val / 2) (t.val % 2)).gate (x 0).val (x 1).val := fun x => by
  refine (read_blk m c 3 t (fun i : S8192x2816.Idx => ((D.gate (i 0).val (i 1).val : ℝ) : EReal)) (funext A.gate) x).trans
    (congrArg₂ (fun r k : ℕ => ((D.gate r k : ℝ) : EReal)) ?_ ?_) <;> blk_simp [index3 t]

theorem blk4 (t : Fin cfg0.N) : Holds (s := S1024x1408) (iblk m c 4 t) fun x => (D.tile (t.val / 2) (t.val % 2)).up (x 0).val (x 1).val := fun x => by
  refine (read_blk m c 4 t (fun i : S8192x2816.Idx => ((D.up (i 0).val (i 1).val : ℝ) : EReal)) (funext A.up) x).trans
    (congrArg₂ (fun r k : ℕ => ((D.up r k : ℝ) : EReal)) ?_ ?_) <;> blk_simp [index4 t]

/-- The array of the gate's gradient. -/
theorem array_gate : (dats m 0 c).arrAt 5 cfg0.N = fun i : S8192x2816.Idx => ((D.dgate (i 0).val (i 1).val : ℝ) : EReal) := by
  refine (dats m 0 c).arrAt_eq_of_covers 5
    (fun i : S8192x2816.Idx => ((D.dgate (i 0).val (i 1).val : ℝ) : EReal)) (by decide +kernel) (fun t hf y => ?_)
  blk_simp
  rw [after0_5, out5_eq]
  refine (gate_at (D := D.tile (t.val / 2) (t.val % 2)) (blk0 A t) (blk1 A t) (blk2 A t) (blk3 A t) (blk4 A t) y).trans ?_
  blk_simp [index5 t]
  rfl

/-- The array of the up branch's gradient. -/
theorem array_up : (dats m 0 c).arrAt 6 cfg0.N = fun i : S8192x2816.Idx => ((D.dup (i 0).val (i 1).val : ℝ) : EReal) := by
  refine (dats m 0 c).arrAt_eq_of_covers 6
    (fun i : S8192x2816.Idx => ((D.dup (i 0).val (i 1).val : ℝ) : EReal)) (by decide +kernel) (fun t hf y => ?_)
  blk_simp
  rw [after0_6, out6_eq]
  refine (up_at (D := D.tile (t.val / 2) (t.val % 2)) (blk0 A t) (blk1 A t) (blk2 A t) (blk3 A t) y).trans ?_
  blk_simp [index6 t]
  rfl

end Cert.Ffn
end
-- ==== Proof.FfnRef.lean ====
/-
  The reference, the derivative of SwiGLU's output lines, over real data: every entry is the real gradient there.
-/
module

public import proofs.«01_k».proof.Proof.FfnSpec
public import proofs.«01_k».proof.Proof.Gen.Reference2Ideal.Run
public import proofs.«01_k».proof.Proof.Gen.Reference2Ideal.Read
public import Idealize.ShloMosaic.Lib.Pointwise

@[expose] public section

set_option maxRecDepth 16384
set_option backward.isDefEq.respectTransparency false

noncomputable section

namespace Cert.Ffn.Ref

open Idealize.ShloMosaic Idealize.ShloMosaic.TcCoe Idealize.SL.Sem
open Cert.Reference2Ideal Cert.Reference2Ideal.Read Cert.Attn Cert.Ffn
open scoped BigOperators

variable {x0 : (⟨S8192x1024, .f32⟩ : BufTy).Contents (Elt Ideal)} {x1 : (⟨S2816x1024, .bf16⟩ : BufTy).Contents (Elt Ideal)}
  {x2 : (⟨S1x1024, .f32⟩ : BufTy).Contents (Elt Ideal)} {x3 x4 : (⟨S8192x2816, .bf16⟩ : BufTy).Contents (Elt Ideal)} {D : Data}
variable (h0 : ∀ i : S8192x1024.Idx, x0 i = ((D.dy (i 0).val (i 1).val : ℝ) : EReal))
  (h1 : ∀ i : S2816x1024.Idx, x1 i = ((D.w (i 0).val (i 1).val : ℝ) : EReal))
  (h2 : ∀ i : S1x1024.Idx, x2 i = ((D.g (i 1).val : ℝ) : EReal))
  (h3 : ∀ i : S8192x2816.Idx, x3 i = ((D.gate (i 0).val (i 1).val : ℝ) : EReal))
  (h4 : ∀ i : S8192x2816.Idx, x4 i = ((D.up (i 0).val (i 1).val : ℝ) : EReal))

include h0 h1 h2 in
theorem dact_at (i : S8192x2816.Idx) : val_main_v10 (F := Ideal) x0 x1 x2 i = ((D.dact (i 0).val (i 1).val : ℝ) : EReal) := by
  rw [val_main_v10_apply]
  refine sum_coe _ _ fun k => ?_
  rw [val_main_v9_apply, val_main_v8_apply, val_main_v2_apply]
  pointwise
  rw [h0, h1, h2, ← EReal.coe_mul, ← EReal.coe_mul, mul_comm (D.g _)]

include h3 in
theorem sig_at (i : S8192x2816.Idx) : val_main_v3_2 (F := Ideal) x3 i = ((logi (D.gate (i 0).val (i 1).val) : ℝ) : EReal) := by
  pointwise [val_main_v3_2, val_main_call0_v4, val_main_call0_v3, val_main_call0_v2, val_main_call0_v1, val_main_call0_v0, val_main_v0,
    val_main_call0_cst, val_main_call0_cst_0]
  rw [h3, ← EReal.coe_neg]
  exact sig_coe _

include h3 in
/-- One minus the logistic function. -/
theorem rest_at (i : S8192x2816.Idx) : val_main_call0_v7 (F := Ideal) x3 i = ((1 - logi (D.gate (i 0).val (i 1).val) : ℝ) : EReal) := by
  pointwise [val_main_call0_v7, val_main_call0_v6, val_main_call0_cst_1]
  rw [sig_at h3, EReal.coe_sub, EReal.coe_one]

include h0 h1 h2 h3 in
theorem up_at (i : S8192x2816.Idx) : val_main_v15 (F := Ideal) x0 x1 x2 x3 i = ((D.dup (i 0).val (i 1).val : ℝ) : EReal) := by
  pointwise [val_main_v15, val_main_v11, val_main_v3_0, val_main_v0]
  rw [dact_at h0 h1 h2, sig_at h3, h3, ← EReal.coe_mul, ← EReal.coe_mul, mul_comm (D.gate _ _ * _)]
  rfl

include h0 h1 h2 h3 h4 in
theorem gate_at (i : S8192x2816.Idx) : val_main_v14 (F := Ideal) x0 x1 x2 x3 x4 i = ((D.dgate (i 0).val (i 1).val : ℝ) : EReal) := by
  pointwise [val_main_v14, val_main_v13, val_main_call1_v2, val_main_call1_v1, val_main_call1_v0, val_main_v12, val_main_v3_1, val_main_v1, val_main_v0]
  rw [dact_at h0 h1 h2, sig_at h3, rest_at h3, h3, h4]
  simp only [← EReal.coe_mul, ← EReal.coe_add]
  refine congrArg _ ?_
  unfold Data.dgate
  ring

end Cert.Ffn.Ref
end
-- ==== Proof.FfnValue.lean ====
/-
  The claims about the gradient of SwiGLU's branches: finite arguments hold real data; kernel and reference compute the same
  gradients of it; the frames.
-/
module

public import proofs.«01_k».proof.Defs
public import proofs.«01_k».proof.Proof.FfnArrays
public import proofs.«01_k».proof.Proof.FfnRef
public import proofs.«01_k».proof.Proof.Finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Pre_finite2
public import Idealize.ShloMosaic.Lib.ReduceAll
public import Idealize.ShloMosaic.Lib.Quiescent
public import Idealize.ShloMosaic.Adequacy
public import Idealize.ShloMosaic.Init

@[expose] public section

set_option maxRecDepth 16384
set_option backward.isDefEq.respectTransparency false

noncomputable section

namespace Cert.Ffn

open Idealize.ShloMosaic Idealize.ShloMosaic.TcCoe Idealize.SL.Sem Cert.Attn
open Cert.ReferenceIdeal.Ref (real2 real2_at)

/-- An element whose magnitude is below the word of infinity is a real number. -/
theorem real_of_lt {s t : Shape} (x : s.Idx → EReal) (hb) (i : s.Idx)
    (e : cmpf .olt (Host.absf (F := Ideal) (φ := .f32) x) (broadcastInDim s ![] hb (constant (F := Ideal) Cert.Pre_finite2.S_ .f32 0x7F800000#32)) i = 1#1) :
    x i = ((EReal.toReal (x i) : ℝ) : EReal) :=
  Cert.ReferenceIdeal.Ref.real_of_abs (s := s) x hb i e

variable (x0 : FVec Ideal Cert.Pre_finite2.S8192x1024 .f32) (x1 : FVec Ideal Cert.Pre_finite2.S2816x1024 .bf16)
  (x2 : FVec Ideal Cert.Pre_finite2.S1x1024 .f32) (x3 x4 : FVec Ideal Cert.Pre_finite2.S8192x2816 .bf16)

/-- The arguments' real data. -/
def dataOf : Data where
  dy := real2 (a := 8192) (b := 1024) x0
  w := real2 (a := 2816) (b := 1024) x1
  g k := real2 (a := 1) (b := 1024) x2 0 k
  gate := real2 (a := 8192) (b := 2816) x3
  up := real2 (a := 8192) (b := 2816) x4

/-- Finite arguments hold their real data. -/
theorem holds_of (e : ∀ j, Cert.Pre_finite2.fn (F := Ideal) x0 x1 x2 x3 x4 j = 1#1) :
    (∀ i : Cert.Pre_finite2.S8192x1024.Idx, x0 i = (((dataOf x0 x1 x2 x3 x4).dy (i 0).val (i 1).val : ℝ) : EReal))
    ∧ (∀ i : Cert.Pre_finite2.S2816x1024.Idx, x1 i = (((dataOf x0 x1 x2 x3 x4).w (i 0).val (i 1).val : ℝ) : EReal))
    ∧ (∀ i : Cert.Pre_finite2.S1x1024.Idx, x2 i = (((dataOf x0 x1 x2 x3 x4).g (i 1).val : ℝ) : EReal))
    ∧ (∀ i : Cert.Pre_finite2.S8192x2816.Idx, x3 i = (((dataOf x0 x1 x2 x3 x4).gate (i 0).val (i 1).val : ℝ) : EReal))
    ∧ (∀ i : Cert.Pre_finite2.S8192x2816.Idx, x4 i = (((dataOf x0 x1 x2 x3 x4).up (i 0).val (i 1).val : ℝ) : EReal)) := by
  have e := e (fun a => a.elim0)
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  have : Subsingleton Cert.Pre_finite2.S_.Idx := ⟨fun a b => funext fun k => k.elim0⟩
  exact ⟨fun i => real2_at (a := 8192) (b := 1024) x0 i (real_of_lt (t := Cert.Pre_finite2.S_) x0 _ i (Host.reduce_andi_all _ _ _ _ _ e i)),
    fun i => real2_at (a := 2816) (b := 1024) x1 i (real_of_lt (t := Cert.Pre_finite2.S_) x1 _ i (Host.reduce_andi_all _ _ _ _ _ e1 i)),
    fun i => (real2_at (a := 1) (b := 1024) x2 i (real_of_lt (t := Cert.Pre_finite2.S_) x2 _ i (Host.reduce_andi_all _ _ _ _ _ e2 i))).trans
      (congrArg (fun z => ((real2 (a := 1) (b := 1024) x2 z (i 1).val : ℝ) : EReal)) (Nat.lt_one_iff.1 (i 0).isLt)),
    fun i => real2_at (a := 8192) (b := 2816) x3 i (real_of_lt (t := Cert.Pre_finite2.S_) x3 _ i (Host.reduce_andi_all _ _ _ _ _ e3 i)),
    fun i => real2_at (a := 8192) (b := 2816) x4 i (real_of_lt (t := Cert.Pre_finite2.S_) x4 _ i (Host.reduce_andi_all _ _ _ _ _ e4 i))⟩

section
open Cert.Kernel2Ideal

variable (m : (ℓ : Loc nD τ sig) → Buf (Elt Ideal) ℓ) (c : Dev nD)

/-- A device's real data. -/
def data : Data :=
  dataOf (m ((c : Thread nD τ).loc main_arg0)) (m ((c : Thread nD τ).loc main_arg1)) (m ((c : Thread nD τ).loc main_arg2))
    (m ((c : Thread nD τ).loc main_arg3)) (m ((c : Thread nD τ).loc main_arg4))

theorem given (h : Cert.Pre_Kernel2Ideal_finite2 m) : Given m c (data m c) := by
  obtain ⟨a0, a1, a2, a3, a4⟩ := holds_of _ _ _ _ _ fun j => congrFun (h c) j
  exact ⟨a0, a1, a2, a3, a4⟩

variable {m c}

theorem same_gate (A : Given m c (data m c)) :
    Cert.Reference2Ideal.Read.val_main_v14 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = (Cert.Kernel2Ideal.Gen.dats m 0 c).arrAt 5 Cert.Kernel2Ideal.cfg0.N :=
  (funext fun i => Ref.gate_at A.dy A.w A.g A.gate A.up i).trans (array_gate A).symm

theorem same_up (A : Given m c (data m c)) :
    Cert.Reference2Ideal.Read.val_main_v15 (F := Ideal) (m ((c : Thread nD τ).loc main_arg0)) (m ((c : Thread nD τ).loc main_arg1)) (m ((c : Thread nD τ).loc main_arg2))
      (m ((c : Thread nD τ).loc main_arg3)) = (Cert.Kernel2Ideal.Gen.dats m 0 c).arrAt 6 Cert.Kernel2Ideal.cfg0.N :=
  (funext fun i => Ref.up_at A.dy A.w A.g A.gate i).trans (array_up A).symm

end

section
open Cert.Reference2Ideal

variable (m : (ℓ : Loc nD τ sig) → Buf (Elt Ideal) ℓ) (ρ : Dev nD → PrngReg)

/-- The reference's run, its results as stages. -/
theorem run_stages : θ_run defs (onTc (τ := τ) (main (F := Ideal))) ⟨m, fun _ => 0, ρ⟩ fun r => ∀ c : Dev nD,
    r.2.mem ((c.tc : Thread nD τ).loc main_v14) = Read.val_main_v14 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v15) = Read.val_main_v15 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨(h c).1.trans (Read.val_main_v14_eq _ _ _ _ _), (h c).2.1.trans (Read.val_main_v15_eq _ _ _ _), (h c).2.2⟩)
    (Cert.Reference2Ideal.Value.run m ρ)

end

/-- The value claim: the kernel's gradients are the reference's. -/
theorem algebraic : Cert.algebraic_Kernel2Ideal_Reference2Ideal_pre_finite2 := by
  intro m ρ m' ρ' hp hag
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N, Cert.Kernel2Ideal.Value.run_blocks m ρ, ?_⟩
  refine (θ_run _ _ _).mono (fun r h c => ?_) (run_stages m' ρ')
  obtain ⟨h0, h1, hk⟩ := h c
  have A := given m c hp
  obtain ⟨a0, a1, a2, a3, a4⟩ := hag c
  rw [a0, a1, a2, a3, a4] at h0
  rw [a0, a1, a2, a3] at h1
  exact ⟨h0.trans (same_gate A), h1.trans (same_up A), hk⟩

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_ideal_pre : Cert.quiescent_Kernel2Ideal_pre_finite2 := fun m ρ _ => Cert.Kernel2Ideal.Gen.frame m ρ

theorem frame_reference : Cert.quiescent_Reference2Ideal := fun m ρ _ =>
  (θ_run Cert.Reference2Ideal.defs _ _).mono (fun r h => ⟨fun c => (h c).2.2,
      Idealize.ShloMosaic.sem_eq_zero_of_no_sems (by decide) r.2⟩)
    (run_stages m ρ)

theorem frame_reference_pre : Cert.quiescent_Reference2Ideal_pre_finite2 := fun m ρ _ =>
  (θ_run Cert.Reference2Ideal.defs _ _).mono (fun r h => ⟨fun c => (h c).2.2,
      Idealize.ShloMosaic.sem_eq_zero_of_no_sems (by decide) r.2⟩)
    (run_stages m ρ)

theorem preserves : Cert.preserves_Kernel2_Kernel2Ideal := trivial

end Cert.Ffn
end
-- ==== Proof.Blocks.lean ====
/-
  Arrays of two axes as functions of two naturals, their products, and sums taken block by block, over the extended reals.
-/
module

public import Idealize.ShloMosaic.Lib.Pipeline.Value
public import Idealize.ShloMosaic.Lib.Pointwise

@[expose] public section

set_option maxRecDepth 16384
set_option backward.isDefEq.respectTransparency false

noncomputable section

namespace Cert.Blocks

open Idealize.ShloMosaic
open scoped BigOperators

/-- A two-axis array as a function of its row and column, zero outside it. -/
def ent {a b : ℕ} (x : (⟨2, ![a, b]⟩ : Shape).Idx → EReal) (r k : ℕ) : EReal :=
  if h : r < a ∧ k < b then x (ValueIdx.ix2 ⟨r, h.1⟩ ⟨k, h.2⟩) else 0

theorem ent_at {a b : ℕ} (x : (⟨2, ![a, b]⟩ : Shape).Idx → EReal) (i : (⟨2, ![a, b]⟩ : Shape).Idx) :
    x i = ent x (i 0).val (i 1).val := by
  unfold ent
  rw [dif_pos ⟨(i 0).isLt, (i 1).isLt⟩]
  refine congrArg x (funext fun a => ?_)
  fin_cases a <;> rfl

/-- A sum over n blocks of b terms. -/
theorem sum_blocks (f : ℕ → EReal) (n b : ℕ) :
    ∑ u ∈ Finset.range n, ∑ k : Fin b, f (u * b + k) = ∑ k : Fin (n * b), f k := by
  have e : ∀ u, ∑ k : Fin b, f (u * b + k) = ∑ k ∈ Finset.range b, f (u * b + k) := fun u =>
    (Finset.sum_range fun k => f (u * b + k)).symm
  rw [← Finset.sum_range fun k => f k]
  simp only [e]
  induction n with
  | zero => simp
  | succ n ih => rw [Finset.sum_range_succ, ih, Nat.succ_mul, Finset.sum_range_add]

end Cert.Blocks

end
-- ==== Proof.FfnInTile.lean ====
/-
  SwiGLU's first lines: what the forward call computes, and what its array holds after the grid, over any extended reals.
-/
module

public import proofs.«01_k».proof.Proof.Blocks
public import proofs.«01_k».proof.Proof.Gen.Kernel3Ideal.Frame
public import proofs.«01_k».proof.Proof.Gen.Kernel3Ideal.Value
public import Idealize.ShloMosaic.Lib.Pipeline.ValueKit

@[expose] public section

set_option maxRecDepth 16384
set_option backward.isDefEq.respectTransparency false

noncomputable section

namespace Cert.FfnIn

open Idealize.ShloMosaic Idealize.ShloMosaic.TcCoe Idealize.SL.Sem Cert.Kernel3Ideal Cert.Kernel3Ideal.Gen Cert.Blocks
open scoped BigOperators

/-- An entry of the product with the projection: row r of a against column f of w. -/
def proj (a w : ℕ → ℕ → EReal) (r f : ℕ) : EReal := ∑ k : Fin 1024, a r k * w k f

/-- The gate through its logistic function, times up. -/
def act (g u : EReal) : EReal := g * Ideal.div 1 (1 + Ideal.exp (-g)) * u

section
variable {x0 : Vec Ideal S1024x1024 .bf16} {x1 x2 : Vec Ideal S1024x1408 .bf16} {a w u : ℕ → ℕ → EReal}
variable (h0 : ∀ i : S1024x1024.Idx, x0 i = a (i 0).val (i 1).val) (h1 : ∀ i : S1024x1408.Idx, x1 i = w (i 0).val (i 1).val)
  (h2 : ∀ i : S1024x1408.Idx, x2 i = u (i 0).val (i 1).val)

include h0 h1 in
theorem gate_at (y : S1024x1408.Idx) : k0_pay1 (F := Ideal) x0 x1 y = proj a w (y 0).val (y 1).val := by
  pointwise [k0_pay1]
  exact Finset.sum_congr rfl fun k _ => congrArg₂ (· * ·) (h0 _) (h1 _)

include h0 h2 in
theorem up_at (y : S1024x1408.Idx) : k0_pay2 (F := Ideal) x0 x2 y = proj a u (y 0).val (y 1).val := by
  pointwise [k0_pay2]
  exact Finset.sum_congr rfl fun k _ => congrArg₂ (· * ·) (h0 _) (h2 _)

include h0 h1 h2 in
theorem act_at (y : S1024x1408.Idx) : k0_pay5 (F := Ideal) x0 x1 x2 y
    = act (proj a w (y 0).val (y 1).val) (proj a u (y 0).val (y 1).val) := by
  pointwise [k0_pay5]
  rw [gate_at h0 h1, up_at h0 h2, zero_sub]
  rfl

theorem out3_eq (x0 : Vec Ideal S1024x1024 .bf16) (x1 x2 : Vec Ideal S1024x1408 .bf16) : out0_3 x0 x1 x2 = k0_pay3 x0 x1 := by
  frame_out

theorem out4_eq (x0 : Vec Ideal S1024x1024 .bf16) (x1 x2 : Vec Ideal S1024x1408 .bf16) : out0_4 x0 x1 x2 = k0_pay4 x0 x2 := by
  frame_out

theorem out5_eq (x0 : Vec Ideal S1024x1024 .bf16) (x1 x2 : Vec Ideal S1024x1408 .bf16) : out0_5 x0 x1 x2 = k0_pay5 x0 x1 x2 := by
  frame_out

end

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![0, t.val % 2 + 2] := (by decide +kernel : ∀ t : Fin grid0.N, _)
theorem index3 : ∀ t : Fin cfg0.N, win0_3.index t = ![t.val / 2, t.val % 2] := (by decide +kernel : ∀ t : Fin grid0.N, _)
theorem index4 : ∀ t : Fin cfg0.N, win0_4.index t = ![t.val / 2, t.val % 2] := (by decide +kernel : ∀ t : Fin grid0.N, _)
theorem index5 : ∀ t : Fin cfg0.N, win0_5.index t = ![t.val / 2, t.val % 2] := (by decide +kernel : ∀ t : Fin grid0.N, _)

variable (m : (ℓ : Loc nD τ sig) → Buf (Elt Ideal) ℓ) (c : Dev nD)

/-- A window's block reads what its array holds. -/
theorem read_blk (w : Fin cfg0.W) (t : Fin cfg0.N) (f : Buf (Elt Ideal) ((c : Thread nD τ).loc (Pipeline.arrRef spec0 w)))
    (h : V m c (Pipeline.arrRef spec0 w) = f) (x : ((cfg0.win w).xblock (cfg0.grid.coords t)).Idx) :
    iblk m c w t x = ((cfg0.win w).blk t).view.read (Elt Ideal) f x := by
  subst h
  rfl

variable {m c} {a w : ℕ → ℕ → EReal}
variable (ha : ∀ i : S8192x1024.Idx, m ((c : Thread nD τ).loc main_arg0) i = a (i 0).val (i 1).val)
  (hw : ∀ i : S1024x5632.Idx, m ((c : Thread nD τ).loc main_arg1) i = w (i 0).val (i 1).val)

include ha in
/-- The block of window 0 at a grid point. -/
theorem blk0 (t : Fin cfg0.N) (x : S1024x1024.Idx) : (iblk m c 0 t : S1024x1024.Idx → EReal) x = a (t.val / 2 * 1024 + (x 0).val) (x 1).val := by
  refine (read_blk m c 0 t (fun i : S8192x1024.Idx => a (i 0).val (i 1).val) (funext ha) x).trans (congrArg₂ a ?_ ?_) <;>
    blk_simp [index0 t] <;> omega

include hw in
/-- The block of window 1 at a grid point. -/
theorem blk1 (t : Fin cfg0.N) (x : S1024x1408.Idx) : (iblk m c 1 t : S1024x1408.Idx → EReal) x = w (x 0).val (t.val % 2 * 1408 + (x 1).val) := by
  refine (read_blk m c 1 t (fun i : S1024x5632.Idx => w (i 0).val (i 1).val) (funext hw) x).trans (congrArg₂ w ?_ ?_) <;>
    blk_simp [index1 t] <;> omega

include hw in
/-- The block of window 2 at a grid point. -/
theorem blk2 (t : Fin cfg0.N) (x : S1024x1408.Idx) : (iblk m c 2 t : S1024x1408.Idx → EReal) x = w (x 0).val (t.val % 2 * 1408 + (x 1).val + 2816) := by
  refine (read_blk m c 2 t (fun i : S1024x5632.Idx => w (i 0).val (i 1).val) (funext hw) x).trans (congrArg₂ w ?_ ?_) <;>
    blk_simp [index2 t] <;> omega

include ha hw in
/-- The array of gates. -/
theorem array_gate : (dats m 0 c).arrAt 3 cfg0.N = fun i : S8192x2816.Idx => proj a w (i 0).val (i 1).val := by
  refine (dats m 0 c).arrAt_eq_of_covers 3
    (fun i : S8192x2816.Idx => proj a w (i 0).val (i 1).val) (by decide +kernel) (fun t hf y => ?_)
  blk_simp
  rw [after0_3, out3_eq]
  refine (gate_at (a := fun r k => a (t.val / 2 * 1024 + r) k) (w := fun k f => w k (t.val % 2 * 1408 + f)) (blk0 ha t) (blk1 hw t) y).trans ?_
  blk_simp [index3 t]
  rfl

include ha hw in
/-- The array of up. -/
theorem array_up : (dats m 0 c).arrAt 4 cfg0.N = fun i : S8192x2816.Idx => proj a w (i 0).val ((i 1).val + 2816) := by
  refine (dats m 0 c).arrAt_eq_of_covers 4
    (fun i : S8192x2816.Idx => proj a w (i 0).val ((i 1).val + 2816)) (by decide +kernel) (fun t hf y => ?_)
  blk_simp
  rw [after0_4, out4_eq]
  refine (up_at (a := fun r k => a (t.val / 2 * 1024 + r) k) (u := fun k f => w k (t.val % 2 * 1408 + f + 2816)) (blk0 ha t) (blk2 hw t) y).trans ?_
  blk_simp [index4 t]
  rfl

include ha hw in
/-- The array of the gated activations. -/
theorem array_act : (dats m 0 c).arrAt 5 cfg0.N = fun i : S8192x2816.Idx =>
    act (proj a w (i 0).val (i 1).val) (proj a w (i 0).val ((i 1).val + 2816)) := by
  refine (dats m 0 c).arrAt_eq_of_covers 5
    (fun i : S8192x2816.Idx => act (proj a w (i 0).val (i 1).val) (proj a w (i 0).val ((i 1).val + 2816))) (by decide +kernel) (fun t hf y => ?_)
  blk_simp
  rw [after0_5, out5_eq]
  refine (act_at (a := fun r k => a (t.val / 2 * 1024 + r) k) (w := fun k f => w k (t.val % 2 * 1408 + f))
    (u := fun k f => w k (t.val % 2 * 1408 + f + 2816)) (blk0 ha t) (blk1 hw t) (blk2 hw t) y).trans ?_
  blk_simp [index5 t]
  rfl

end Cert.FfnIn

end
-- ==== Proof.FfnInRef.lean ====
/-
  The reference of SwiGLU's first lines, read at an entry.
-/
module

public import proofs.«01_k».proof.Proof.Blocks
public import proofs.«01_k».proof.Proof.FfnInTile
public import proofs.«01_k».proof.Proof.Gen.Reference3Ideal.Run
public import proofs.«01_k».proof.Proof.Gen.Reference3Ideal.Read

@[expose] public section

set_option maxRecDepth 16384
set_option backward.isDefEq.respectTransparency false

noncomputable section

namespace Cert.FfnIn.Ref

open Idealize.ShloMosaic Idealize.ShloMosaic.TcCoe Idealize.SL.Sem
open Cert.Reference3Ideal Cert.Reference3Ideal.Read Cert.FfnIn
open scoped BigOperators

variable {x0 : (⟨S8192x1024, .bf16⟩ : BufTy).Contents (Elt Ideal)} {x1 : (⟨S1024x5632, .bf16⟩ : BufTy).Contents (Elt Ideal)}
  {a w : ℕ → ℕ → EReal}
variable (h0 : ∀ i : S8192x1024.Idx, x0 i = a (i 0).val (i 1).val) (h1 : ∀ i : S1024x5632.Idx, x1 i = w (i 0).val (i 1).val)

include h0 h1 in
theorem proj_at (i : S8192x5632.Idx) : val_main_v2 (F := Ideal) x0 x1 i = proj a w (i 0).val (i 1).val := by
  rw [val_main_v2_apply]
  exact Finset.sum_congr rfl fun k _ => congrArg₂ (· * ·) (h0 _) (h1 _)

include h0 h1 in
theorem gate32_at (i : S8192x2816.Idx) : val_main_v3 (F := Ideal) x0 x1 i = proj a w (i 0).val (i 1).val := by
  rw [val_main_v3_apply, proj_at h0 h1]

include h0 h1 in
theorem up32_at (i : S8192x2816.Idx) : val_main_v4 (F := Ideal) x0 x1 i = proj a w (i 0).val ((i 1).val + 2816) := by
  rw [val_main_v4_apply, proj_at h0 h1]
  exact congrArg (proj a w _) (Nat.add_comm _ _)

include h0 h1 in
theorem gate_at (i : S8192x2816.Idx) : val_main_v5 (F := Ideal) x0 x1 i = proj a w (i 0).val (i 1).val := by
  pointwise [val_main_v5]
  exact gate32_at h0 h1 i

include h0 h1 in
theorem up_at (i : S8192x2816.Idx) : val_main_v6 (F := Ideal) x0 x1 i = proj a w (i 0).val ((i 1).val + 2816) := by
  pointwise [val_main_v6]
  exact up32_at h0 h1 i

include h0 h1 in
theorem act_at (i : S8192x2816.Idx) : val_main_v9 (F := Ideal) x0 x1 i
    = act (proj a w (i 0).val (i 1).val) (proj a w (i 0).val ((i 1).val + 2816)) := by
  pointwise [val_main_v9, val_main_v8, val_main_v7, val_main_call0_v5, val_main_call0_v4, val_main_call0_v3, val_main_call0_v2,
    val_main_call0_v1, val_main_call0_v0, val_main_call0_cst, val_main_call0_cst_0]
  rw [gate32_at h0 h1, up32_at h0 h1]
  rfl

end Cert.FfnIn.Ref

end
-- ==== Proof.FfnInValue.lean ====
/-
  The claims about SwiGLU's first lines: kernel and reference compute the same gate, up and activation; the frames.
-/
module

public import proofs.«01_k».proof.Defs
public import proofs.«01_k».proof.Proof.FfnInTile
public import proofs.«01_k».proof.Proof.FfnInRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import Idealize.ShloMosaic.Lib.Quiescent
public import Idealize.ShloMosaic.Adequacy
public import Idealize.ShloMosaic.Init

@[expose] public section

set_option maxRecDepth 16384
set_option backward.isDefEq.respectTransparency false

noncomputable section

namespace Cert.FfnIn

open Idealize.ShloMosaic Idealize.ShloMosaic.TcCoe Idealize.SL.Sem Cert.Blocks

section
open Cert.Kernel3Ideal

variable (m : (ℓ : Loc nD τ sig) → Buf (Elt Ideal) ℓ) (c : Dev nD)

/-- The gate. -/
theorem same_3 : Cert.Reference3Ideal.Read.val_main_v5 (F := Ideal) (m ((c : Thread nD τ).loc main_arg0)) (m ((c : Thread nD τ).loc main_arg1))
      = (Cert.Kernel3Ideal.Gen.dats m 0 c).arrAt 3 Cert.Kernel3Ideal.cfg0.N :=
  (funext fun i => Ref.gate_at (ent_at (a := 8192) (b := 1024) (m ((c : Thread nD τ).loc main_arg0))) (ent_at (a := 1024) (b := 5632) (m ((c : Thread nD τ).loc main_arg1))) i).trans
    (array_gate (ent_at (a := 8192) (b := 1024) (m ((c : Thread nD τ).loc main_arg0))) (ent_at (a := 1024) (b := 5632) (m ((c : Thread nD τ).loc main_arg1)))).symm

/-- The up branch. -/
theorem same_4 : Cert.Reference3Ideal.Read.val_main_v6 (F := Ideal) (m ((c : Thread nD τ).loc main_arg0)) (m ((c : Thread nD τ).loc main_arg1))
      = (Cert.Kernel3Ideal.Gen.dats m 0 c).arrAt 4 Cert.Kernel3Ideal.cfg0.N :=
  (funext fun i => Ref.up_at (ent_at (a := 8192) (b := 1024) (m ((c : Thread nD τ).loc main_arg0))) (ent_at (a := 1024) (b := 5632) (m ((c : Thread nD τ).loc main_arg1))) i).trans
    (array_up (ent_at (a := 8192) (b := 1024) (m ((c : Thread nD τ).loc main_arg0))) (ent_at (a := 1024) (b := 5632) (m ((c : Thread nD τ).loc main_arg1)))).symm

/-- The activation. -/
theorem same_5 : Cert.Reference3Ideal.Read.val_main_v9 (F := Ideal) (m ((c : Thread nD τ).loc main_arg0)) (m ((c : Thread nD τ).loc main_arg1))
      = (Cert.Kernel3Ideal.Gen.dats m 0 c).arrAt 5 Cert.Kernel3Ideal.cfg0.N :=
  (funext fun i => Ref.act_at (ent_at (a := 8192) (b := 1024) (m ((c : Thread nD τ).loc main_arg0))) (ent_at (a := 1024) (b := 5632) (m ((c : Thread nD τ).loc main_arg1))) i).trans
    (array_act (ent_at (a := 8192) (b := 1024) (m ((c : Thread nD τ).loc main_arg0))) (ent_at (a := 1024) (b := 5632) (m ((c : Thread nD τ).loc main_arg1)))).symm

end

section
open Cert.Reference3Ideal

variable (m : (ℓ : Loc nD τ sig) → Buf (Elt Ideal) ℓ) (ρ : Dev nD → PrngReg)

/-- The reference's run, its results as stages. -/
theorem run_stages : θ_run defs (onTc (τ := τ) (main (F := Ideal))) ⟨m, fun _ => 0, ρ⟩ fun r => ∀ c : Dev nD,
    r.2.mem ((c.tc : Thread nD τ).loc main_v5) = Read.val_main_v5 (F := Ideal) (m ((c.tc : Thread nD τ).loc main_arg0)) (m ((c.tc : Thread nD τ).loc main_arg1))
    ∧ r.2.mem ((c.tc : Thread nD τ).loc main_v6) = Read.val_main_v6 (F := Ideal) (m ((c.tc : Thread nD τ).loc main_arg0)) (m ((c.tc : Thread nD τ).loc main_arg1))
    ∧ r.2.mem ((c.tc : Thread nD τ).loc main_v9) = Read.val_main_v9 (F := Ideal) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨((h c).1).trans (Read.val_main_v5_eq _ _), ((h c).2.1).trans (Read.val_main_v6_eq _ _), ((h c).2.2.1).trans (Read.val_main_v9_eq _ _), (h c).2.2.2⟩)
    (Cert.Reference3Ideal.Value.run m ρ)

end

/-- The value claim. -/
theorem algebraic : Cert.algebraic_Kernel3Ideal_Reference3Ideal := by
  intro m ρ m' ρ' hp hag
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N, fun c => (Cert.Kernel3Ideal.Gen.dats m 0 c).arrAt 5 Cert.Kernel3Ideal.cfg0.N, Cert.Kernel3Ideal.Value.run_blocks m ρ, ?_⟩
  refine (θ_run _ _ _).mono (fun r h c => ?_) (run_stages m' ρ')
  obtain ⟨h0, h1, h2, hk⟩ := h c
  obtain ⟨a0, a1⟩ := hag c
  rw [a0, a1] at h0
  rw [a0, a1] at h1
  rw [a0, a1] at h2
  exact ⟨h0.trans (same_3 m c), h1.trans (same_4 m c), h2.trans (same_5 m c), hk⟩

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (run_stages m ρ)

theorem preserves : Cert.preserves_Kernel3_Kernel3Ideal := trivial

end Cert.FfnIn

end
-- ==== Proof.FfnDwTile.lean ====
/-
  The gradient of a half of SwiGLU's input projection: the product of the transposed input with the branch's gradient, summed
  over the rows in four blocks held in a scratch.
-/
module

public import proofs.«01_k».proof.Proof.Blocks
public import proofs.«01_k».proof.Proof.Gen.Kernel4Ideal.Frame
public import proofs.«01_k».proof.Proof.Gen.Kernel4Ideal.Value
public import Idealize.ShloMosaic.Lib.Pipeline.ValueKit
public import Idealize.ShloMosaic.Lib.Pipeline.ReadBack

@[expose] public section

set_option maxRecDepth 16384
set_option backward.isDefEq.respectTransparency false

noncomputable section

namespace Cert.FfnDw

open Idealize.ShloMosaic Idealize.ShloMosaic.TcCoe Idealize.SL.Sem Cert.Kernel4Ideal Cert.Kernel4Ideal.Gen Cert.Blocks
open scoped BigOperators

/-- An entry of the product over the rows. -/
def grad (a d : ℕ → ℕ → EReal) (k f : ℕ) : EReal := ∑ r : Fin 8192, a r k * d r f

/-- A block's part of the product: the rows from 2048 s on. -/
def part (a d : ℕ → ℕ → EReal) (s k f : ℕ) : EReal := ∑ r : Fin 2048, a (s * 2048 + r) k * d (s * 2048 + r) f

theorem part_at {x0 : Vec Ideal S2048x1024 .bf16} {x1 : Vec Ideal S2048x1408 .bf16} {a d : ℕ → ℕ → EReal}
    (h0 : ∀ i : S2048x1024.Idx, x0 i = a (i 0).val (i 1).val) (h1 : ∀ i : S2048x1408.Idx, x1 i = d (i 0).val (i 1).val)
    (y : S1024x1408.Idx) : k0_pay1 (F := Ideal) x0 x1 y = ∑ r : Fin 2048, a r (y 0).val * d r (y 1).val := by
  pointwise [k0_pay1]
  exact Finset.sum_congr rfl fun k _ => congrArg₂ (· * ·) (h0 _) (h1 _)

theorem index0 : ∀ t : Fin cfg0.N, win0_0.index t = ![t.val % 4, 0] := (by decide +kernel : ∀ t : Fin grid0.N, _)
theorem index1 : ∀ t : Fin cfg0.N, win0_1.index t = ![t.val % 4, t.val / 4] := (by decide +kernel : ∀ t : Fin grid0.N, _)
theorem index2 : ∀ t : Fin cfg0.N, win0_2.index t = ![0, t.val / 4] := (by decide +kernel : ∀ t : Fin grid0.N, _)

variable (m : (ℓ : Loc nD τ sig) → Buf (Elt Ideal) ℓ) (c : Dev nD)

/-- A window's block reads what its array holds. -/
theorem read_blk (w : Fin cfg0.W) (t : Fin cfg0.N) (f : Buf (Elt Ideal) ((c : Thread nD τ).loc (Pipeline.arrRef spec0 w)))
    (h : V m c (Pipeline.arrRef spec0 w) = f) (x : ((cfg0.win w).xblock (cfg0.grid.coords t)).Idx) :
    iblk m c w t x = ((cfg0.win w).blk t).view.read (Elt Ideal) f x := by
  subst h
  rfl

variable {m c} {a d : ℕ → ℕ → EReal}
variable (ha : ∀ i : S8192x1024.Idx, m ((c : Thread nD τ).loc main_arg0) i = a (i 0).val (i 1).val)
  (hd : ∀ i : S8192x2816.Idx, m ((c : Thread nD τ).loc main_arg1) i = d (i 0).val (i 1).val)

include ha in
/-- The block of window 0 at a grid point. -/
theorem blk0 (t : Fin cfg0.N) (x : S2048x1024.Idx) : (iblk m c 0 t : S2048x1024.Idx → EReal) x = a (t.val % 4 * 2048 + (x 0).val) (x 1).val := by
  refine (read_blk m c 0 t (fun i : S8192x1024.Idx => a (i 0).val (i 1).val) (funext ha) x).trans (congrArg₂ a ?_ ?_) <;>
    blk_simp [index0 t] <;> omega

include hd in
/-- The block of window 1 at a grid point. -/
theorem blk1 (t : Fin cfg0.N) (x : S2048x1408.Idx) : (iblk m c 1 t : S2048x1408.Idx → EReal) x = d (t.val % 4 * 2048 + (x 0).val) (t.val / 4 * 1408 + (x 1).val) := by
  refine (read_blk m c 1 t (fun i : S8192x2816.Idx => d (i 0).val (i 1).val) (funext hd) x).trans (congrArg₂ d ?_ ?_) <;>
    blk_simp [index1 t] <;> omega

include ha hd in
/-- A grid point's part. -/
theorem part_blk (t : Fin cfg0.N) (y : S1024x1408.Idx) : k0_pay1 (F := Ideal) (iblk m c 0 t) (iblk m c 1 t) y
    = part a d (t.val % 4) (y 0).val (t.val / 4 * 1408 + (y 1).val) :=
  part_at (a := fun r k => a (t.val % 4 * 2048 + r) k) (d := fun r f => d (t.val % 4 * 2048 + r) (t.val / 4 * 1408 + f)) (blk0 ha t) (blk1 hd t) y

include ha hd in
/-- The scratch after a grid point: the parts so far. -/
theorem scratch (t : Fin cfg0.N) (y : S1024x1408.Idx) : ((outsAt0 m c t.val t.isLt).2 : S1024x1408.Idx → EReal) y
    = ∑ s ∈ Finset.range (t.val % 4 + 1), part a d s (y 0).val (t.val / 4 * 1408 + (y 1).val) := by
  refine (Pipeline.eq_sum_of_reset_step_apply_divmod (M := EReal) (N := cfg0.N) (ι := S1024x1408.Idx) (fun n h => (outsAt0 m c n h).2) 4 (fun _ => 0)
    (fun q s y => part a d s (y 0).val (q * 1408 + (y 1).val)) (fun t h y => ?_) (fun t h y => ?_) t y).trans (zero_add _)
  · rw [outsAt0_A m c t h (by omega) (by omega)]
    frame_out
    rw [zero_add, ← part_blk ha hd]
    pointwise [k0_pay2]
  · by_cases h3 : t.val % 4 = 3
    · rw [outsAt0_C m c t h (by omega) h3]
      frame_out
      rw [← part_blk ha hd]
      pointwise [k0_pay3]
      exact congrArg (· + _) (congrFun (read_unread_whole (Val := Elt Ideal) cc0_scratch0 (Memref.isWhole_whole _) ((outsAt0 m c (t.val - 1) _).2)) y)
    · rw [outsAt0_B m c t h (by omega) h3]
      frame_out
      rw [← part_blk ha hd]
      pointwise [k0_pay3]
      exact congrArg (· + _) (congrFun (read_unread_whole (Val := Elt Ideal) cc0_scratch0 (Memref.isWhole_whole _) ((outsAt0 m c (t.val - 1) _).2)) y)

/-- What the last point of a run writes is the scratch. -/
theorem written (t : Fin cfg0.N) (h3 : t.val % 4 = 3) (y : S1024x1408.Idx) :
    ((outsAt0 m c t.val t.isLt).1 : S1024x1408.Idx → EReal) y = ((outsAt0 m c t.val t.isLt).2 : S1024x1408.Idx → EReal) y := by
  rw [outsAt0_C m c t (by omega) (by omega) h3]
  frame_out
  pointwise [k0_pay4]

include ha hd in
/-- The array of the gradient. -/
theorem array : (dats m 0 c).arrAt 2 cfg0.N = fun i : S1024x2816.Idx => grad a d (i 0).val (i 1).val := by
  refine (dats m 0 c).arrAt_eq_of_covers 2
    (fun i : S1024x2816.Idx => grad a d (i 0).val (i 1).val) (by decide +kernel) (fun t hf y => ?_)
  have h3 : t.val % 4 = 3 := (flush0_2 t).mp hf
  blk_simp
  rw [after0_2]
  refine (written t h3 y).trans ((scratch ha hd t y).trans ?_)
  rw [h3]
  refine (sum_blocks (fun r => a r _ * d r _) 4 2048).trans ?_
  blk_simp [index2 t]
  rfl

end Cert.FfnDw

end
-- ==== Proof.FfnDwRef.lean ====
/-
  The reference of the projection's gradient, read at an entry.
-/
module

public import proofs.«01_k».proof.Proof.FfnDwTile
public import proofs.«01_k».proof.Proof.Gen.Reference4Ideal.Run
public import proofs.«01_k».proof.Proof.Gen.Reference4Ideal.Read

@[expose] public section

set_option maxRecDepth 16384
set_option backward.isDefEq.respectTransparency false

noncomputable section

namespace Cert.FfnDw.Ref

open Idealize.ShloMosaic Idealize.ShloMosaic.TcCoe Idealize.SL.Sem
open Cert.Reference4Ideal Cert.Reference4Ideal.Read Cert.FfnDw
open scoped BigOperators

variable {x0 : (⟨S8192x1024, .bf16⟩ : BufTy).Contents (Elt Ideal)} {x1 : (⟨S8192x2816, .bf16⟩ : BufTy).Contents (Elt Ideal)}
  {a d : ℕ → ℕ → EReal}
variable (h0 : ∀ i : S8192x1024.Idx, x0 i = a (i 0).val (i 1).val) (h1 : ∀ i : S8192x2816.Idx, x1 i = d (i 0).val (i 1).val)

include h0 h1 in
theorem grad_at (i : S1024x2816.Idx) : val_main_v6 (F := Ideal) x0 x1 i = grad a d (i 0).val (i 1).val := by
  pointwise [val_main_v6]
  rw [val_main_v5_apply]
  refine (val_main_v4_apply x0 x1 _).trans ?_
  exact Finset.sum_congr rfl fun k _ => (congrArg₂ (· * ·) (h1 _) (h0 _)).trans (mul_comm _ _)

end Cert.FfnDw.Ref

end
-- ==== Proof.FfnDwValue.lean ====
/-
  The claims about the gradient of SwiGLU's input projection: kernel and reference compute the same product; the frames.
-/
module

public import proofs.«01_k».proof.Defs
public import proofs.«01_k».proof.Proof.FfnDwTile
public import proofs.«01_k».proof.Proof.FfnDwRef
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import Idealize.ShloMosaic.Lib.Quiescent
public import Idealize.ShloMosaic.Adequacy
public import Idealize.ShloMosaic.Init

@[expose] public section

set_option maxRecDepth 16384
set_option backward.isDefEq.respectTransparency false

noncomputable section

namespace Cert.FfnDw

open Idealize.ShloMosaic Idealize.ShloMosaic.TcCoe Idealize.SL.Sem Cert.Blocks

section
open Cert.Kernel4Ideal

variable (m : (ℓ : Loc nD τ sig) → Buf (Elt Ideal) ℓ) (c : Dev nD)

/-- The gradient. -/
theorem same_2 : Cert.Reference4Ideal.Read.val_main_v6 (F := Ideal) (m ((c : Thread nD τ).loc main_arg0)) (m ((c : Thread nD τ).loc main_arg1))
      = (Cert.Kernel4Ideal.Gen.dats m 0 c).arrAt 2 Cert.Kernel4Ideal.cfg0.N :=
  (funext fun i => Ref.grad_at (ent_at (a := 8192) (b := 1024) (m ((c : Thread nD τ).loc main_arg0))) (ent_at (a := 8192) (b := 2816) (m ((c : Thread nD τ).loc main_arg1))) i).trans
    (array (ent_at (a := 8192) (b := 1024) (m ((c : Thread nD τ).loc main_arg0))) (ent_at (a := 8192) (b := 2816) (m ((c : Thread nD τ).loc main_arg1)))).symm

end

section
open Cert.Reference4Ideal

variable (m : (ℓ : Loc nD τ sig) → Buf (Elt Ideal) ℓ) (ρ : Dev nD → PrngReg)

/-- The reference's run, its results as stages. -/
theorem run_stages : θ_run defs (onTc (τ := τ) (main (F := Ideal))) ⟨m, fun _ => 0, ρ⟩ fun r => ∀ c : Dev nD,
    r.2.mem ((c.tc : Thread nD τ).loc main_v6) = Read.val_main_v6 (F := Ideal) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨((h c).1).trans (Read.val_main_v6_eq _ _), (h c).2⟩)
    (Cert.Reference4Ideal.Value.run m ρ)

end

/-- The value claim. -/
theorem algebraic : Cert.algebraic_Kernel4Ideal_Reference4Ideal := by
  intro m ρ m' ρ' hp hag
  refine ⟨fun c => (Cert.Kernel4Ideal.Gen.dats m 0 c).arrAt 2 Cert.Kernel4Ideal.cfg0.N, Cert.Kernel4Ideal.Value.run_blocks m ρ, ?_⟩
  refine (θ_run _ _ _).mono (fun r h c => ?_) (run_stages m' ρ')
  obtain ⟨h0, hk⟩ := h c
  obtain ⟨a0, a1⟩ := hag c
  rw [a0, a1] at h0
  exact ⟨h0.trans (same_2 m c), hk⟩

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (run_stages m ρ)

theorem preserves : Cert.preserves_Kernel4_Kernel4Ideal := trivial

end Cert.FfnDw

end
-- ==== Proof.FfnDxTile.lean ====
/-
  The gradient of SwiGLU's input: the gradients of gate and up against the two halves of the projection, summed in four blocks
  held in a scratch.
-/
module

public import proofs.«01_k».proof.Proof.Blocks
public import proofs.«01_k».proof.Proof.Gen.Kernel5Ideal.Frame
public import proofs.«01_k».proof.Proof.Gen.Kernel5Ideal.Value
public import Idealize.ShloMosaic.Lib.Pipeline.ValueKit
public import Idealize.ShloMosaic.Lib.Pipeline.ReadBack

@[expose] public section

set_option maxRecDepth 16384
set_option backward.isDefEq.respectTransparency false

noncomputable section

namespace Cert.FfnDx

open Idealize.ShloMosaic Idealize.ShloMosaic.TcCoe Idealize.SL.Sem Cert.Kernel5Ideal Cert.Kernel5Ideal.Gen Cert.Blocks
open scoped BigOperators

/-- Gate's columns before, up's after column 2816. -/
def both (g u : ℕ → ℕ → EReal) (r k : ℕ) : EReal := if k < 2816 then g r k else u r (k - 2816)

/-- An entry of the gradient: over the columns of both branches. -/
def grad (g u w : ℕ → ℕ → EReal) (r j : ℕ) : EReal := ∑ k : Fin 5632, both g u r k * w j k

/-- A block's part: the columns from 1408 s on. -/
def part (g u w : ℕ → ℕ → EReal) (s r j : ℕ) : EReal := ∑ k : Fin 1408, both g u r (s * 1408 + k) * w j (s * 1408 + k)

theorem add_at {x1 x2 : Vec Ideal S1024x1408 .bf16} {a b : ℕ → ℕ → EReal} (acc : Vec Ideal S1024x1024 .f32)
    (h1 : ∀ i : S1024x1408.Idx, x1 i = a (i 0).val (i 1).val) (h2 : ∀ i : S1024x1408.Idx, x2 i = b (i 0).val (i 1).val)
    (y : S1024x1024.Idx) : k0_pay2 (F := Ideal) acc x1 x2 y = acc y + ∑ k : Fin 1408, a (y 0).val k * b (y 1).val k := by
  pointwise [k0_pay2]
  exact congrArg (acc y + ·) (Finset.sum_congr rfl fun k _ => congrArg₂ (· * ·) (h1 _) (h2 _))

theorem add_at' {x1 x2 : Vec Ideal S1024x1408 .bf16} {a b : ℕ → ℕ → EReal} (acc : Vec Ideal S1024x1024 .f32)
    (h1 : ∀ i : S1024x1408.Idx, x1 i = a (i 0).val (i 1).val) (h2 : ∀ i : S1024x1408.Idx, x2 i = b (i 0).val (i 1).val)
    (y : S1024x1024.Idx) : k0_pay3 (F := Ideal) acc x1 x2 y = acc y + ∑ k : Fin 1408, a (y 0).val k * b (y 1).val k :=
  add_at acc h1 h2 y

theorem index0 : ∀ t : Fin cfg0.N, win0_0.index t = ![t.val / 4, min (t.val % 4) 1] := (by decide +kernel : ∀ t : Fin grid0.N, _)
theorem index1 : ∀ t : Fin cfg0.N, win0_1.index t = ![0, min (t.val % 4) 1] := (by decide +kernel : ∀ t : Fin grid0.N, _)
theorem index2 : ∀ t : Fin cfg0.N, win0_2.index t = ![t.val / 4, t.val % 4 - 2] := (by decide +kernel : ∀ t : Fin grid0.N, _)
theorem index3 : ∀ t : Fin cfg0.N, win0_3.index t = ![0, max (t.val % 4) 2] := (by decide +kernel : ∀ t : Fin grid0.N, _)
theorem index4 : ∀ t : Fin cfg0.N, win0_4.index t = ![t.val / 4, 0] := (by decide +kernel : ∀ t : Fin grid0.N, _)

variable (m : (ℓ : Loc nD τ sig) → Buf (Elt Ideal) ℓ) (c : Dev nD)

/-- A window's block reads what its array holds. -/
theorem read_blk (w : Fin cfg0.W) (t : Fin cfg0.N) (f : Buf (Elt Ideal) ((c : Thread nD τ).loc (Pipeline.arrRef spec0 w)))
    (h : V m c (Pipeline.arrRef spec0 w) = f) (x : ((cfg0.win w).xblock (cfg0.grid.coords t)).Idx) :
    iblk m c w t x = ((cfg0.win w).blk t).view.read (Elt Ideal) f x := by
  subst h
  rfl

variable {m c} {g u w : ℕ → ℕ → EReal}
variable (hg : ∀ i : S8192x2816.Idx, m ((c : Thread nD τ).loc main_arg0) i = g (i 0).val (i 1).val)
  (hu : ∀ i : S8192x2816.Idx, m ((c : Thread nD τ).loc main_arg1) i = u (i 0).val (i 1).val)
  (hw : ∀ i : S1024x5632.Idx, m ((c : Thread nD τ).loc main_arg2) i = w (i 0).val (i 1).val)

include hg in
/-- The block of window 0 at a grid point. -/
theorem blk0 (t : Fin cfg0.N) (x : S1024x1408.Idx) : (iblk m c 0 t : S1024x1408.Idx → EReal) x = g (t.val / 4 * 1024 + (x 0).val) (min (t.val % 4) 1 * 1408 + (x 1).val) := by
  refine (read_blk m c 0 t (fun i : S8192x2816.Idx => g (i 0).val (i 1).val) (funext hg) x).trans (congrArg₂ g ?_ ?_) <;>
    blk_simp [index0 t] <;> omega

include hw in
/-- The block of window 1 at a grid point. -/
theorem blk1 (t : Fin cfg0.N) (x : S1024x1408.Idx) : (iblk m c 1 t : S1024x1408.Idx → EReal) x = w (x 0).val (min (t.val % 4) 1 * 1408 + (x 1).val) := by
  refine (read_blk m c 1 t (fun i : S1024x5632.Idx => w (i 0).val (i 1).val) (funext hw) x).trans (congrArg₂ w ?_ ?_) <;>
    blk_simp [index1 t] <;> omega

include hu in
/-- The block of window 2 at a grid point. -/
theorem blk2 (t : Fin cfg0.N) (x : S1024x1408.Idx) : (iblk m c 2 t : S1024x1408.Idx → EReal) x = u (t.val / 4 * 1024 + (x 0).val) ((t.val % 4 - 2) * 1408 + (x 1).val) := by
  refine (read_blk m c 2 t (fun i : S8192x2816.Idx => u (i 0).val (i 1).val) (funext hu) x).trans (congrArg₂ u ?_ ?_) <;>
    blk_simp [index2 t] <;> omega

include hw in
/-- The block of window 3 at a grid point. -/
theorem blk3 (t : Fin cfg0.N) (x : S1024x1408.Idx) : (iblk m c 3 t : S1024x1408.Idx → EReal) x = w (x 0).val (max (t.val % 4) 2 * 1408 + (x 1).val) := by
  refine (read_blk m c 3 t (fun i : S1024x5632.Idx => w (i 0).val (i 1).val) (funext hw) x).trans (congrArg₂ w ?_ ?_) <;>
    blk_simp [index3 t] <;> omega

include hg hw in
/-- A point of gate's half adds its part. -/
theorem add_gate (t : Fin cfg0.N) (h : t.val % 4 ≤ 1) (acc : Vec Ideal S1024x1024 .f32) (y : S1024x1024.Idx) :
    k0_pay2 (F := Ideal) acc (iblk m c 0 t) (iblk m c 1 t) y
      = acc y + part g u w (t.val % 4) (t.val / 4 * 1024 + (y 0).val) (y 1).val := by
  refine (add_at (a := fun r k => g (t.val / 4 * 1024 + r) (min (t.val % 4) 1 * 1408 + k))
    (b := fun j k => w j (min (t.val % 4) 1 * 1408 + k)) acc (blk0 hg t) (blk1 hw t) y).trans (congrArg (acc y + ·) ?_)
  refine Finset.sum_congr rfl fun k _ => ?_
  have hk := k.isLt
  rw [Nat.min_eq_left h]
  unfold both
  rw [if_pos (by omega)]

include hu hw in
/-- A point of up's half adds its part. -/
theorem add_up (t : Fin cfg0.N) (h : 2 ≤ t.val % 4) (acc : Vec Ideal S1024x1024 .f32) (y : S1024x1024.Idx) :
    k0_pay3 (F := Ideal) acc (iblk m c 2 t) (iblk m c 3 t) y
      = acc y + part g u w (t.val % 4) (t.val / 4 * 1024 + (y 0).val) (y 1).val := by
  refine (add_at' (a := fun r k => u (t.val / 4 * 1024 + r) ((t.val % 4 - 2) * 1408 + k))
    (b := fun j k => w j (max (t.val % 4) 2 * 1408 + k)) acc (blk2 hu t) (blk3 hw t) y).trans (congrArg (acc y + ·) ?_)
  refine Finset.sum_congr rfl fun k _ => ?_
  have hk := k.isLt
  rw [Nat.max_eq_left h]
  unfold both
  rw [if_neg (by omega)]
  have e : (t.val % 4 - 2) * 1408 + k.val = t.val % 4 * 1408 + k.val - 2816 := by omega
  rw [e]

theorem zero_at (y : S1024x1024.Idx) : k0_pay1 (F := Ideal) y = (0 : EReal) := by
  pointwise [k0_pay1]

include hg hu hw in
/-- The scratch after a grid point: the parts so far. -/
theorem scratch (t : Fin cfg0.N) (y : S1024x1024.Idx) : ((outsAt0 m c t.val t.isLt).2 : S1024x1024.Idx → EReal) y
    = ∑ s ∈ Finset.range (t.val % 4 + 1), part g u w s (t.val / 4 * 1024 + (y 0).val) (y 1).val := by
  refine (Pipeline.eq_sum_of_reset_step_apply_divmod (M := EReal) (N := cfg0.N) (ι := S1024x1024.Idx) (fun n h => (outsAt0 m c n h).2) 4 (fun _ => 0)
    (fun q s y => part g u w s (q * 1024 + (y 0).val) (y 1).val) (fun t h y => ?_) (fun t h y => ?_) t y).trans (zero_add _)
  · rw [outsAt0_A m c t h (by omega) (by omega) (by omega)]
    frame_out
    rw [add_gate (u := u) hg hw t (by omega), zero_at]
  · by_cases h1 : t.val % 4 ≤ 1
    · rw [outsAt0_B m c t h h1 (by omega) (by omega)]
      frame_out
      rw [add_gate (u := u) hg hw t h1]
      exact congrArg (· + _) (congrFun (read_unread_whole (Val := Elt Ideal) cc0_scratch0 (Memref.isWhole_whole _) ((outsAt0 m c (t.val - 1) _).2)) y)
    · by_cases h3 : t.val % 4 = 3
      · rw [outsAt0_D m c t h h1 (by omega) h3]
        frame_out
        rw [add_up (g := g) hu hw t (by omega)]
        exact congrArg (· + _) (congrFun (read_unread_whole (Val := Elt Ideal) cc0_scratch0 (Memref.isWhole_whole _) ((outsAt0 m c (t.val - 1) _).2)) y)
      · rw [outsAt0_C m c t h h1 (by omega) h3]
        frame_out
        rw [add_up (g := g) hu hw t (by omega)]
        exact congrArg (· + _) (congrFun (read_unread_whole (Val := Elt Ideal) cc0_scratch0 (Memref.isWhole_whole _) ((outsAt0 m c (t.val - 1) _).2)) y)

/-- What the last point of a run writes is the scratch. -/
theorem written (t : Fin cfg0.N) (h3 : t.val % 4 = 3) (y : S1024x1024.Idx) :
    ((outsAt0 m c t.val t.isLt).1 : S1024x1024.Idx → EReal) y = ((outsAt0 m c t.val t.isLt).2 : S1024x1024.Idx → EReal) y := by
  rw [outsAt0_D m c t (by omega) (by omega) (by omega) h3]
  frame_out

include hg hu hw in
/-- The array of the gradient. -/
theorem array : (dats m 0 c).arrAt 4 cfg0.N = fun i : S8192x1024.Idx => grad g u w (i 0).val (i 1).val := by
  refine (dats m 0 c).arrAt_eq_of_covers 4
    (fun i : S8192x1024.Idx => grad g u w (i 0).val (i 1).val) (by decide +kernel) (fun t hf y => ?_)
  have h3 : t.val % 4 = 3 := (flush0_4 t).mp hf
  blk_simp
  rw [after0_4]
  refine (written t h3 y).trans ((scratch hg hu hw t y).trans ?_)
  rw [h3]
  refine (sum_blocks (fun k => both g u _ k * w _ k) 4 1408).trans ?_
  blk_simp [index4 t]
  rfl

end Cert.FfnDx

end
-- ==== Proof.FfnDxRef.lean ====
/-
  The reference of the input's gradient, read at an entry.
-/
module

public import proofs.«01_k».proof.Proof.FfnDxTile
public import proofs.«01_k».proof.Proof.Gen.Reference5Ideal.Run
public import proofs.«01_k».proof.Proof.Gen.Reference5Ideal.Read

@[expose] public section

set_option maxRecDepth 16384
set_option backward.isDefEq.respectTransparency false

noncomputable section

namespace Cert.FfnDx.Ref

open Idealize.ShloMosaic Idealize.ShloMosaic.TcCoe Idealize.SL.Sem
open Cert.Reference5Ideal Cert.Reference5Ideal.Read Cert.FfnDx
open scoped BigOperators

variable {x0 x1 : (⟨S8192x2816, .bf16⟩ : BufTy).Contents (Elt Ideal)} {x2 : (⟨S1024x5632, .bf16⟩ : BufTy).Contents (Elt Ideal)}
  {g u w : ℕ → ℕ → EReal}
variable (h0 : ∀ i : S8192x2816.Idx, x0 i = g (i 0).val (i 1).val) (h1 : ∀ i : S8192x2816.Idx, x1 i = u (i 0).val (i 1).val)
  (h2 : ∀ i : S1024x5632.Idx, x2 i = w (i 0).val (i 1).val)

include h0 h1 in
theorem both_at (i : S8192x5632.Idx) : val_main_v7 (F := Ideal) x0 x1 i = both g u (i 0).val (i 1).val := by
  have hi : (i 1).val < 5632 := (i 1).isLt
  unfold val_main_v7 both
  by_cases h : (i 1).val < 2816
  · rw [if_pos h]
    let j : S8192x2816.Idx := ValueIdx.ix2 (n0 := 8192) (n1 := 2816) ⟨(i 0).val, (i 0).isLt⟩ ⟨(i 1).val, h⟩
    have e : val_main_v5 (F := Ideal) x0 j = g (i 0).val (i 1).val := h0 j
    refine (concatenate_pair_apply_left (t := S8192x5632) (s₁ := S8192x2816) (s₂ := S8192x2816) 1 (val_main_v5 x0) (val_main_v6 x1)
      Gen.concatenates_S8192x2816_S8192x2816_S8192x5632_d1 i rfl j (fun b => match b with | ⟨0, _⟩ => rfl | ⟨1, _⟩ => rfl)).trans e
  · rw [if_neg h]
    let j : S8192x2816.Idx := ValueIdx.ix2 (n0 := 8192) (n1 := 2816) ⟨(i 0).val, (i 0).isLt⟩ ⟨(i 1).val - 2816, by omega⟩
    have e : val_main_v6 (F := Ideal) x1 j = u (i 0).val ((i 1).val - 2816) := h1 j
    refine (concatenate_pair_apply_right (t := S8192x5632) (s₁ := S8192x2816) (s₂ := S8192x2816) 1 (val_main_v5 x0) (val_main_v6 x1)
      Gen.concatenates_S8192x2816_S8192x2816_S8192x5632_d1 i rfl rfl j
      (fun b hb => match b, hb with | ⟨0, _⟩, _ => rfl | ⟨1, _⟩, hb => absurd rfl hb) (Nat.sub_add_cancel (Nat.le_of_not_lt h))).trans e

include h0 h1 h2 in
theorem grad_at (i : S8192x1024.Idx) : val_main_v8 (F := Ideal) x0 x1 x2 i = grad g u w (i 0).val (i 1).val := by
  rw [val_main_v8_apply]
  exact Finset.sum_congr rfl fun k _ => congrArg₂ (· * ·) (both_at h0 h1 _) (h2 _)

end Cert.FfnDx.Ref

end
-- ==== Proof.FfnDxValue.lean ====
/-
  The claims about the gradient of SwiGLU's input: kernel and reference compute the same sum; the frames.
-/
module

public import proofs.«01_k».proof.Defs
public import proofs.«01_k».proof.Proof.FfnDxTile
public import proofs.«01_k».proof.Proof.FfnDxRef
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import Idealize.ShloMosaic.Lib.Quiescent
public import Idealize.ShloMosaic.Adequacy
public import Idealize.ShloMosaic.Init

@[expose] public section

set_option maxRecDepth 16384
set_option backward.isDefEq.respectTransparency false

noncomputable section

namespace Cert.FfnDx

open Idealize.ShloMosaic Idealize.ShloMosaic.TcCoe Idealize.SL.Sem Cert.Blocks

section
open Cert.Kernel5Ideal

variable (m : (ℓ : Loc nD τ sig) → Buf (Elt Ideal) ℓ) (c : Dev nD)

/-- The gradient. -/
theorem same_4 : Cert.Reference5Ideal.Read.val_main_v8 (F := Ideal) (m ((c : Thread nD τ).loc main_arg0)) (m ((c : Thread nD τ).loc main_arg1)) (m ((c : Thread nD τ).loc main_arg2))
      = (Cert.Kernel5Ideal.Gen.dats m 0 c).arrAt 4 Cert.Kernel5Ideal.cfg0.N :=
  (funext fun i => Ref.grad_at (ent_at (a := 8192) (b := 2816) (m ((c : Thread nD τ).loc main_arg0))) (ent_at (a := 8192) (b := 2816) (m ((c : Thread nD τ).loc main_arg1))) (ent_at (a := 1024) (b := 5632) (m ((c : Thread nD τ).loc main_arg2))) i).trans
    (array (ent_at (a := 8192) (b := 2816) (m ((c : Thread nD τ).loc main_arg0))) (ent_at (a := 8192) (b := 2816) (m ((c : Thread nD τ).loc main_arg1))) (ent_at (a := 1024) (b := 5632) (m ((c : Thread nD τ).loc main_arg2)))).symm

end

section
open Cert.Reference5Ideal

variable (m : (ℓ : Loc nD τ sig) → Buf (Elt Ideal) ℓ) (ρ : Dev nD → PrngReg)

/-- The reference's run, its results as stages. -/
theorem run_stages : θ_run defs (onTc (τ := τ) (main (F := Ideal))) ⟨m, fun _ => 0, ρ⟩ fun r => ∀ c : Dev nD,
    r.2.mem ((c.tc : Thread nD τ).loc main_v8) = Read.val_main_v8 (F := Ideal) (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨((h c).1).trans (Read.val_main_v8_eq _ _ _), (h c).2⟩)
    (Cert.Reference5Ideal.Value.run m ρ)

end

/-- The value claim. -/
theorem algebraic : Cert.algebraic_Kernel5Ideal_Reference5Ideal := by
  intro m ρ m' ρ' hp hag
  refine ⟨fun c => (Cert.Kernel5Ideal.Gen.dats m 0 c).arrAt 4 Cert.Kernel5Ideal.cfg0.N, Cert.Kernel5Ideal.Value.run_blocks m ρ, ?_⟩
  refine (θ_run _ _ _).mono (fun r h c => ?_) (run_stages m' ρ')
  obtain ⟨h0, hk⟩ := h c
  obtain ⟨a0, a1, a2⟩ := hag c
  rw [a0, a1, a2] at h0
  exact ⟨h0.trans (same_4 m c), hk⟩

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (run_stages m ρ)

theorem preserves : Cert.preserves_Kernel5_Kernel5Ideal := trivial

end Cert.FfnDx

end
-- ==== Proof.FfnOutTile.lean ====
/-
  The sub-layer's last lines: SwiGLU's output projection, summed in two blocks held in a scratch, gated, onto the residual.
-/
module

public import proofs.«01_k».proof.Proof.Blocks
public import proofs.«01_k».proof.Proof.Gen.Kernel6Ideal.Frame
public import proofs.«01_k».proof.Proof.Gen.Kernel6Ideal.Value
public import Idealize.ShloMosaic.Lib.Pipeline.ValueKit
public import Idealize.ShloMosaic.Lib.Pipeline.ReadBack

@[expose] public section

set_option maxRecDepth 16384
set_option backward.isDefEq.respectTransparency false

noncomputable section

namespace Cert.FfnOut

open Idealize.ShloMosaic Idealize.ShloMosaic.TcCoe Idealize.SL.Sem Cert.Kernel6Ideal Cert.Kernel6Ideal.Gen Cert.Blocks
open scoped BigOperators

/-- An entry of the result: the residual plus the gated projection. -/
def out (a w s x : ℕ → ℕ → EReal) (r j : ℕ) : EReal := x r j + s 0 j * ∑ k : Fin 2816, a r k * w k j

/-- A block's part of the projection: the columns of a from 1408 q on. -/
def part (a w : ℕ → ℕ → EReal) (q r j : ℕ) : EReal := ∑ k : Fin 1408, a r (q * 1408 + k) * w (q * 1408 + k) j

theorem part_at {x0 : Vec Ideal S1024x1408 .bf16} {x1 : Vec Ideal S1408x1024 .bf16} {a w : ℕ → ℕ → EReal}
    (h0 : ∀ i : S1024x1408.Idx, x0 i = a (i 0).val (i 1).val) (h1 : ∀ i : S1408x1024.Idx, x1 i = w (i 0).val (i 1).val)
    (y : S1024x1024.Idx) : k0_pay1 (F := Ideal) x0 x1 y = ∑ k : Fin 1408, a (y 0).val k * w k (y 1).val := by
  pointwise [k0_pay1]
  exact Finset.sum_congr rfl fun k _ => congrArg₂ (· * ·) (h0 _) (h1 _)

theorem gated_at {x2 : Vec Ideal S1x1024 .f32} {s : ℕ → ℕ → EReal} (h2 : ∀ i : S1x1024.Idx, x2 i = s 0 (i 1).val)
    (acc x3 : Vec Ideal S1024x1024 .f32) (y : S1024x1024.Idx) :
    k0_pay4 (F := Ideal) acc x2 x3 y = acc y * s 0 (y 1).val + x3 y := by
  pointwise [k0_pay4]
  exact congrArg (fun z => acc y * z + x3 y) (h2 _)

theorem index0 : ∀ t : Fin cfg0.N, win0_0.index t = ![t.val / 2, t.val % 2] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val / 2, 0] := (by decide +kernel : ∀ t : Fin grid0.N, _)
theorem index4 : ∀ t : Fin cfg0.N, win0_4.index t = ![t.val / 2, 0] := (by decide +kernel : ∀ t : Fin grid0.N, _)

variable (m : (ℓ : Loc nD τ sig) → Buf (Elt Ideal) ℓ) (c : Dev nD)

/-- A window's block reads what its array holds. -/
theorem read_blk (w : Fin cfg0.W) (t : Fin cfg0.N) (f : Buf (Elt Ideal) ((c : Thread nD τ).loc (Pipeline.arrRef spec0 w)))
    (h : V m c (Pipeline.arrRef spec0 w) = f) (x : ((cfg0.win w).xblock (cfg0.grid.coords t)).Idx) :
    iblk m c w t x = ((cfg0.win w).blk t).view.read (Elt Ideal) f x := by
  subst h
  rfl

variable {m c} {a w s x : ℕ → ℕ → EReal}
variable (ha : ∀ i : S8192x2816.Idx, m ((c : Thread nD τ).loc main_arg0) i = a (i 0).val (i 1).val)
  (hw : ∀ i : S2816x1024.Idx, m ((c : Thread nD τ).loc main_arg1) i = w (i 0).val (i 1).val)
  (hs : ∀ i : S1x1024.Idx, m ((c : Thread nD τ).loc main_arg2) i = s (i 0).val (i 1).val)
  (hx : ∀ i : S8192x1024.Idx, m ((c : Thread nD τ).loc main_arg3) i = x (i 0).val (i 1).val)

include ha in
/-- The block of window 0 at a grid point. -/
theorem blk0 (t : Fin cfg0.N) (x : S1024x1408.Idx) : (iblk m c 0 t : S1024x1408.Idx → EReal) x = a (t.val / 2 * 1024 + (x 0).val) (t.val % 2 * 1408 + (x 1).val) := by
  refine (read_blk m c 0 t (fun i : S8192x2816.Idx => a (i 0).val (i 1).val) (funext ha) x).trans (congrArg₂ a ?_ ?_) <;>
    blk_simp [index0 t] <;> omega

include hw in
/-- The block of window 1 at a grid point. -/
theorem blk1 (t : Fin cfg0.N) (x : S1408x1024.Idx) : (iblk m c 1 t : S1408x1024.Idx → EReal) x = w (t.val % 2 * 1408 + (x 0).val) (x 1).val := by
  refine (read_blk m c 1 t (fun i : S2816x1024.Idx => w (i 0).val (i 1).val) (funext hw) x).trans (congrArg₂ w ?_ ?_) <;>
    blk_simp [index1 t] <;> omega

include hs in
/-- The block of window 2 at a grid point. -/
theorem blk2 (t : Fin cfg0.N) (z : S1x1024.Idx) : (iblk m c 2 t : S1x1024.Idx → EReal) z = s 0 (z 1).val := by
  have hz : (z 0).val < 1 := (z 0).isLt
  refine (read_blk m c 2 t (fun i : S1x1024.Idx => s (i 0).val (i 1).val) (funext hs) z).trans (congrArg₂ s ?_ ?_) <;>
    blk_simp [index2 t] <;> omega

include hx in
/-- The block of window 3 at a grid point. -/
theorem blk3 (t : Fin cfg0.N) (z : S1024x1024.Idx) : (iblk m c 3 t : S1024x1024.Idx → EReal) z = x (t.val / 2 * 1024 + (z 0).val) (z 1).val := by
  refine (read_blk m c 3 t (fun i : S8192x1024.Idx => x (i 0).val (i 1).val) (funext hx) z).trans (congrArg₂ x ?_ ?_) <;>
    blk_simp [index3 t] <;> omega

include ha hw in
/-- A grid point's part. -/
theorem part_blk (t : Fin cfg0.N) (y : S1024x1024.Idx) : k0_pay1 (F := Ideal) (iblk m c 0 t) (iblk m c 1 t) y
    = part a w (t.val % 2) (t.val / 2 * 1024 + (y 0).val) (y 1).val :=
  part_at (a := fun r k => a (t.val / 2 * 1024 + r) (t.val % 2 * 1408 + k)) (w := fun k j => w (t.val % 2 * 1408 + k) j) (blk0 ha t) (blk1 hw t) y

include ha hw in
/-- The scratch after a grid point: the parts so far. -/
theorem scratch (t : Fin cfg0.N) (y : S1024x1024.Idx) : ((outsAt0 m c t.val t.isLt).2 : S1024x1024.Idx → EReal) y
    = ∑ q ∈ Finset.range (t.val % 2 + 1), part a w q (t.val / 2 * 1024 + (y 0).val) (y 1).val := by
  refine (Pipeline.eq_sum_of_reset_step_apply_divmod (M := EReal) (N := cfg0.N) (ι := S1024x1024.Idx) (fun n h => (outsAt0 m c n h).2) 2 (fun _ => 0)
    (fun p q y => part a w q (p * 1024 + (y 0).val) (y 1).val) (fun t h y => ?_) (fun t h y => ?_) t y).trans (zero_add _)
  · rw [outsAt0_A m c t h (by omega) (by omega)]
    frame_out
    rw [zero_add, ← part_blk ha hw]
    pointwise [k0_pay2]
  · rw [outsAt0_B m c t h (by omega) (by omega)]
    frame_out
    rw [← part_blk ha hw]
    pointwise [k0_pay3]
    exact congrArg (· + _) (congrFun (read_unread_whole (Val := Elt Ideal) cc0_scratch0 (Memref.isWhole_whole _) ((outsAt0 m c (t.val - 1) _).2)) y)

include hs in
/-- What the last point of a run writes: the scratch, gated, onto the residual's block. -/
theorem written (t : Fin cfg0.N) (h : t.val % 2 = 1) (y : S1024x1024.Idx) : ((outsAt0 m c t.val t.isLt).1 : S1024x1024.Idx → EReal) y
    = ((outsAt0 m c t.val t.isLt).2 : S1024x1024.Idx → EReal) y * s 0 (y 1).val + (iblk m c 3 t : S1024x1024.Idx → EReal) y := by
  rw [outsAt0_B m c t (by omega) h h]
  frame_out
  exact gated_at (blk2 hs t) _ _ y

include ha hw hs hx in
/-- The array of the result. -/
theorem array : (dats m 0 c).arrAt 4 cfg0.N = fun i : S8192x1024.Idx => out a w s x (i 0).val (i 1).val := by
  refine (dats m 0 c).arrAt_eq_of_covers 4
    (fun i : S8192x1024.Idx => out a w s x (i 0).val (i 1).val) (by decide +kernel) (fun t hf y => ?_)
  have h : t.val % 2 = 1 := (flush0_4 t).mp hf
  blk_simp
  rw [after0_4]
  refine ((written hs t h y).trans (congrArg₂ (fun p q => p * _ + q) (scratch ha hw t y) (blk3 hx t y))).trans ?_
  rw [h, mul_comm, add_comm]
  refine (congrArg (fun z => _ + _ * z) (sum_blocks (fun k => a _ k * w k _) 2 1408)).trans ?_
  blk_simp [index4 t]
  rfl

end Cert.FfnOut

end
-- ==== Proof.FfnOutRef.lean ====
/-
  The reference of the sub-layer's last lines, read at an entry.
-/
module

public import proofs.«01_k».proof.Proof.FfnOutTile
public import proofs.«01_k».proof.Proof.Gen.Reference6Ideal.Run
public import proofs.«01_k».proof.Proof.Gen.Reference6Ideal.Read

@[expose] public section

set_option maxRecDepth 16384
set_option backward.isDefEq.respectTransparency false

noncomputable section

namespace Cert.FfnOut.Ref

open Idealize.ShloMosaic Idealize.ShloMosaic.TcCoe Idealize.SL.Sem
open Cert.Reference6Ideal Cert.Reference6Ideal.Read Cert.FfnOut
open scoped BigOperators

variable {x0 : (⟨S8192x2816, .bf16⟩ : BufTy).Contents (Elt Ideal)} {x1 : (⟨S2816x1024, .bf16⟩ : BufTy).Contents (Elt Ideal)} {x2 : (⟨S1x1024, .f32⟩ : BufTy).Contents (Elt Ideal)} {x3 : (⟨S8192x1024, .f32⟩ : BufTy).Contents (Elt Ideal)} {a w s x : ℕ → ℕ → EReal}
variable (h0 : ∀ i : S8192x2816.Idx, x0 i = a (i 0).val (i 1).val) (h1 : ∀ i : S2816x1024.Idx, x1 i = w (i 0).val (i 1).val) (h2 : ∀ i : S1x1024.Idx, x2 i = s (i 0).val (i 1).val) (h3 : ∀ i : S8192x1024.Idx, x3 i = x (i 0).val (i 1).val)

include h0 h1 h2 h3 in
theorem out_at (i : S8192x1024.Idx) : val_main_v5 (F := Ideal) x0 x1 x2 x3 i = out a w s x (i 0).val (i 1).val := by
  pointwise [val_main_v5, val_main_v4]
  rw [val_main_v2_apply, val_main_v3_apply]
  refine congrArg₂ (· + ·) (h3 i) (congrArg₂ (· * ·) (h2 _) ?_)
  exact Finset.sum_congr rfl fun k _ => congrArg₂ (· * ·) (h0 _) (h1 _)

end Cert.FfnOut.Ref

end
-- ==== Proof.FfnOutValue.lean ====
/-
  The claims about the sub-layer's last lines: kernel and reference compute the same array; the frames.
-/
module

public import proofs.«01_k».proof.Defs
public import proofs.«01_k».proof.Proof.FfnOutTile
public import proofs.«01_k».proof.Proof.FfnOutRef
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import Idealize.ShloMosaic.Lib.Quiescent
public import Idealize.ShloMosaic.Adequacy
public import Idealize.ShloMosaic.Init

@[expose] public section

set_option maxRecDepth 16384
set_option backward.isDefEq.respectTransparency false

noncomputable section

namespace Cert.FfnOut

open Idealize.ShloMosaic Idealize.ShloMosaic.TcCoe Idealize.SL.Sem Cert.Blocks

section
open Cert.Kernel6Ideal

variable (m : (ℓ : Loc nD τ sig) → Buf (Elt Ideal) ℓ) (c : Dev nD)

/-- The result. -/
theorem same_4 : Cert.Reference6Ideal.Read.val_main_v5 (F := Ideal) (m ((c : Thread nD τ).loc main_arg0)) (m ((c : Thread nD τ).loc main_arg1)) (m ((c : Thread nD τ).loc main_arg2)) (m ((c : Thread nD τ).loc main_arg3))
      = (Cert.Kernel6Ideal.Gen.dats m 0 c).arrAt 4 Cert.Kernel6Ideal.cfg0.N :=
  (funext fun i => Ref.out_at (ent_at (a := 8192) (b := 2816) (m ((c : Thread nD τ).loc main_arg0))) (ent_at (a := 2816) (b := 1024) (m ((c : Thread nD τ).loc main_arg1))) (ent_at (a := 1) (b := 1024) (m ((c : Thread nD τ).loc main_arg2))) (ent_at (a := 8192) (b := 1024) (m ((c : Thread nD τ).loc main_arg3))) i).trans
    (array (ent_at (a := 8192) (b := 2816) (m ((c : Thread nD τ).loc main_arg0))) (ent_at (a := 2816) (b := 1024) (m ((c : Thread nD τ).loc main_arg1))) (ent_at (a := 1) (b := 1024) (m ((c : Thread nD τ).loc main_arg2))) (ent_at (a := 8192) (b := 1024) (m ((c : Thread nD τ).loc main_arg3)))).symm

end

section
open Cert.Reference6Ideal

variable (m : (ℓ : Loc nD τ sig) → Buf (Elt Ideal) ℓ) (ρ : Dev nD → PrngReg)

/-- The reference's run, its results as stages. -/
theorem run_stages : θ_run defs (onTc (τ := τ) (main (F := Ideal))) ⟨m, fun _ => 0, ρ⟩ fun r => ∀ c : Dev nD,
    r.2.mem ((c.tc : Thread nD τ).loc main_v5) = Read.val_main_v5 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨((h c).1).trans (Read.val_main_v5_eq _ _ _ _), (h c).2⟩)
    (Cert.Reference6Ideal.Value.run m ρ)

end

/-- The value claim. -/
theorem algebraic : Cert.algebraic_Kernel6Ideal_Reference6Ideal := by
  intro m ρ m' ρ' hp hag
  refine ⟨fun c => (Cert.Kernel6Ideal.Gen.dats m 0 c).arrAt 4 Cert.Kernel6Ideal.cfg0.N, Cert.Kernel6Ideal.Value.run_blocks m ρ, ?_⟩
  refine (θ_run _ _ _).mono (fun r h c => ?_) (run_stages m' ρ')
  obtain ⟨h0, hk⟩ := h c
  obtain ⟨a0, a1, a2, a3⟩ := hag c
  rw [a0, a1, a2, a3] at h0
  exact ⟨h0.trans (same_4 m c), hk⟩

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (run_stages m ρ)

theorem preserves : Cert.preserves_Kernel6_Kernel6Ideal := trivial

end Cert.FfnOut

end
-- ==== Proof.FfnDoTile.lean ====
/-
  The gradient of SwiGLU's output projection before its gain: the product of the transposed activations with the output's gradient,
  summed over the rows in eight blocks held in a scratch.
-/
module

public import proofs.«01_k».proof.Proof.Blocks
public import proofs.«01_k».proof.Proof.Gen.Kernel7Ideal.Frame
public import proofs.«01_k».proof.Proof.Gen.Kernel7Ideal.Value
public import Idealize.ShloMosaic.Lib.Pipeline.ValueKit
public import Idealize.ShloMosaic.Lib.Pipeline.ReadBack

@[expose] public section

set_option maxRecDepth 16384
set_option backward.isDefEq.respectTransparency false

noncomputable section

namespace Cert.FfnDo

open Idealize.ShloMosaic Idealize.ShloMosaic.TcCoe Idealize.SL.Sem Cert.Kernel7Ideal Cert.Kernel7Ideal.Gen Cert.Blocks
open scoped BigOperators

/-- An entry of the product over the rows. -/
def grad (a d : ℕ → ℕ → EReal) (k f : ℕ) : EReal := ∑ r : Fin 8192, a r k * d r f

/-- A block's part of the product: the rows from 1024 s on. -/
def part (a d : ℕ → ℕ → EReal) (s k f : ℕ) : EReal := ∑ r : Fin 1024, a (s * 1024 + r) k * d (s * 1024 + r) f

theorem part_at {x0 : Vec Ideal S1024x1408 .bf16} {x1 : Vec Ideal S1024x1024 .f32} {a d : ℕ → ℕ → EReal}
    (h0 : ∀ i : S1024x1408.Idx, x0 i = a (i 0).val (i 1).val) (h1 : ∀ i : S1024x1024.Idx, x1 i = d (i 0).val (i 1).val)
    (y : S1408x1024.Idx) : k0_pay1 (F := Ideal) x0 x1 y = ∑ r : Fin 1024, a r (y 0).val * d r (y 1).val := by
  pointwise [k0_pay1]
  exact Finset.sum_congr rfl fun k _ => congrArg₂ (· * ·) (h0 _) (h1 _)

theorem index0 : ∀ t : Fin cfg0.N, win0_0.index t = ![t.val % 8, t.val / 8] := (by decide +kernel : ∀ t : Fin grid0.N, _)
theorem index1 : ∀ t : Fin cfg0.N, win0_1.index t = ![t.val % 8, 0] := (by decide +kernel : ∀ t : Fin grid0.N, _)
theorem index2 : ∀ t : Fin cfg0.N, win0_2.index t = ![t.val / 8, 0] := (by decide +kernel : ∀ t : Fin grid0.N, _)

variable (m : (ℓ : Loc nD τ sig) → Buf (Elt Ideal) ℓ) (c : Dev nD)

/-- A window's block reads what its array holds. -/
theorem read_blk (w : Fin cfg0.W) (t : Fin cfg0.N) (f : Buf (Elt Ideal) ((c : Thread nD τ).loc (Pipeline.arrRef spec0 w)))
    (h : V m c (Pipeline.arrRef spec0 w) = f) (x : ((cfg0.win w).xblock (cfg0.grid.coords t)).Idx) :
    iblk m c w t x = ((cfg0.win w).blk t).view.read (Elt Ideal) f x := by
  subst h
  rfl

variable {m c} {a d : ℕ → ℕ → EReal}
variable (ha : ∀ i : S8192x2816.Idx, m ((c : Thread nD τ).loc main_arg0) i = a (i 0).val (i 1).val)
  (hd : ∀ i : S8192x1024.Idx, m ((c : Thread nD τ).loc main_arg1) i = d (i 0).val (i 1).val)

include ha in
/-- The block of window 0 at a grid point. -/
theorem blk0 (t : Fin cfg0.N) (x : S1024x1408.Idx) : (iblk m c 0 t : S1024x1408.Idx → EReal) x = a (t.val % 8 * 1024 + (x 0).val) (t.val / 8 * 1408 + (x 1).val) := by
  refine (read_blk m c 0 t (fun i : S8192x2816.Idx => a (i 0).val (i 1).val) (funext ha) x).trans (congrArg₂ a ?_ ?_) <;>
    blk_simp [index0 t] <;> omega

include hd in
/-- The block of window 1 at a grid point. -/
theorem blk1 (t : Fin cfg0.N) (x : S1024x1024.Idx) : (iblk m c 1 t : S1024x1024.Idx → EReal) x = d (t.val % 8 * 1024 + (x 0).val) (x 1).val := by
  refine (read_blk m c 1 t (fun i : S8192x1024.Idx => d (i 0).val (i 1).val) (funext hd) x).trans (congrArg₂ d ?_ ?_) <;>
    blk_simp [index1 t] <;> omega

include ha hd in
/-- A grid point's part. -/
theorem part_blk (t : Fin cfg0.N) (y : S1408x1024.Idx) : k0_pay1 (F := Ideal) (iblk m c 0 t) (iblk m c 1 t) y
    = part a d (t.val % 8) (t.val / 8 * 1408 + (y 0).val) (y 1).val :=
  part_at (a := fun r k => a (t.val % 8 * 1024 + r) (t.val / 8 * 1408 + k)) (d := fun r f => d (t.val % 8 * 1024 + r) f) (blk0 ha t) (blk1 hd t) y

include ha hd in
/-- The scratch after a grid point: the parts so far. -/
theorem scratch (t : Fin cfg0.N) (y : S1408x1024.Idx) : ((outsAt0 m c t.val t.isLt).2 : S1408x1024.Idx → EReal) y
    = ∑ s ∈ Finset.range (t.val % 8 + 1), part a d s (t.val / 8 * 1408 + (y 0).val) (y 1).val := by
  refine (Pipeline.eq_sum_of_reset_step_apply_divmod (M := EReal) (N := cfg0.N) (ι := S1408x1024.Idx) (fun n h => (outsAt0 m c n h).2) 8 (fun _ => 0)
    (fun q s y => part a d s (q * 1408 + (y 0).val) (y 1).val) (fun t h y => ?_) (fun t h y => ?_) t y).trans (zero_add _)
  · rw [outsAt0_A m c t h (by omega) (by omega)]
    frame_out
    rw [zero_add, ← part_blk ha hd]
    pointwise [k0_pay2]
  · by_cases h3 : t.val % 8 = 7
    · rw [outsAt0_C m c t h (by omega) h3]
      frame_out
      rw [← part_blk ha hd]
      pointwise [k0_pay3]
      exact congrArg (· + _) (congrFun (read_unread_whole (Val := Elt Ideal) cc0_scratch0 (Memref.isWhole_whole _) ((outsAt0 m c (t.val - 1) _).2)) y)
    · rw [outsAt0_B m c t h (by omega) h3]
      frame_out
      rw [← part_blk ha hd]
      pointwise [k0_pay3]
      exact congrArg (· + _) (congrFun (read_unread_whole (Val := Elt Ideal) cc0_scratch0 (Memref.isWhole_whole _) ((outsAt0 m c (t.val - 1) _).2)) y)

/-- What the last point of a run writes is the scratch. -/
theorem written (t : Fin cfg0.N) (h3 : t.val % 8 = 7) (y : S1408x1024.Idx) :
    ((outsAt0 m c t.val t.isLt).1 : S1408x1024.Idx → EReal) y = ((outsAt0 m c t.val t.isLt).2 : S1408x1024.Idx → EReal) y := by
  rw [outsAt0_C m c t (by omega) (by omega) h3]
  frame_out

include ha hd in
/-- The array of the gradient. -/
theorem array : (dats m 0 c).arrAt 2 cfg0.N = fun i : S2816x1024.Idx => grad a d (i 0).val (i 1).val := by
  refine (dats m 0 c).arrAt_eq_of_covers 2
    (fun i : S2816x1024.Idx => grad a d (i 0).val (i 1).val) (by decide +kernel) (fun t hf y => ?_)
  have h3 : t.val % 8 = 7 := (flush0_2 t).mp hf
  blk_simp
  rw [after0_2]
  refine (written t h3 y).trans ((scratch ha hd t y).trans ?_)
  rw [h3]
  refine (sum_blocks (fun r => a r _ * d r _) 8 1024).trans ?_
  blk_simp [index2 t]
  rfl

end Cert.FfnDo

end
-- ==== Proof.FfnDoRef.lean ====
/-
  The reference of the output projection's gradient, read at an entry.
-/
module

public import proofs.«01_k».proof.Proof.FfnDoTile
public import proofs.«01_k».proof.Proof.Gen.Reference7Ideal.Run
public import proofs.«01_k».proof.Proof.Gen.Reference7Ideal.Read

@[expose] public section

set_option maxRecDepth 16384
set_option backward.isDefEq.respectTransparency false

noncomputable section

namespace Cert.FfnDo.Ref

open Idealize.ShloMosaic Idealize.ShloMosaic.TcCoe Idealize.SL.Sem
open Cert.Reference7Ideal Cert.Reference7Ideal.Read Cert.FfnDo
open scoped BigOperators

variable {x0 : (⟨S8192x2816, .bf16⟩ : BufTy).Contents (Elt Ideal)} {x1 : (⟨S8192x1024, .f32⟩ : BufTy).Contents (Elt Ideal)} {a d : ℕ → ℕ → EReal}
variable (h0 : ∀ i : S8192x2816.Idx, x0 i = a (i 0).val (i 1).val) (h1 : ∀ i : S8192x1024.Idx, x1 i = d (i 0).val (i 1).val)

include h0 h1 in
theorem grad_at (i : S2816x1024.Idx) : val_main_v4 (F := Ideal) x0 x1 i = grad a d (i 0).val (i 1).val := by
  rw [val_main_v4_apply]
  refine (val_main_v3_apply x0 x1 _).trans ?_
  exact Finset.sum_congr rfl fun k _ => (congrArg₂ (· * ·) (h1 _) (h0 _)).trans (mul_comm _ _)

end Cert.FfnDo.Ref

end
-- ==== Proof.FfnDoValue.lean ====
/-
  The claims about the gradient of SwiGLU's output projection: kernel and reference compute the same product; the frames.
-/
module

public import proofs.«01_k».proof.Defs
public import proofs.«01_k».proof.Proof.FfnDoTile
public import proofs.«01_k».proof.Proof.FfnDoRef
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import Idealize.ShloMosaic.Lib.Quiescent
public import Idealize.ShloMosaic.Adequacy
public import Idealize.ShloMosaic.Init

@[expose] public section

set_option maxRecDepth 16384
set_option backward.isDefEq.respectTransparency false

noncomputable section

namespace Cert.FfnDo

open Idealize.ShloMosaic Idealize.ShloMosaic.TcCoe Idealize.SL.Sem Cert.Blocks

section
open Cert.Kernel7Ideal

variable (m : (ℓ : Loc nD τ sig) → Buf (Elt Ideal) ℓ) (c : Dev nD)

/-- The gradient. -/
theorem same_2 : Cert.Reference7Ideal.Read.val_main_v4 (F := Ideal) (m ((c : Thread nD τ).loc main_arg0)) (m ((c : Thread nD τ).loc main_arg1))
      = (Cert.Kernel7Ideal.Gen.dats m 0 c).arrAt 2 Cert.Kernel7Ideal.cfg0.N :=
  (funext fun i => Ref.grad_at (ent_at (a := 8192) (b := 2816) (m ((c : Thread nD τ).loc main_arg0))) (ent_at (a := 8192) (b := 1024) (m ((c : Thread nD τ).loc main_arg1))) i).trans
    (array (ent_at (a := 8192) (b := 2816) (m ((c : Thread nD τ).loc main_arg0))) (ent_at (a := 8192) (b := 1024) (m ((c : Thread nD τ).loc main_arg1)))).symm

end

section
open Cert.Reference7Ideal

variable (m : (ℓ : Loc nD τ sig) → Buf (Elt Ideal) ℓ) (ρ : Dev nD → PrngReg)

/-- The reference's run, its results as stages. -/
theorem run_stages : θ_run defs (onTc (τ := τ) (main (F := Ideal))) ⟨m, fun _ => 0, ρ⟩ fun r => ∀ c : Dev nD,
    r.2.mem ((c.tc : Thread nD τ).loc main_v4) = Read.val_main_v4 (F := Ideal) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨((h c).1).trans (Read.val_main_v4_eq _ _), (h c).2⟩)
    (Cert.Reference7Ideal.Value.run m ρ)

end

/-- The value claim. -/
theorem algebraic : Cert.algebraic_Kernel7Ideal_Reference7Ideal := by
  intro m ρ m' ρ' hp hag
  refine ⟨fun c => (Cert.Kernel7Ideal.Gen.dats m 0 c).arrAt 2 Cert.Kernel7Ideal.cfg0.N, Cert.Kernel7Ideal.Value.run_blocks m ρ, ?_⟩
  refine (θ_run _ _ _).mono (fun r h c => ?_) (run_stages m' ρ')
  obtain ⟨h0, hk⟩ := h c
  obtain ⟨a0, a1⟩ := hag c
  rw [a0, a1] at h0
  exact ⟨h0.trans (same_2 m c), hk⟩

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2,
      Idealize.ShloMosaic.sem_eq_zero_of_no_sems (by decide) r.2⟩)
    (run_stages m ρ)

theorem preserves : Cert.preserves_Kernel7_Kernel7Ideal := trivial

end Cert.FfnDo

end
-- ==== Proof.AttnInTile.lean ====
/-
  The projection of the attention's q, k and v.
-/
module

public import proofs.«01_k».proof.Proof.Blocks
public import proofs.«01_k».proof.Proof.Gen.Kernel8Ideal.Frame
public import proofs.«01_k».proof.Proof.Gen.Kernel8Ideal.Value
public import Idealize.ShloMosaic.Lib.Pipeline.ValueKit

@[expose] public section

set_option maxRecDepth 16384
set_option backward.isDefEq.respectTransparency false

noncomputable section

namespace Cert.AttnIn

open Idealize.ShloMosaic Idealize.ShloMosaic.TcCoe Idealize.SL.Sem Cert.Kernel8Ideal Cert.Kernel8Ideal.Gen Cert.Blocks
open scoped BigOperators

/-- An entry of the projection. -/
def proj (a w : ℕ → ℕ → EReal) (r f : ℕ) : EReal := ∑ k : Fin 1024, a r k * w k f

theorem proj_at {x0 : Vec Ideal S1024x1024 .bf16} {x1 : Vec Ideal S1024x1536 .bf16} {a w : ℕ → ℕ → EReal}
    (h0 : ∀ i : S1024x1024.Idx, x0 i = a (i 0).val (i 1).val) (h1 : ∀ i : S1024x1536.Idx, x1 i = w (i 0).val (i 1).val)
    (y : S1024x1536.Idx) : k0_pay1 (F := Ideal) x0 x1 y = proj a w (y 0).val (y 1).val := by
  pointwise [k0_pay1]
  exact Finset.sum_congr rfl fun k _ => congrArg₂ (· * ·) (h0 _) (h1 _)

theorem out_eq (x0 : Vec Ideal S1024x1024 .bf16) (x1 : Vec Ideal S1024x1536 .bf16) : out0_2 x0 x1 = k0_pay1 x0 x1 := by
  frame_out

theorem index0 : ∀ t : Fin cfg0.N, win0_0.index t = ![t.val / 3, 0] := (by decide +kernel : ∀ t : Fin grid0.N, _)
theorem index1 : ∀ t : Fin cfg0.N, win0_1.index t = ![0, t.val % 3] := (by decide +kernel : ∀ t : Fin grid0.N, _)
theorem index2 : ∀ t : Fin cfg0.N, win0_2.index t = ![t.val / 3, t.val % 3] := (by decide +kernel : ∀ t : Fin grid0.N, _)

variable (m : (ℓ : Loc nD τ sig) → Buf (Elt Ideal) ℓ) (c : Dev nD)

/-- A window's block reads what its array holds. -/
theorem read_blk (w : Fin cfg0.W) (t : Fin cfg0.N) (f : Buf (Elt Ideal) ((c : Thread nD τ).loc (Pipeline.arrRef spec0 w)))
    (h : V m c (Pipeline.arrRef spec0 w) = f) (x : ((cfg0.win w).xblock (cfg0.grid.coords t)).Idx) :
    iblk m c w t x = ((cfg0.win w).blk t).view.read (Elt Ideal) f x := by
  subst h
  rfl

variable {m c} {a w : ℕ → ℕ → EReal}
variable (ha : ∀ i : S8192x1024.Idx, m ((c : Thread nD τ).loc main_arg0) i = a (i 0).val (i 1).val)
  (hw : ∀ i : S1024x4608.Idx, m ((c : Thread nD τ).loc main_arg1) i = w (i 0).val (i 1).val)

include ha in
/-- The block of window 0 at a grid point. -/
theorem blk0 (t : Fin cfg0.N) (x : S1024x1024.Idx) : (iblk m c 0 t : S1024x1024.Idx → EReal) x = a (t.val / 3 * 1024 + (x 0).val) (x 1).val := by
  refine (read_blk m c 0 t (fun i : S8192x1024.Idx => a (i 0).val (i 1).val) (funext ha) x).trans (congrArg₂ a ?_ ?_) <;>
    blk_simp [index0 t] <;> omega

include hw in
/-- The block of window 1 at a grid point. -/
theorem blk1 (t : Fin cfg0.N) (x : S1024x1536.Idx) : (iblk m c 1 t : S1024x1536.Idx → EReal) x = w (x 0).val (t.val % 3 * 1536 + (x 1).val) := by
  refine (read_blk m c 1 t (fun i : S1024x4608.Idx => w (i 0).val (i 1).val) (funext hw) x).trans (congrArg₂ w ?_ ?_) <;>
    blk_simp [index1 t] <;> omega

include ha hw in
/-- The array of the projection. -/
theorem array : (dats m 0 c).arrAt 2 cfg0.N = fun i : S8192x4608.Idx => proj a w (i 0).val (i 1).val := by
  refine (dats m 0 c).arrAt_eq_of_covers 2
    (fun i : S8192x4608.Idx => proj a w (i 0).val (i 1).val) (by decide +kernel) (fun t hf y => ?_)
  blk_simp
  rw [after0_2, out_eq]
  refine (proj_at (a := fun r k => a (t.val / 3 * 1024 + r) k) (w := fun k f => w k (t.val % 3 * 1536 + f)) (blk0 ha t) (blk1 hw t) y).trans ?_
  blk_simp [index2 t]
  rfl

end Cert.AttnIn

end
-- ==== Proof.AttnInRef.lean ====
/-
  The reference of the projection, read at an entry.
-/
module

public import proofs.«01_k».proof.Proof.AttnInTile
public import proofs.«01_k».proof.Proof.Gen.Reference8Ideal.Run
public import proofs.«01_k».proof.Proof.Gen.Reference8Ideal.Read

@[expose] public section

set_option maxRecDepth 16384
set_option backward.isDefEq.respectTransparency false

noncomputable section

namespace Cert.AttnIn.Ref

open Idealize.ShloMosaic Idealize.ShloMosaic.TcCoe Idealize.SL.Sem
open Cert.Reference8Ideal Cert.Reference8Ideal.Read Cert.AttnIn
open scoped BigOperators

variable {x0 : (⟨S8192x1024, .bf16⟩ : BufTy).Contents (Elt Ideal)} {x1 : (⟨S1024x4608, .bf16⟩ : BufTy).Contents (Elt Ideal)} {a w : ℕ → ℕ → EReal}
variable (h0 : ∀ i : S8192x1024.Idx, x0 i = a (i 0).val (i 1).val) (h1 : ∀ i : S1024x4608.Idx, x1 i = w (i 0).val (i 1).val)

include h0 h1 in
theorem proj_at (i : S8192x4608.Idx) : val_main_v2 (F := Ideal) x0 x1 i = proj a w (i 0).val (i 1).val := by
  rw [val_main_v2_apply]
  exact Finset.sum_congr rfl fun k _ => congrArg₂ (· * ·) (h0 _) (h1 _)

end Cert.AttnIn.Ref

end
-- ==== Proof.AttnInValue.lean ====
/-
  The claims about the attention's projection: kernel and reference compute the same product; the frames.
-/
module

public import proofs.«01_k».proof.Defs
public import proofs.«01_k».proof.Proof.AttnInTile
public import proofs.«01_k».proof.Proof.AttnInRef
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import Idealize.ShloMosaic.Lib.Quiescent
public import Idealize.ShloMosaic.Adequacy
public import Idealize.ShloMosaic.Init

@[expose] public section

set_option maxRecDepth 16384
set_option backward.isDefEq.respectTransparency false

noncomputable section

namespace Cert.AttnIn

open Idealize.ShloMosaic Idealize.ShloMosaic.TcCoe Idealize.SL.Sem Cert.Blocks

section
open Cert.Kernel8Ideal

variable (m : (ℓ : Loc nD τ sig) → Buf (Elt Ideal) ℓ) (c : Dev nD)

/-- The projection. -/
theorem same_2 : Cert.Reference8Ideal.Read.val_main_v2 (F := Ideal) (m ((c : Thread nD τ).loc main_arg0)) (m ((c : Thread nD τ).loc main_arg1))
      = (Cert.Kernel8Ideal.Gen.dats m 0 c).arrAt 2 Cert.Kernel8Ideal.cfg0.N :=
  (funext fun i => Ref.proj_at (ent_at (a := 8192) (b := 1024) (m ((c : Thread nD τ).loc main_arg0))) (ent_at (a := 1024) (b := 4608) (m ((c : Thread nD τ).loc main_arg1))) i).trans
    (array (ent_at (a := 8192) (b := 1024) (m ((c : Thread nD τ).loc main_arg0))) (ent_at (a := 1024) (b := 4608) (m ((c : Thread nD τ).loc main_arg1)))).symm

end

section
open Cert.Reference8Ideal

variable (m : (ℓ : Loc nD τ sig) → Buf (Elt Ideal) ℓ) (ρ : Dev nD → PrngReg)

/-- The reference's run, its results as stages. -/
theorem run_stages : θ_run defs (onTc (τ := τ) (main (F := Ideal))) ⟨m, fun _ => 0, ρ⟩ fun r => ∀ c : Dev nD,
    r.2.mem ((c.tc : Thread nD τ).loc main_v2) = Read.val_main_v2 (F := Ideal) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨((h c).1).trans (Read.val_main_v2_eq _ _), (h c).2⟩)
    (Cert.Reference8Ideal.Value.run m ρ)

end

/-- The value claim. -/
theorem algebraic : Cert.algebraic_Kernel8Ideal_Reference8Ideal := by
  intro m ρ m' ρ' hp hag
  refine ⟨fun c => (Cert.Kernel8Ideal.Gen.dats m 0 c).arrAt 2 Cert.Kernel8Ideal.cfg0.N, Cert.Kernel8Ideal.Value.run_blocks m ρ, ?_⟩
  refine (θ_run _ _ _).mono (fun r h c => ?_) (run_stages m' ρ')
  obtain ⟨h0, hk⟩ := h c
  obtain ⟨a0, a1⟩ := hag c
  rw [a0, a1] at h0
  exact ⟨h0.trans (same_2 m c), hk⟩

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2,
      Idealize.ShloMosaic.sem_eq_zero_of_no_sems (by decide) r.2⟩)
    (run_stages m ρ)

theorem preserves : Cert.preserves_Kernel8_Kernel8Ideal := trivial

end Cert.AttnIn

end
-- ==== Proof.AttnDwTile.lean ====
/-
  The gradient of a third of the attention's input projection: the product of the transposed input with the gradient of q, k or v,
  summed over the rows in eight blocks held in a scratch.
-/
module

public import proofs.«01_k».proof.Proof.Blocks
public import proofs.«01_k».proof.Proof.Gen.Kernel9Ideal.Frame
public import proofs.«01_k».proof.Proof.Gen.Kernel9Ideal.Value
public import Idealize.ShloMosaic.Lib.Pipeline.ValueKit
public import Idealize.ShloMosaic.Lib.Pipeline.ReadBack

@[expose] public section

set_option maxRecDepth 16384
set_option backward.isDefEq.respectTransparency false

noncomputable section

namespace Cert.AttnDw

open Idealize.ShloMosaic Idealize.ShloMosaic.TcCoe Idealize.SL.Sem Cert.Kernel9Ideal Cert.Kernel9Ideal.Gen Cert.Blocks
open scoped BigOperators

/-- An entry of the product over the rows. -/
def grad (a d : ℕ → ℕ → EReal) (k f : ℕ) : EReal := ∑ r : Fin 8192, a r k * d r f

/-- A block's part of the product: the rows from 1024 s on. -/
def part (a d : ℕ → ℕ → EReal) (s k f : ℕ) : EReal := ∑ r : Fin 1024, a (s * 1024 + r) k * d (s * 1024 + r) f

theorem part_at {x0 : Vec Ideal S1024x1024 .bf16} {x1 : Vec Ideal S1024x768 .f32} {a d : ℕ → ℕ → EReal}
    (h0 : ∀ i : S1024x1024.Idx, x0 i = a (i 0).val (i 1).val) (h1 : ∀ i : S1024x768.Idx, x1 i = d (i 0).val (i 1).val)
    (y : S1024x768.Idx) : k0_pay1 (F := Ideal) x0 x1 y = ∑ r : Fin 1024, a r (y 0).val * d r (y 1).val := by
  pointwise [k0_pay1]
  exact Finset.sum_congr rfl fun k _ => congrArg₂ (· * ·) (h0 _) (h1 _)

theorem index0 : ∀ t : Fin cfg0.N, win0_0.index t = ![t.val % 8, 0] := (by decide +kernel : ∀ t : Fin grid0.N, _)
theorem index1 : ∀ t : Fin cfg0.N, win0_1.index t = ![t.val % 8, t.val / 8] := (by decide +kernel : ∀ t : Fin grid0.N, _)
theorem index2 : ∀ t : Fin cfg0.N, win0_2.index t = ![0, t.val / 8] := (by decide +kernel : ∀ t : Fin grid0.N, _)

variable (m : (ℓ : Loc nD τ sig) → Buf (Elt Ideal) ℓ) (c : Dev nD)

/-- A window's block reads what its array holds. -/
theorem read_blk (w : Fin cfg0.W) (t : Fin cfg0.N) (f : Buf (Elt Ideal) ((c : Thread nD τ).loc (Pipeline.arrRef spec0 w)))
    (h : V m c (Pipeline.arrRef spec0 w) = f) (x : ((cfg0.win w).xblock (cfg0.grid.coords t)).Idx) :
    iblk m c w t x = ((cfg0.win w).blk t).view.read (Elt Ideal) f x := by
  subst h
  rfl

variable {m c} {a d : ℕ → ℕ → EReal}
variable (ha : ∀ i : S8192x1024.Idx, m ((c : Thread nD τ).loc main_arg0) i = a (i 0).val (i 1).val)
  (hd : ∀ i : S8192x1536.Idx, m ((c : Thread nD τ).loc main_arg1) i = d (i 0).val (i 1).val)

include ha in
/-- The block of window 0 at a grid point. -/
theorem blk0 (t : Fin cfg0.N) (x : S1024x1024.Idx) : (iblk m c 0 t : S1024x1024.Idx → EReal) x = a (t.val % 8 * 1024 + (x 0).val) (x 1).val := by
  refine (read_blk m c 0 t (fun i : S8192x1024.Idx => a (i 0).val (i 1).val) (funext ha) x).trans (congrArg₂ a ?_ ?_) <;>
    blk_simp [index0 t] <;> omega

include hd in
/-- The block of window 1 at a grid point. -/
theorem blk1 (t : Fin cfg0.N) (x : S1024x768.Idx) : (iblk m c 1 t : S1024x768.Idx → EReal) x = d (t.val % 8 * 1024 + (x 0).val) (t.val / 8 * 768 + (x 1).val) := by
  refine (read_blk m c 1 t (fun i : S8192x1536.Idx => d (i 0).val (i 1).val) (funext hd) x).trans (congrArg₂ d ?_ ?_) <;>
    blk_simp [index1 t] <;> omega

include ha hd in
/-- A grid point's part. -/
theorem part_blk (t : Fin cfg0.N) (y : S1024x768.Idx) : k0_pay1 (F := Ideal) (iblk m c 0 t) (iblk m c 1 t) y
    = part a d (t.val % 8) (y 0).val (t.val / 8 * 768 + (y 1).val) :=
  part_at (a := fun r k => a (t.val % 8 * 1024 + r) k) (d := fun r f => d (t.val % 8 * 1024 + r) (t.val / 8 * 768 + f)) (blk0 ha t) (blk1 hd t) y

include ha hd in
/-- The scratch after a grid point: the parts so far. -/
theorem scratch (t : Fin cfg0.N) (y : S1024x768.Idx) : ((outsAt0 m c t.val t.isLt).2 : S1024x768.Idx → EReal) y
    = ∑ s ∈ Finset.range (t.val % 8 + 1), part a d s (y 0).val (t.val / 8 * 768 + (y 1).val) := by
  refine (Pipeline.eq_sum_of_reset_step_apply_divmod (M := EReal) (N := cfg0.N) (ι := S1024x768.Idx) (fun n h => (outsAt0 m c n h).2) 8 (fun _ => 0)
    (fun q s y => part a d s (y 0).val (q * 768 + (y 1).val)) (fun t h y => ?_) (fun t h y => ?_) t y).trans (zero_add _)
  · rw [outsAt0_A m c t h (by omega) (by omega)]
    frame_out
    rw [zero_add, ← part_blk ha hd]
    pointwise [k0_pay2]
  · by_cases h3 : t.val % 8 = 7
    · rw [outsAt0_C m c t h (by omega) h3]
      frame_out
      rw [← part_blk ha hd]
      pointwise [k0_pay3]
      exact congrArg (· + _) (congrFun (read_unread_whole (Val := Elt Ideal) cc0_scratch0 (Memref.isWhole_whole _) ((outsAt0 m c (t.val - 1) _).2)) y)
    · rw [outsAt0_B m c t h (by omega) h3]
      frame_out
      rw [← part_blk ha hd]
      pointwise [k0_pay3]
      exact congrArg (· + _) (congrFun (read_unread_whole (Val := Elt Ideal) cc0_scratch0 (Memref.isWhole_whole _) ((outsAt0 m c (t.val - 1) _).2)) y)

/-- What the last point of a run writes is the scratch. -/
theorem written (t : Fin cfg0.N) (h3 : t.val % 8 = 7) (y : S1024x768.Idx) :
    ((outsAt0 m c t.val t.isLt).1 : S1024x768.Idx → EReal) y = ((outsAt0 m c t.val t.isLt).2 : S1024x768.Idx → EReal) y := by
  rw [outsAt0_C m c t (by omega) (by omega) h3]
  frame_out
  pointwise [k0_pay4]

include ha hd in
/-- The array of the gradient. -/
theorem array : (dats m 0 c).arrAt 2 cfg0.N = fun i : S1024x1536.Idx => grad a d (i 0).val (i 1).val := by
  refine (dats m 0 c).arrAt_eq_of_covers 2
    (fun i : S1024x1536.Idx => grad a d (i 0).val (i 1).val) (by decide +kernel) (fun t hf y => ?_)
  have h3 : t.val % 8 = 7 := (flush0_2 t).mp hf
  blk_simp
  rw [after0_2]
  refine (written t h3 y).trans ((scratch ha hd t y).trans ?_)
  rw [h3]
  refine (sum_blocks (fun r => a r _ * d r _) 8 1024).trans ?_
  blk_simp [index2 t]
  rfl

end Cert.AttnDw

end
-- ==== Proof.AttnDwRef.lean ====
/-
  The reference of the attention projection's gradient, read at an entry.
-/
module

public import proofs.«01_k».proof.Proof.AttnDwTile
public import proofs.«01_k».proof.Proof.Gen.Reference9Ideal.Run
public import proofs.«01_k».proof.Proof.Gen.Reference9Ideal.Read

@[expose] public section

set_option maxRecDepth 16384
set_option backward.isDefEq.respectTransparency false

noncomputable section

namespace Cert.AttnDw.Ref

open Idealize.ShloMosaic Idealize.ShloMosaic.TcCoe Idealize.SL.Sem
open Cert.Reference9Ideal Cert.Reference9Ideal.Read Cert.AttnDw
open scoped BigOperators

variable {x0 : (⟨S8192x1024, .bf16⟩ : BufTy).Contents (Elt Ideal)} {x1 : (⟨S8192x1536, .f32⟩ : BufTy).Contents (Elt Ideal)} {a d : ℕ → ℕ → EReal}
variable (h0 : ∀ i : S8192x1024.Idx, x0 i = a (i 0).val (i 1).val) (h1 : ∀ i : S8192x1536.Idx, x1 i = d (i 0).val (i 1).val)

include h0 h1 in
theorem grad_at (i : S1024x1536.Idx) : val_main_v5 (F := Ideal) x0 x1 i = grad a d (i 0).val (i 1).val := by
  pointwise [val_main_v5]
  rw [val_main_v4_apply]
  refine (val_main_v3_apply x0 x1 _).trans ?_
  exact Finset.sum_congr rfl fun k _ => (congrArg₂ (· * ·) (h1 _) (h0 _)).trans (mul_comm _ _)

end Cert.AttnDw.Ref

end
-- ==== Proof.AttnDwValue.lean ====
/-
  The claims about the gradient of the attention's projection: kernel and reference compute the same product; the frames.
-/
module

public import proofs.«01_k».proof.Defs
public import proofs.«01_k».proof.Proof.AttnDwTile
public import proofs.«01_k».proof.Proof.AttnDwRef
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import Idealize.ShloMosaic.Lib.Quiescent
public import Idealize.ShloMosaic.Adequacy
public import Idealize.ShloMosaic.Init

@[expose] public section

set_option maxRecDepth 16384
set_option backward.isDefEq.respectTransparency false

noncomputable section

namespace Cert.AttnDw

open Idealize.ShloMosaic Idealize.ShloMosaic.TcCoe Idealize.SL.Sem Cert.Blocks

section
open Cert.Kernel9Ideal

variable (m : (ℓ : Loc nD τ sig) → Buf (Elt Ideal) ℓ) (c : Dev nD)

/-- The gradient. -/
theorem same_2 : Cert.Reference9Ideal.Read.val_main_v5 (F := Ideal) (m ((c : Thread nD τ).loc main_arg0)) (m ((c : Thread nD τ).loc main_arg1))
      = (Cert.Kernel9Ideal.Gen.dats m 0 c).arrAt 2 Cert.Kernel9Ideal.cfg0.N :=
  (funext fun i => Ref.grad_at (ent_at (a := 8192) (b := 1024) (m ((c : Thread nD τ).loc main_arg0))) (ent_at (a := 8192) (b := 1536) (m ((c : Thread nD τ).loc main_arg1))) i).trans
    (array (ent_at (a := 8192) (b := 1024) (m ((c : Thread nD τ).loc main_arg0))) (ent_at (a := 8192) (b := 1536) (m ((c : Thread nD τ).loc main_arg1)))).symm

end

section
open Cert.Reference9Ideal

variable (m : (ℓ : Loc nD τ sig) → Buf (Elt Ideal) ℓ) (ρ : Dev nD → PrngReg)

/-- The reference's run, its results as stages. -/
theorem run_stages : θ_run defs (onTc (τ := τ) (main (F := Ideal))) ⟨m, fun _ => 0, ρ⟩ fun r => ∀ c : Dev nD,
    r.2.mem ((c.tc : Thread nD τ).loc main_v5) = Read.val_main_v5 (F := Ideal) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨((h c).1).trans (Read.val_main_v5_eq _ _), (h c).2⟩)
    (Cert.Reference9Ideal.Value.run m ρ)

end

/-- The value claim. -/
theorem algebraic : Cert.algebraic_Kernel9Ideal_Reference9Ideal := by
  intro m ρ m' ρ' hp hag
  refine ⟨fun c => (Cert.Kernel9Ideal.Gen.dats m 0 c).arrAt 2 Cert.Kernel9Ideal.cfg0.N, Cert.Kernel9Ideal.Value.run_blocks m ρ, ?_⟩
  refine (θ_run _ _ _).mono (fun r h c => ?_) (run_stages m' ρ')
  obtain ⟨h0, hk⟩ := h c
  obtain ⟨a0, a1⟩ := hag c
  rw [a0, a1] at h0
  exact ⟨h0.trans (same_2 m c), hk⟩

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2,
      Idealize.ShloMosaic.sem_eq_zero_of_no_sems (by decide) r.2⟩)
    (run_stages m ρ)

theorem preserves : Cert.preserves_Kernel9_Kernel9Ideal := trivial

end Cert.AttnDw

end
-- ==== Proof.lean ====
/-
  The certificate: the gradient of the dilated windowed attention, group 0. Both kernels' frames and the reference's; the
  ideal kernel is the kernel with its mask's −1e30 named −∞; and, on finite arguments, the kernel's six gradients are the
  derivative of the forward lines (of the three wide arrays, the columns of group 0). Then the calls of SwiGLU, each with its
  frames and its value: the branches' gradients, the forward lines, the gradient of the branches' weights, the input's gradient, the
  sub-layer's last lines, the gradient of the output's weights; and the attention's projection with its gradient.
-/
module

public import proofs.«01_k».proof.Defs
public import proofs.«01_k».proof.Proof.Value
public import proofs.«01_k».proof.Proof.FfnValue
public import proofs.«01_k».proof.Proof.FfnInValue
public import proofs.«01_k».proof.Proof.FfnDwValue
public import proofs.«01_k».proof.Proof.FfnDxValue
public import proofs.«01_k».proof.Proof.FfnOutValue
public import proofs.«01_k».proof.Proof.FfnDoValue
public import proofs.«01_k».proof.Proof.AttnInValue
public import proofs.«01_k».proof.Proof.AttnDwValue
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.On_claimed
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Pre_finite2
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.Gen.facts, Cert.Pre_finite2.Gen.facts, Cert.On_claimed.Gen.facts,
    frame_kernel, frame_ideal, frame_ideal_pre, frame_reference, frame_reference_pre,
    Cert.Ffn.frame_kernel, Cert.Ffn.frame_ideal, Cert.Ffn.frame_ideal_pre, Cert.Ffn.frame_reference, Cert.Ffn.frame_reference_pre,
    Cert.FfnIn.frame_kernel, Cert.FfnIn.frame_ideal, Cert.FfnIn.frame_reference,
    Cert.FfnDw.frame_kernel, Cert.FfnDw.frame_ideal, Cert.FfnDw.frame_reference,
    Cert.FfnDx.frame_kernel, Cert.FfnDx.frame_ideal, Cert.FfnDx.frame_reference,
    Cert.FfnOut.frame_kernel, Cert.FfnOut.frame_ideal, Cert.FfnOut.frame_reference,
    Cert.FfnDo.frame_kernel, Cert.FfnDo.frame_ideal, Cert.FfnDo.frame_reference,
    Cert.AttnIn.frame_kernel, Cert.AttnIn.frame_ideal, Cert.AttnIn.frame_reference,
    Cert.AttnDw.frame_kernel, Cert.AttnDw.frame_ideal, Cert.AttnDw.frame_reference,
    preserves, algebraic, Cert.Ffn.preserves, Cert.Ffn.algebraic, Cert.FfnIn.preserves, Cert.FfnIn.algebraic,
    Cert.FfnDw.preserves, Cert.FfnDw.algebraic, Cert.FfnDx.preserves, Cert.FfnDx.algebraic,
    Cert.FfnOut.preserves, Cert.FfnOut.algebraic, Cert.FfnDo.preserves, Cert.FfnDo.algebraic,
    Cert.AttnIn.preserves, Cert.AttnIn.algebraic, Cert.AttnDw.preserves, Cert.AttnDw.algebraic⟩

end Cert.Proof

end
